-- ==== Defs.lean ====
def Pre_Kernel [hPre_lengths : Cert.Pre_lengths.Facts] (m : (ℓ : Loc Cert.Kernel.nD Cert.Kernel.τ Cert.Kernel.sig) → Buf (Elt Bits) ℓ) : Prop :=
  ∀ c : Dev Cert.Kernel.nD,
    (Cert.Pre_lengths.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_lengths : Cert.Pre_lengths.Facts] (m : (ℓ : Loc Cert.KernelIdeal.nD Cert.KernelIdeal.τ Cert.KernelIdeal.sig) → Buf (Elt Ideal) ℓ) : Prop :=
  ∀ c : Dev Cert.KernelIdeal.nD,
    (Cert.Pre_lengths.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_lengths : Cert.Pre_lengths.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_lengths.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_lengths : Cert.Pre_lengths.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_lengths : Cert.Pre_lengths.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_lengths : Cert.Pre_lengths.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_lengths : Cert.Pre_lengths.Facts),
    quiescent_Kernel (hKernel := hKernel) (hPre_lengths := hPre_lengths)
    ∧ quiescent_KernelIdeal (hKernelIdeal := hKernelIdeal) (hPre_lengths := hPre_lengths)
    ∧ quiescent_ReferenceIdeal (hReferenceIdeal := hReferenceIdeal) (hPre_lengths := hPre_lengths)
    ∧ preserves_Kernel_KernelIdeal
    ∧ algebraic_KernelIdeal_ReferenceIdeal (hKernelIdeal := hKernelIdeal) (hReferenceIdeal := hReferenceIdeal) (hPre_lengths := hPre_lengths)
-- ==== Pre_lengths.lean ====
abbrev S4096x384 : Shape := ⟨2, ![4096, 384]⟩
abbrev S4096 : Shape := ⟨1, ![4096]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel

variable [Facts]

def fn {F : FTy → Type} [FloatOps F] (main_arg0 : IVec S4096x384 32) (main_arg1 : IVec S4096x384 32) (main_arg2 : IVec S4096 32) (main_arg3 : IVec S4096 32) : IVec S_ 1 :=
  let main_c : IVec S_ 32 := constantI S_ 32 0#32
  let main_v0 : IVec S4096 32 := broadcastInDim S4096 ![] bcast_S_S4096 main_c
  let main_v1 : IVec S4096 1 := cmpi .sge main_arg2 main_v0
  let main_c_0 : IVec S_ 32 := constantI S_ 32 385#32
  let main_v2 : IVec S4096 32 := broadcastInDim S4096 ![] bcast_S_S4096 main_c_0
  let main_v3 : IVec S4096 1 := cmpi .slt main_arg2 main_v2
  let main_v4 : IVec S4096 1 := andi main_v1 main_v3
  let main_c_1 : IVec S_ 1 := constantI S_ 1 1#1
  let main_v5 : IVec S_ 1 := (fun x v => Host.reduce IntOp.andi x v reducesTo_S4096_S_d0 h_S_) main_v4 main_c_1
  let main_c_2 : IVec S_ 32 := constantI S_ 32 0#32
  let main_v6 : IVec S4096 32 := broadcastInDim S4096 ![] bcast_S_S4096 main_c_2
  let main_v7 : IVec S4096 1 := cmpi .sge main_arg3 main_v6
  let main_c_3 : IVec S_ 32 := constantI S_ 32 385#32
  let main_v8 : IVec S4096 32 := broadcastInDim S4096 ![] bcast_S_S4096 main_c_3
  let main_v9 : IVec S4096 1 := cmpi .slt main_arg3 main_v8
  let main_v10 : IVec S4096 1 := andi main_v7 main_v9
  let main_c_4 : IVec S_ 1 := constantI S_ 1 1#1
  let main_v11 : IVec S_ 1 := (fun x v => Host.reduce IntOp.andi x v reducesTo_S4096_S_d0 h_S_) main_v10 main_c_4
  let main_v12 : IVec S_ 1 := andi main_v5 main_v11
  main_v12
-- ==== Kernel.lean ====
abbrev S4096x384 : Shape := ⟨2, ![4096, 384]⟩
abbrev S4096 : Shape := ⟨1, ![4096]⟩
abbrev S3072x384 : Shape := ⟨2, ![3072, 384]⟩
abbrev S1179648 : Shape := ⟨1, ![1179648]⟩
abbrev S3072 : Shape := ⟨1, ![3072]⟩
abbrev S2097152 : Shape := ⟨1, ![2097152]⟩
abbrev S73744 : Shape := ⟨1, ![73744]⟩
abbrev S96 : Shape := ⟨1, ![96]⟩
abbrev S384 : Shape := ⟨1, ![384]⟩
abbrev S16384 : Shape := ⟨1, ![16384]⟩
abbrev S_ : Shape := ⟨0, ![]⟩
abbrev S6144 : Shape := ⟨1, ![6144]⟩
abbrev S16 : Shape := ⟨1, ![16]⟩
abbrev S8192 : Shape := ⟨1, ![8192]⟩
abbrev S4096x512 : Shape := ⟨2, ![4096, 512]⟩
abbrev S1024x384 : Shape := ⟨2, ![1024, 384]⟩
abbrev S1024 : Shape := ⟨1, ![1024]⟩
abbrev S1024x1 : Shape := ⟨2, ![1024, 1]⟩
abbrev S1024x512 : Shape := ⟨2, ![1024, 512]⟩
abbrev S256x384 : Shape := ⟨2, ![256, 384]⟩
abbrev S256x1 : Shape := ⟨2, ![256, 1]⟩
abbrev S256x512 : Shape := ⟨2, ![256, 512]⟩
abbrev S256x128 : Shape := ⟨2, ![256, 128]⟩

abbrev nBuf : Table → Nat
  | .hbm => 22
  | .local .tc .vmem => 10
  | .local .scVector .vmem => 5
  | _ => 0

abbrev bufTy : (tb : Table) → Fin (nBuf tb) → BufTy
  | .hbm, ⟨0, _⟩ => ⟨S4096x384, .i32⟩
  | .hbm, ⟨1, _⟩ => ⟨S4096x384, .i32⟩
  | .hbm, ⟨2, _⟩ => ⟨S4096, .i32⟩
  | .hbm, ⟨3, _⟩ => ⟨S4096, .i32⟩
  | .hbm, ⟨4, _⟩ => ⟨S3072x384, .i32⟩
  | .hbm, ⟨5, _⟩ => ⟨S1179648, .i32⟩
  | .hbm, ⟨6, _⟩ => ⟨S3072x384, .i32⟩
  | .hbm, ⟨7, _⟩ => ⟨S1179648, .i32⟩
  | .hbm, ⟨8, _⟩ => ⟨S3072, .i32⟩
  | .hbm, ⟨9, _⟩ => ⟨S3072, .i32⟩
  | .hbm, ⟨10, _⟩ => ⟨S2097152, .i32⟩
  | .hbm, ⟨11, _⟩ => ⟨S4096x512, .i32⟩
  | .hbm, ⟨12, _⟩ => ⟨S1024x384, .i32⟩
  | .hbm, ⟨13, _⟩ => ⟨S1024x384, .i32⟩
  | .hbm, ⟨14, _⟩ => ⟨S1024, .i32⟩
  | .hbm, ⟨15, _⟩ => ⟨S1024, .i32⟩
  | .hbm, ⟨16, _⟩ => ⟨S1024x1, .i32⟩
  | .hbm, ⟨17, _⟩ => ⟨S1024x1, .i32⟩
  | .hbm, ⟨18, _⟩ => ⟨S1024x512, .i32⟩
  | .hbm, ⟨19, _⟩ => ⟨S_, .i32⟩
  | .hbm, ⟨20, _⟩ => ⟨S_, .i32⟩
  | .hbm, ⟨21, _⟩ => ⟨S4096x512, .i32⟩
  | .local .tc .vmem, ⟨0, _⟩ => ⟨S256x384, .i32⟩
  | .local .tc .vmem, ⟨1, _⟩ => ⟨S256x384, .i32⟩
  | .local .tc .vmem, ⟨2, _⟩ => ⟨S256x384, .i32⟩
  | .local .tc .vmem, ⟨3, _⟩ => ⟨S256x384, .i32⟩
  | .local .tc .vmem, ⟨4, _⟩ => ⟨S256x1, .i32⟩
  | .local .tc .vmem, ⟨5, _⟩ => ⟨S256x1, .i32⟩
  | .local .tc .vmem, ⟨6, _⟩ => ⟨S256x1, .i32⟩
  | .local .tc .vmem, ⟨7, _⟩ => ⟨S256x1, .i32⟩
  | .local .tc .vmem, ⟨8, _⟩ => ⟨S256x512, .i32⟩
  | .local .tc .vmem, ⟨9, _⟩ => ⟨S256x512, .i32⟩
  | .local .scVector .vmem, ⟨0, _⟩ => ⟨S73744, .i32⟩
  | .local .scVector .vmem, ⟨1, _⟩ => ⟨S96, .i32⟩
  | .local .scVector .vmem, ⟨2, _⟩ => ⟨S96, .i32⟩
  | .local .scVector .vmem, ⟨3, _⟩ => ⟨S384, .i32⟩
  | .local .scVector .vmem, ⟨4, _⟩ => ⟨S16384, .i32⟩
  | _, _ => ⟨S4096x384, .i32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => false
  | ⟨4, _⟩ => false
  | ⟨5, _⟩ => false
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_c_0 : Ref sig .tc := ⟨.hbm, 20, rfl⟩
abbrev main_v15 : Ref sig .tc := ⟨.hbm, 21, rfl⟩
abbrev main_v1_scv : Ref sig .scVector := ⟨.hbm, 5, rfl⟩
abbrev main_v3_scv : Ref sig .scVector := ⟨.hbm, 7, rfl⟩
abbrev main_v4_scv : Ref sig .scVector := ⟨.hbm, 8, rfl⟩
abbrev main_v5_scv : Ref sig .scVector := ⟨.hbm, 9, rfl⟩
abbrev main_v6_scv : Ref sig .scVector := ⟨.hbm, 10, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let v3 : BitVec 32 := Scalar.addi v2 c0_i32
  let c384_i32 : BitVec 32 := 384#32
  let v4 : BitVec 32 := Scalar.muli v3 c384_i32
  ![v4.toNat]
def k0_off2 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  ![v2.toNat]
@[reducible] def k0_t1_loop : Scf.Loop 32 :=
  let c0_i32_17 : BitVec 32 := 0#32
  let c6_i32 : BitVec 32 := 6#32
  let v42 : BitVec 32 := Scalar.addi c0_i32_17 c6_i32
  let c1_i32_18 : BitVec 32 := 1#32
  ⟨c0_i32_17, v42, c1_i32_18⟩
def k0_off3 (k0_t1 : Fin k0_t1_loop.trips) : Fin 1 → Nat :=
  let c0_i32_17 : BitVec 32 := 0#32
  let c1_i32_18 : BitVec 32 := 1#32
  let arg16 : BitVec 32 := Scf.iv c0_i32_17 c1_i32_18 k0_t1
  let c16_i32_31 : BitVec 32 := 16#32
  let v61 : BitVec 32 := Scalar.muli arg16 c16_i32_31
  let v62 : Index := Scalar.indexCast v61
  ![v62.toNat]
def k0_off4 (k0_t1 : Fin k0_t1_loop.trips) : Fin 1 → Nat :=
  let c0_i32_17 : BitVec 32 := 0#32
  let c1_i32_18 : BitVec 32 := 1#32
  let arg16 : BitVec 32 := Scf.iv c0_i32_17 c1_i32_18 k0_t1
  let c16_i32_35 : BitVec 32 := 16#32
  let v77 : BitVec 32 := Scalar.muli arg16 c16_i32_35
  let v78 : Index := Scalar.indexCast v77
  ![v78.toNat]
def k0_off5 (k0_t1 : Fin k0_t1_loop.trips) (c96_i32_38 : BitVec 32) : Fin 1 → Nat :=
  let c0_i32_17 : BitVec 32 := 0#32
  let c1_i32_18 : BitVec 32 := 1#32
  let arg16 : BitVec 32 := Scf.iv c0_i32_17 c1_i32_18 k0_t1
  let c16_i32_37 : BitVec 32 := 16#32
  let v82 : BitVec 32 := Scalar.muli arg16 c16_i32_37
  let v83 : BitVec 32 := Scalar.addi c96_i32_38 v82
  let v84 : Index := Scalar.indexCast v83
  ![v84.toNat]
@[reducible] def k0_t2_loop : Scf.Loop 32 :=
  let c0_i32_24 : BitVec 32 := 0#32
  let c3_i32 : BitVec 32 := 3#32
  let v47 : BitVec 32 := Scalar.addi c0_i32_24 c3_i32
  let c1_i32_25 : BitVec 32 := 1#32
  ⟨c0_i32_24, v47, c1_i32_25⟩
def k0_off6 (k0_t2 : Fin k0_t2_loop.trips) (c16_i32_35 : BitVec 32) (c0_i32_32 : BitVec 32) : Fin 1 → Nat :=
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let v62 : BitVec 32 := Scalar.addi v61 c0_i32_32
  let c6144_i32 : BitVec 32 := 6144#32
  let v66 : BitVec 32 := Scalar.muli v62 c6144_i32
  let v67 : BitVec 32 := Scalar.addi c16_i32_35 v66
  ![v67.toNat]
def k0_off7 (i : grid0.Coords) (k0_t2 : Fin k0_t2_loop.trips) (c0_i32_32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let v62 : BitVec 32 := Scalar.addi v61 c0_i32_32
  let c16_i32_33 : BitVec 32 := 16#32
  let v63 : BitVec 32 := Scalar.muli v62 c16_i32_33
  let v64 : BitVec 32 := Scalar.addi v2 v63
  let c384_i32_34 : BitVec 32 := 384#32
  let v65 : BitVec 32 := Scalar.muli v64 c384_i32_34
  ![v65.toNat]
def k0_cond1 (k0_t2 : Fin k0_t2_loop.trips) : BitVec 1 :=
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let c0_i32_32 : BitVec 32 := 0#32
  let v62 : BitVec 32 := Scalar.addi v61 c0_i32_32
  let c2_i32_40 : BitVec 32 := 2#32
  let v81 : BitVec 32 := Scalar.addi v62 c2_i32_40
  let c6_i32_41 : BitVec 32 := 6#32
  let v82 : BitVec 1 := Scalar.cmpi .slt v81 c6_i32_41
  let v83 : BitVec 32 := Scalar.extui v82
  let c0_i32_42 : BitVec 32 := 0#32
  let v84 : BitVec 1 := Scalar.cmpi .ne v83 c0_i32_42
  v84

def k0_off8 (k0_t2 : Fin k0_t2_loop.trips) (c16_i32_83 : BitVec 32) : Fin 1 → Nat :=
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let c0_i32_32 : BitVec 32 := 0#32
  let v62 : BitVec 32 := Scalar.addi v61 c0_i32_32
  let c2_i32_79 : BitVec 32 := 2#32
  let v133 : BitVec 32 := Scalar.addi v62 c2_i32_79
  let c6144_i32_82 : BitVec 32 := 6144#32
  let v137 : BitVec 32 := Scalar.muli v133 c6144_i32_82
  let v138 : BitVec 32 := Scalar.addi c16_i32_83 v137
  ![v138.toNat]
def k0_off9 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let c0_i32_32 : BitVec 32 := 0#32
  let v62 : BitVec 32 := Scalar.addi v61 c0_i32_32
  let c2_i32_79 : BitVec 32 := 2#32
  let v133 : BitVec 32 := Scalar.addi v62 c2_i32_79
  let c16_i32_80 : BitVec 32 := 16#32
  let v134 : BitVec 32 := Scalar.muli v133 c16_i32_80
  let v135 : BitVec 32 := Scalar.addi v2 v134
  let c384_i32_81 : BitVec 32 := 384#32
  let v136 : BitVec 32 := Scalar.muli v135 c384_i32_81
  ![v136.toNat]
def k0_cond2 (k0_t2 : Fin k0_t2_loop.trips) : BitVec 1 :=
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let c0_i32_32 : BitVec 32 := 0#32
  let v62 : BitVec 32 := Scalar.addi v61 c0_i32_32
  let c2_i32_43 : BitVec 32 := 2#32
  let v85 : BitVec 1 := Scalar.cmpi .sge v62 c2_i32_43
  let v86 : BitVec 32 := Scalar.extui v85
  let c0_i32_44 : BitVec 32 := 0#32
  let v87 : BitVec 1 := Scalar.cmpi .ne v86 c0_i32_44
  v87

def k0_off10 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let c0_i32_32 : BitVec 32 := 0#32
  let v62 : BitVec 32 := Scalar.addi v61 c0_i32_32
  let c2_i32_79 : BitVec 32 := 2#32
  let v133 : BitVec 32 := Scalar.subi v62 c2_i32_79
  let c16_i32_80 : BitVec 32 := 16#32
  let v134 : BitVec 32 := Scalar.muli v133 c16_i32_80
  let v135 : BitVec 32 := Scalar.addi v2 v134
  let c512_i32_81 : BitVec 32 := 512#32
  let v136 : BitVec 32 := Scalar.muli v135 c512_i32_81
  ![v136.toNat]
@[reducible] def k0_t3_loop : Scf.Loop 32 :=
  let c0_i32_46 : BitVec 32 := 0#32
  let c16_i32_47 : BitVec 32 := 16#32
  let v88 : BitVec 32 := Scalar.addi c0_i32_46 c16_i32_47
  let c1_i32_48 : BitVec 32 := 1#32
  ⟨c0_i32_46, v88, c1_i32_48⟩

def k0_chk1 (v136 : IVec S16 32) : Prop :=
  (∀ a x, ((![v136] : Fin 1 → IVec S16 32) a x).toNat < S384.size a)
theorem k0_idx1_inb : ∀ (v136 : IVec S16 32) (k0_hw1 : k0_chk1 v136), ∀ a x, ((![v136] : Fin 1 → IVec S16 32) a x).toNat < S384.size a := fun v136 k0_hw1 => k0_hw1

def k0_chk2 (v139 : IVec S16 32) : Prop :=
  (∀ a x, ((![v139] : Fin 1 → IVec S16 32) a x).toNat < S384.size a)
theorem k0_idx2_inb : ∀ (v139 : IVec S16 32) (k0_hw2 : k0_chk2 v139), ∀ a x, ((![v139] : Fin 1 → IVec S16 32) a x).toNat < S384.size a := fun v139 k0_hw2 => k0_hw2

def k0_chk3 (v142 : IVec S16 32) : Prop :=
  (∀ a x, ((![v142] : Fin 1 → IVec S16 32) a x).toNat < S384.size a)
theorem k0_idx3_inb : ∀ (v142 : IVec S16 32) (k0_hw3 : k0_chk3 v142), ∀ a x, ((![v142] : Fin 1 → IVec S16 32) a x).toNat < S384.size a := fun v142 k0_hw3 => k0_hw3

def k0_chk4 (v145 : IVec S16 32) : Prop :=
  (∀ a x, ((![v145] : Fin 1 → IVec S16 32) a x).toNat < S384.size a)
theorem k0_idx4_inb : ∀ (v145 : IVec S16 32) (k0_hw4 : k0_chk4 v145), ∀ a x, ((![v145] : Fin 1 → IVec S16 32) a x).toNat < S384.size a := fun v145 k0_hw4 => k0_hw4

def k0_chk5 (v165 : IVec S16 32) : Prop :=
  (∀ a x, ((![v165] : Fin 1 → IVec S16 32) a x).toNat < S73744.size a)
theorem k0_idx5_inb : ∀ (v165 : IVec S16 32) (k0_hw5 : k0_chk5 v165), ∀ a x, ((![v165] : Fin 1 → IVec S16 32) a x).toNat < S73744.size a := fun v165 k0_hw5 => k0_hw5
def k0_off11 (k0_t3 : Fin k0_t3_loop.trips) : Fin 1 → Nat :=
  let c0_i32_79 : BitVec 32 := 0#32
  let c0_i32_46 : BitVec 32 := 0#32
  let c1_i32_48 : BitVec 32 := 1#32
  let arg18 : BitVec 32 := Scf.iv c0_i32_46 c1_i32_48 k0_t3
  let v133 : BitVec 32 := Scalar.addi c0_i32_79 arg18
  let c512_i32_87 : BitVec 32 := 512#32
  let v167 : BitVec 32 := Scalar.muli v133 c512_i32_87
  let v168 : Index := Scalar.indexCast v167
  ![v168.toNat]
@[reducible] def k0_t4_loop : Scf.Loop 32 :=
  let c1_i32_90 : BitVec 32 := 1#32
  let c31_i32 : BitVec 32 := 31#32
  let v174 : BitVec 32 := Scalar.addi c1_i32_90 c31_i32
  let c1_i32_91 : BitVec 32 := 1#32
  ⟨c1_i32_90, v174, c1_i32_91⟩

def k0_chk6 (v184 : IVec S16 32) : Prop :=
  (∀ a x, ((![v184] : Fin 1 → IVec S16 32) a x).toNat < S73744.size a)
theorem k0_idx6_inb : ∀ (v184 : IVec S16 32) (k0_hw6 : k0_chk6 v184), ∀ a x, ((![v184] : Fin 1 → IVec S16 32) a x).toNat < S73744.size a := fun v184 k0_hw6 => k0_hw6
def k0_off12 (k0_t3 : Fin k0_t3_loop.trips) (k0_t4 : Fin k0_t4_loop.trips) : Fin 1 → Nat :=
  let c0_i32_79 : BitVec 32 := 0#32
  let c0_i32_46 : BitVec 32 := 0#32
  let c1_i32_48 : BitVec 32 := 1#32
  let arg18 : BitVec 32 := Scf.iv c0_i32_46 c1_i32_48 k0_t3
  let v133 : BitVec 32 := Scalar.addi c0_i32_79 arg18
  let c512_i32_94 : BitVec 32 := 512#32
  let v186 : BitVec 32 := Scalar.muli v133 c512_i32_94
  let c1_i32_90 : BitVec 32 := 1#32
  let c1_i32_91 : BitVec 32 := 1#32
  let arg20 : BitVec 32 := Scf.iv c1_i32_90 c1_i32_91 k0_t4
  let c16_i32_95 : BitVec 32 := 16#32
  let v187 : BitVec 32 := Scalar.muli arg20 c16_i32_95
  let v188 : BitVec 32 := Scalar.addi v186 v187
  let v189 : Index := Scalar.indexCast v188
  ![v189.toNat]
def k0_off13 (i : grid0.Coords) (k0_t2 : Fin k0_t2_loop.trips) (c0_i32_32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_24 : BitVec 32 := 0#32
  let c1_i32_25 : BitVec 32 := 1#32
  let arg16 : BitVec 32 := Scf.iv c0_i32_24 c1_i32_25 k0_t2
  let c2_i32_31 : BitVec 32 := 2#32
  let v61 : BitVec 32 := Scalar.muli arg16 c2_i32_31
  let v62 : BitVec 32 := Scalar.addi v61 c0_i32_32
  let c16_i32_50 : BitVec 32 := 16#32
  let v90 : BitVec 32 := Scalar.muli v62 c16_i32_50
  let v91 : BitVec 32 := Scalar.addi v2 v90
  let c512_i32_51 : BitVec 32 := 512#32
  let v92 : BitVec 32 := Scalar.muli v91 c512_i32_51
  ![v92.toNat]
def k0_cond3 (k0_t2 : Fin k0_t2_loop.trips) : BitVec 1 :=
  let c0_i32_24 : BitVec 32 := 0#32
  let c1_i32_25 : BitVec 32 := 1#32
  let arg16 : BitVec 32 := Scf.iv c0_i32_24 c1_i32_25 k0_t2
  let c2_i32_54 : BitVec 32 := 2#32
  let v97 : BitVec 32 := Scalar.muli arg16 c2_i32_54
  let c1_i32_55 : BitVec 32 := 1#32
  let v98 : BitVec 32 := Scalar.addi v97 c1_i32_55
  let c2_i32_64 : BitVec 32 := 2#32
  let v117 : BitVec 32 := Scalar.addi v98 c2_i32_64
  let c6_i32_65 : BitVec 32 := 6#32
  let v118 : BitVec 1 := Scalar.cmpi .slt v117 c6_i32_65
  let v119 : BitVec 32 := Scalar.extui v118
  let c0_i32_66 : BitVec 32 := 0#32
  let v120 : BitVec 1 := Scalar.cmpi .ne v119 c0_i32_66
  v120

def k0_off14 (k0_t2 : Fin k0_t2_loop.trips) (c16_i32_83 : BitVec 32) : Fin 1 → Nat :=
  let c0_i32_24 : BitVec 32 := 0#32
  let c1_i32_25 : BitVec 32 := 1#32
  let arg16 : BitVec 32 := Scf.iv c0_i32_24 c1_i32_25 k0_t2
  let c2_i32_54 : BitVec 32 := 2#32
  let v97 : BitVec 32 := Scalar.muli arg16 c2_i32_54
  let c1_i32_55 : BitVec 32 := 1#32
  let v98 : BitVec 32 := Scalar.addi v97 c1_i32_55
  let c2_i32_79 : BitVec 32 := 2#32
  let v133 : BitVec 32 := Scalar.addi v98 c2_i32_79
  let c6144_i32_82 : BitVec 32 := 6144#32
  let v137 : BitVec 32 := Scalar.muli v133 c6144_i32_82
  let v138 : BitVec 32 := Scalar.addi c16_i32_83 v137
  ![v138.toNat]
def k0_off15 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_24 : BitVec 32 := 0#32
  let c1_i32_25 : BitVec 32 := 1#32
  let arg16 : BitVec 32 := Scf.iv c0_i32_24 c1_i32_25 k0_t2
  let c2_i32_54 : BitVec 32 := 2#32
  let v97 : BitVec 32 := Scalar.muli arg16 c2_i32_54
  let c1_i32_55 : BitVec 32 := 1#32
  let v98 : BitVec 32 := Scalar.addi v97 c1_i32_55
  let c2_i32_79 : BitVec 32 := 2#32
  let v133 : BitVec 32 := Scalar.addi v98 c2_i32_79
  let c16_i32_80 : BitVec 32 := 16#32
  let v134 : BitVec 32 := Scalar.muli v133 c16_i32_80
  let v135 : BitVec 32 := Scalar.addi v2 v134
  let c384_i32_81 : BitVec 32 := 384#32
  let v136 : BitVec 32 := Scalar.muli v135 c384_i32_81
  ![v136.toNat]
def k0_cond4 (k0_t2 : Fin k0_t2_loop.trips) : BitVec 1 :=
  let c0_i32_24 : BitVec 32 := 0#32
  let c1_i32_25 : BitVec 32 := 1#32
  let arg16 : BitVec 32 := Scf.iv c0_i32_24 c1_i32_25 k0_t2
  let c2_i32_54 : BitVec 32 := 2#32
  let v97 : BitVec 32 := Scalar.muli arg16 c2_i32_54
  let c1_i32_55 : BitVec 32 := 1#32
  let v98 : BitVec 32 := Scalar.addi v97 c1_i32_55
  let c2_i32_67 : BitVec 32 := 2#32
  let v121 : BitVec 1 := Scalar.cmpi .sge v98 c2_i32_67
  let v122 : BitVec 32 := Scalar.extui v121
  let c0_i32_68 : BitVec 32 := 0#32
  let v123 : BitVec 1 := Scalar.cmpi .ne v122 c0_i32_68
  v123

def k0_off16 (i : grid0.Coords) (k0_t2 : Fin k0_t2_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let c0_i32_24 : BitVec 32 := 0#32
  let c1_i32_25 : BitVec 32 := 1#32
  let arg16 : BitVec 32 := Scf.iv c0_i32_24 c1_i32_25 k0_t2
  let c2_i32_54 : BitVec 32 := 2#32
  let v97 : BitVec 32 := Scalar.muli arg16 c2_i32_54
  let c1_i32_55 : BitVec 32 := 1#32
  let v98 : BitVec 32 := Scalar.addi v97 c1_i32_55
  let c2_i32_79 : BitVec 32 := 2#32
  let v133 : BitVec 32 := Scalar.subi v98 c2_i32_79
  let c16_i32_80 : BitVec 32 := 16#32
  let v134 : BitVec 32 := Scalar.muli v133 c16_i32_80
  let v135 : BitVec 32 := Scalar.addi v2 v134
  let c512_i32_81 : BitVec 32 := 512#32
  let v136 : BitVec 32 := Scalar.muli v135 c512_i32_81
  ![v136.toNat]
@[reducible] def k0_t5_loop : Scf.Loop 32 :=
  let c0_i32_70 : BitVec 32 := 0#32
  let c16_i32_71 : BitVec 32 := 16#32
  let v124 : BitVec 32 := Scalar.addi c0_i32_70 c16_i32_71
  let c1_i32_72 : BitVec 32 := 1#32
  ⟨c0_i32_70, v124, c1_i32_72⟩

def k0_chk7 (v136 : IVec S16 32) : Prop :=
  (∀ a x, ((![v136] : Fin 1 → IVec S16 32) a x).toNat < S384.size a)
theorem k0_idx7_inb : ∀ (v136 : IVec S16 32) (k0_hw7 : k0_chk7 v136), ∀ a x, ((![v136] : Fin 1 → IVec S16 32) a x).toNat < S384.size a := fun v136 k0_hw7 => k0_hw7

def k0_chk8 (v139 : IVec S16 32) : Prop :=
  (∀ a x, ((![v139] : Fin 1 → IVec S16 32) a x).toNat < S384.size a)
theorem k0_idx8_inb : ∀ (v139 : IVec S16 32) (k0_hw8 : k0_chk8 v139), ∀ a x, ((![v139] : Fin 1 → IVec S16 32) a x).toNat < S384.size a := fun v139 k0_hw8 => k0_hw8

def k0_chk9 (v142 : IVec S16 32) : Prop :=
  (∀ a x, ((![v142] : Fin 1 → IVec S16 32) a x).toNat < S384.size a)
theorem k0_idx9_inb : ∀ (v142 : IVec S16 32) (k0_hw9 : k0_chk9 v142), ∀ a x, ((![v142] : Fin 1 → IVec S16 32) a x).toNat < S384.size a := fun v142 k0_hw9 => k0_hw9

def k0_chk10 (v145 : IVec S16 32) : Prop :=
  (∀ a x, ((![v145] : Fin 1 → IVec S16 32) a x).toNat < S384.size a)
theorem k0_idx10_inb : ∀ (v145 : IVec S16 32) (k0_hw10 : k0_chk10 v145), ∀ a x, ((![v145] : Fin 1 → IVec S16 32) a x).toNat < S384.size a := fun v145 k0_hw10 => k0_hw10

def k0_chk11 (v165 : IVec S16 32) : Prop :=
  (∀ a x, ((![v165] : Fin 1 → IVec S16 32) a x).toNat < S73744.size a)
theorem k0_idx11_inb : ∀ (v165 : IVec S16 32) (k0_hw11 : k0_chk11 v165), ∀ a x, ((![v165] : Fin 1 → IVec S16 32) a x).toNat < S73744.size a := fun v165 k0_hw11 => k0_hw11
def k0_off17 (k0_t5 : Fin k0_t5_loop.trips) : Fin 1 → Nat :=
  let c16_i32_79 : BitVec 32 := 16#32
  let c0_i32_70 : BitVec 32 := 0#32
  let c1_i32_72 : BitVec 32 := 1#32
  let arg18 : BitVec 32 := Scf.iv c0_i32_70 c1_i32_72 k0_t5
  let v133 : BitVec 32 := Scalar.addi c16_i32_79 arg18
  let c512_i32_87 : BitVec 32 := 512#32
  let v167 : BitVec 32 := Scalar.muli v133 c512_i32_87
  let v168 : Index := Scalar.indexCast v167
  ![v168.toNat]
@[reducible] def k0_t6_loop : Scf.Loop 32 :=
  let c1_i32_90 : BitVec 32 := 1#32
  let c31_i32 : BitVec 32 := 31#32
  let v174 : BitVec 32 := Scalar.addi c1_i32_90 c31_i32
  let c1_i32_91 : BitVec 32 := 1#32
  ⟨c1_i32_90, v174, c1_i32_91⟩

def k0_chk12 (v184 : IVec S16 32) : Prop :=
  (∀ a x, ((![v184] : Fin 1 → IVec S16 32) a x).toNat < S73744.size a)
theorem k0_idx12_inb : ∀ (v184 : IVec S16 32) (k0_hw12 : k0_chk12 v184), ∀ a x, ((![v184] : Fin 1 → IVec S16 32) a x).toNat < S73744.size a := fun v184 k0_hw12 => k0_hw12
def k0_off18 (k0_t5 : Fin k0_t5_loop.trips) (k0_t6 : Fin k0_t6_loop.trips) : Fin 1 → Nat :=
  let c16_i32_79 : BitVec 32 := 16#32
  let c0_i32_70 : BitVec 32 := 0#32
  let c1_i32_72 : BitVec 32 := 1#32
  let arg18 : BitVec 32 := Scf.iv c0_i32_70 c1_i32_72 k0_t5
  let v133 : BitVec 32 := Scalar.addi c16_i32_79 arg18
  let c512_i32_94 : BitVec 32 := 512#32
  let v186 : BitVec 32 := Scalar.muli v133 c512_i32_94
  let c1_i32_90 : BitVec 32 := 1#32
  let c1_i32_91 : BitVec 32 := 1#32
  let arg20 : BitVec 32 := Scf.iv c1_i32_90 c1_i32_91 k0_t6
  let c16_i32_95 : BitVec 32 := 16#32
  let v187 : BitVec 32 := Scalar.muli arg20 c16_i32_95
  let v188 : BitVec 32 := Scalar.addi v186 v187
  let v189 : Index := Scalar.indexCast v188
  ![v189.toNat]
def k0_off19 (i : grid0.Coords) (c64_i32 : BitVec 32) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c96_i32 : BitVec 32 := 96#32
  let v2 : BitVec 32 := Scalar.muli v1 c96_i32
  let v49 : BitVec 32 := Scalar.addi v2 c64_i32
  let c512_i32 : BitVec 32 := 512#32
  let v50 : BitVec 32 := Scalar.muli v49 c512_i32
  ![v50.toNat]
abbrev grid1 : Pipeline.Grid := ⟨1, ![4], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x384 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S256x384 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S256x1 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x512 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4096x384 : Shape := ⟨2, ![4096, 384]⟩
abbrev S4096 : Shape := ⟨1, ![4096]⟩
abbrev S_ : Shape := ⟨0, ![]⟩
abbrev S4096x1 : Shape := ⟨2, ![4096, 1]⟩
abbrev S512 : Shape := ⟨1, ![512]⟩
abbrev S1x512 : Shape := ⟨2, ![1, 512]⟩
abbrev S4096x512 : Shape := ⟨2, ![4096, 512]⟩
abbrev S4096x512x1 : Shape := ⟨3, ![4096, 512, 1]⟩
abbrev S1 : Shape := ⟨1, ![1]⟩
abbrev S1x1x1 : Shape := ⟨3, ![1, 1, 1]⟩

abbrev nBuf : Space → Nat
  | .hbm => 151
  | .vmem => 0
  | .smem => 0
  | _ => 0

abbrev hbmTy0_0 (i : Nat) : BufTy := match i % 128 with
  | 0 => ⟨S4096x384, .i32⟩
  | 1 => ⟨S4096x384, .i32⟩
  | 2 => ⟨S4096, .i32⟩
  | 3 => ⟨S4096, .i32⟩
  | 4 => ⟨S_, .i32⟩
  | 5 => ⟨S4096, .i32⟩
  | 6 => ⟨S4096, .i32⟩
  | 7 => ⟨S_, .i32⟩
  | 8 => ⟨S4096, .i32⟩
  | 9 => ⟨S4096, .i32⟩
  | 10 => ⟨S4096, .i32⟩
  | 11 => ⟨S_, .i32⟩
  | 12 => ⟨S4096, .i32⟩
  | 13 => ⟨S4096, .i32⟩
  | 14 => ⟨S_, .i32⟩
  | 15 => ⟨S4096, .i32⟩
  | 16 => ⟨S4096, .i32⟩
  | 17 => ⟨S4096, .i32⟩
  | 18 => ⟨S4096x1, .i32⟩
  | 19 => ⟨S4096x1, .i32⟩
  | 20 => ⟨S512, .i32⟩
  | 21 => ⟨S1x512, .i32⟩
  | 22 => ⟨S_, .i32⟩
  | 23 => ⟨S1x512, .i32⟩
  | 24 => ⟨S1x512, .i32⟩
  | 25 => ⟨S_, .i32⟩
  | 26 => ⟨S_, .i32⟩
  | 27 => ⟨S_, .i32⟩
  | 28 => ⟨S1x512, .i32⟩
  | 29 => ⟨S1x512, .i32⟩
  | 30 => ⟨S_, .i32⟩
  | 31 => ⟨S1x512, .i32⟩
  | 32 => ⟨S1x512, .i32⟩
  | 33 => ⟨S4096x512, .i32⟩
  | 34 => ⟨S_, .i32⟩
  | 35 => ⟨S4096x512, .i32⟩
  | 36 => ⟨S4096x512, .i1⟩
  | 37 => ⟨S_, .i32⟩
  | 38 => ⟨S4096x512, .i32⟩
  | 39 => ⟨S4096x512, .i32⟩
  | 40 => ⟨S4096x512, .i32⟩
  | 41 => ⟨S4096x512x1, .i32⟩
  | 42 => ⟨S1, .i32⟩
  | 43 => ⟨S_, .i32⟩
  | 44 => ⟨S4096x512x1, .i32⟩
  | 45 => ⟨S4096x512x1, .i1⟩
  | 46 => ⟨S1x1x1, .i32⟩
  | 47 => ⟨S4096x512x1, .i32⟩
  | 48 => ⟨S4096x512x1, .i1⟩
  | 49 => ⟨S4096x512x1, .i1⟩
  | 50 => ⟨S_, .i1⟩
  | 51 => ⟨S4096x512, .i1⟩
  | 52 => ⟨S4096x512, .i32⟩
  | 53 => ⟨S_, .i32⟩
  | 54 => ⟨S4096x512, .i32⟩
  | 55 => ⟨S4096x512, .i32⟩
  | 56 => ⟨S_, .i32⟩
  | 57 => ⟨S4096x1, .i32⟩
  | 58 => ⟨S4096x1, .i32⟩
  | 59 => ⟨S4096x512, .i32⟩
  | 60 => ⟨S4096x512, .i32⟩
  | 61 => ⟨S4096x512, .i32⟩
  | 62 => ⟨S_, .i32⟩
  | 63 => ⟨S_, .i32⟩
  | 64 => ⟨S_, .i32⟩
  | 65 => ⟨S4096x512, .i32⟩
  | 66 => ⟨S4096x512, .i32⟩
  | 67 => ⟨S_, .i32⟩
  | 68 => ⟨S4096x512, .i32⟩
  | 69 => ⟨S4096x512, .i32⟩
  | 70 => ⟨S_, .i32⟩
  | 71 => ⟨S4096x512, .i32⟩
  | 72 => ⟨S4096x512, .i1⟩
  | 73 => ⟨S_, .i32⟩
  | 74 => ⟨S4096x512, .i32⟩
  | 75 => ⟨S4096x512, .i32⟩
  | 76 => ⟨S4096x512, .i32⟩
  | 77 => ⟨S4096x512x1, .i32⟩
  | 78 => ⟨S1, .i32⟩
  | 79 => ⟨S_, .i32⟩
  | 80 => ⟨S4096x512x1, .i32⟩
  | 81 => ⟨S4096x512x1, .i1⟩
  | 82 => ⟨S1x1x1, .i32⟩
  | 83 => ⟨S4096x512x1, .i32⟩
  | 84 => ⟨S4096x512x1, .i1⟩
  | 85 => ⟨S4096x512x1, .i1⟩
  | 86 => ⟨S_, .i1⟩
  | 87 => ⟨S4096x512, .i1⟩
  | 88 => ⟨S4096x512, .i32⟩
  | 89 => ⟨S_, .i32⟩
  | 90 => ⟨S4096x512, .i32⟩
  | 91 => ⟨S4096x512, .i32⟩
  | 92 => ⟨S_, .i32⟩
  | 93 => ⟨S4096x512, .i32⟩
  | 94 => ⟨S_, .i32⟩
  | 95 => ⟨S4096x1, .i32⟩
  | 96 => ⟨S4096x1, .i32⟩
  | 97 => ⟨S4096x1, .i32⟩
  | 98 => ⟨S4096x512, .i32⟩
  | 99 => ⟨S4096x512, .i32⟩
  | 100 => ⟨S4096x512, .i1⟩
  | 101 => ⟨S_, .i32⟩
  | 102 => ⟨S4096x512, .i32⟩
  | 103 => ⟨S4096x512, .i32⟩
  | 104 => ⟨S_, .i32⟩
  | 105 => ⟨S4096x1, .i32⟩
  | 106 => ⟨S4096x1, .i32⟩
  | 107 => ⟨S4096x512, .i32⟩
  | 108 => ⟨S4096x512, .i32⟩
  | 109 => ⟨S4096x512, .i1⟩
  | 110 => ⟨S_, .i32⟩
  | 111 => ⟨S4096x1, .i32⟩
  | 112 => ⟨S4096x1, .i32⟩
  | 113 => ⟨S4096x1, .i32⟩
  | 114 => ⟨S4096x512, .i32⟩
  | 115 => ⟨S4096x512, .i32⟩
  | 116 => ⟨S4096x512, .i1⟩
  | 117 => ⟨S4096x512, .i1⟩
  | 118 => ⟨S4096x512, .i32⟩
  | 119 => ⟨S_, .i32⟩
  | 120 => ⟨S4096x1, .i32⟩
  | 121 => ⟨S4096x1, .i32⟩
  | 122 => ⟨S4096x512, .i32⟩
  | 123 => ⟨S4096x512, .i32⟩
  | 124 => ⟨S4096x512, .i1⟩
  | 125 => ⟨S_, .i32⟩
  | 126 => ⟨S4096x1, .i32⟩
  | 127 => ⟨S4096x1, .i32⟩
  | _ => ⟨S4096x384, .i32⟩

abbrev hbmTy0_1 (i : Nat) : BufTy := match i % 128 with
  | 0 => ⟨S4096x512, .i32⟩
  | 1 => ⟨S4096x512, .i32⟩
  | 2 => ⟨S4096x512, .i1⟩
  | 3 => ⟨S4096x512, .i1⟩
  | 4 => ⟨S_, .i32⟩
  | 5 => ⟨S4096x512, .i32⟩
  | 6 => ⟨S4096x512, .i32⟩
  | 7 => ⟨S_, .i32⟩
  | 8 => ⟨S1x512, .i32⟩
  | 9 => ⟨S1x512, .i1⟩
  | 10 => ⟨S4096x512, .i32⟩
  | 11 => ⟨S4096x512, .i32⟩
  | 12 => ⟨S4096x512, .i1⟩
  | 13 => ⟨S4096x512, .i1⟩
  | 14 => ⟨S4096x512, .i1⟩
  | 15 => ⟨S4096x512, .i32⟩
  | 16 => ⟨S_, .i32⟩
  | 17 => ⟨S1x512, .i32⟩
  | 18 => ⟨S1x512, .i1⟩
  | 19 => ⟨S_, .i32⟩
  | 20 => ⟨S4096x512, .i1⟩
  | 21 => ⟨S4096x512, .i32⟩
  | 22 => ⟨S4096x512, .i32⟩
  | _ => ⟨S4096x384, .i32⟩

abbrev hbmTy (i : Nat) : BufTy := match i / 128 with
  | 0 => hbmTy0_0 i
  | 1 => hbmTy0_1 i
  | _ => ⟨S4096x384, .i32⟩

abbrev bufTy : (tb : Table) → Fin (tcTables nBuf tb) → BufTy
  | .hbm, ⟨i, _⟩ => hbmTy i
  | _, _ => ⟨S4096x384, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_v0 : Ref sig .tc := ⟨.hbm, 5, rfl⟩
abbrev main_v1 : Ref sig .tc := ⟨.hbm, 6, rfl⟩
abbrev main_c_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_c_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_c_3 : Ref sig .tc := ⟨.hbm, 22, rfl⟩
abbrev main_v14 : Ref sig .tc := ⟨.hbm, 23, rfl⟩
abbrev main_v15 : Ref sig .tc := ⟨.hbm, 24, rfl⟩
abbrev main_c_4 : Ref sig .tc := ⟨.hbm, 25, rfl⟩
abbrev main_c_5 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v16 : Ref sig .tc := ⟨.hbm, 32, rfl⟩
abbrev main_v17 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_c_4 : Ref sig .tc := ⟨.hbm, 53, rfl⟩
abbrev main_call1_v14 : Ref sig .tc := ⟨.hbm, 54, rfl⟩
abbrev main_v18 : Ref sig .tc := ⟨.hbm, 55, rfl⟩
abbrev main_c_6 : Ref sig .tc := ⟨.hbm, 56, rfl⟩
abbrev main_v19 : Ref sig .tc := ⟨.hbm, 57, rfl⟩
abbrev main_v20 : Ref sig .tc := ⟨.hbm, 58, rfl⟩
abbrev main_v21 : Ref sig .tc := ⟨.hbm, 59, rfl⟩
abbrev main_v22 : Ref sig .tc := ⟨.hbm, 60, rfl⟩
abbrev main_v23 : Ref sig .tc := ⟨.hbm, 61, rfl⟩
abbrev main_c_7 : Ref sig .tc := ⟨.hbm, 62, rfl⟩
abbrev main_c_8 : Ref sig .tc := ⟨.hbm, 63, rfl⟩
abbrev main_call2_v0 : Ref sig .tc := ⟨.hbm, 64, rfl⟩
abbrev main_call2_v1 : Ref sig .tc := ⟨.hbm, 65, rfl⟩
abbrev main_call2_v2 : Ref sig .tc := ⟨.hbm, 66, rfl⟩
abbrev main_call2_v3 : Ref sig .tc := ⟨.hbm, 67, rfl⟩
abbrev main_call2_v4 : Ref sig .tc := ⟨.hbm, 68, rfl⟩
abbrev main_v24 : Ref sig .tc := ⟨.hbm, 69, rfl⟩
abbrev main_call3_c : Ref sig .tc := ⟨.hbm, 70, rfl⟩
abbrev main_call3_v0 : Ref sig .tc := ⟨.hbm, 71, rfl⟩
abbrev main_call3_v1 : Ref sig .tc := ⟨.hbm, 72, rfl⟩
abbrev main_call3_c_0 : Ref sig .tc := ⟨.hbm, 73, rfl⟩
abbrev main_call3_v2 : Ref sig .tc := ⟨.hbm, 74, rfl⟩
abbrev main_call3_v3 : Ref sig .tc := ⟨.hbm, 75, rfl⟩
abbrev main_call3_v4 : Ref sig .tc := ⟨.hbm, 76, rfl⟩
abbrev main_call3_v5 : Ref sig .tc := ⟨.hbm, 77, rfl⟩
abbrev main_call3_c_1 : Ref sig .tc := ⟨.hbm, 78, rfl⟩
abbrev main_call3_c_2 : Ref sig .tc := ⟨.hbm, 79, rfl⟩
abbrev main_call3_v6 : Ref sig .tc := ⟨.hbm, 80, rfl⟩
abbrev main_call3_v7 : Ref sig .tc := ⟨.hbm, 81, rfl⟩
abbrev main_call3_v8 : Ref sig .tc := ⟨.hbm, 82, rfl⟩
abbrev main_call3_v9 : Ref sig .tc := ⟨.hbm, 83, rfl⟩
abbrev main_call3_v10 : Ref sig .tc := ⟨.hbm, 84, rfl⟩
abbrev main_call3_v11 : Ref sig .tc := ⟨.hbm, 85, rfl⟩
abbrev main_call3_c_3 : Ref sig .tc := ⟨.hbm, 86, rfl⟩
abbrev main_call3_v12 : Ref sig .tc := ⟨.hbm, 87, rfl⟩
abbrev main_call3_v13 : Ref sig .tc := ⟨.hbm, 88, rfl⟩
abbrev main_call3_c_4 : Ref sig .tc := ⟨.hbm, 89, rfl⟩
abbrev main_call3_v14 : Ref sig .tc := ⟨.hbm, 90, rfl⟩
abbrev main_v25 : Ref sig .tc := ⟨.hbm, 91, rfl⟩
abbrev main_c_9 : Ref sig .tc := ⟨.hbm, 92, rfl⟩
abbrev main_v26 : Ref sig .tc := ⟨.hbm, 93, rfl⟩
abbrev main_c_10 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_v32 : Ref sig .tc := ⟨.hbm, 100, rfl⟩
abbrev main_c_11 : Ref sig .tc := ⟨.hbm, 101, rfl⟩
abbrev main_call4_v0 : Ref sig .tc := ⟨.hbm, 102, rfl⟩
abbrev main_v33 : Ref sig .tc := ⟨.hbm, 103, rfl⟩
abbrev main_c_12 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_v38 : Ref sig .tc := ⟨.hbm, 109, rfl⟩
abbrev main_c_13 : Ref sig .tc := ⟨.hbm, 110, rfl⟩
abbrev main_v39 : Ref sig .tc := ⟨.hbm, 111, rfl⟩
abbrev main_v40 : Ref sig .tc := ⟨.hbm, 112, rfl⟩
abbrev main_v41 : Ref sig .tc := ⟨.hbm, 113, rfl⟩
abbrev main_v42 : Ref sig .tc := ⟨.hbm, 114, rfl⟩
abbrev main_v43 : Ref sig .tc := ⟨.hbm, 115, rfl⟩
abbrev main_v44 : Ref sig .tc := ⟨.hbm, 116, rfl⟩
abbrev main_v45 : Ref sig .tc := ⟨.hbm, 117, rfl⟩
abbrev main_v46 : Ref sig .tc := ⟨.hbm, 118, rfl⟩
abbrev main_c_14 : Ref sig .tc := ⟨.hbm, 119, rfl⟩
abbrev main_v47 : Ref sig .tc := ⟨.hbm, 120, rfl⟩
abbrev main_v48 : Ref sig .tc := ⟨.hbm, 121, rfl⟩
abbrev main_v49 : Ref sig .tc := ⟨.hbm, 122, rfl⟩
abbrev main_v50 : Ref sig .tc := ⟨.hbm, 123, rfl⟩
abbrev main_v51 : Ref sig .tc := ⟨.hbm, 124, rfl⟩
abbrev main_c_15 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_c_16 : Ref sig .tc := ⟨.hbm, 132, rfl⟩
abbrev main_call6_v0 : Ref sig .tc := ⟨.hbm, 133, rfl⟩
abbrev main_v58 : Ref sig .tc := ⟨.hbm, 134, rfl⟩
abbrev main_c_17 : Ref sig .tc := ⟨.hbm, 135, rfl⟩
abbrev main_v59 : Ref sig .tc := ⟨.hbm, 136, rfl⟩
abbrev main_v60 : Ref sig .tc := ⟨.hbm, 137, rfl⟩
abbrev main_v61 : Ref sig .tc := ⟨.hbm, 138, rfl⟩
abbrev main_v62 : Ref sig .tc := ⟨.hbm, 139, rfl⟩
abbrev main_v63 : Ref sig .tc := ⟨.hbm, 140, rfl⟩
abbrev main_v64 : Ref sig .tc := ⟨.hbm, 141, rfl⟩
abbrev main_v65 : Ref sig .tc := ⟨.hbm, 142, rfl⟩
abbrev main_v66 : Ref sig .tc := ⟨.hbm, 143, rfl⟩
abbrev main_c_18 : Ref sig .tc := ⟨.hbm, 144, rfl⟩
abbrev main_v67 : Ref sig .tc := ⟨.hbm, 145, rfl⟩
abbrev main_v68 : Ref sig .tc := ⟨.hbm, 146, rfl⟩
abbrev main_c_19 : Ref sig .tc := ⟨.hbm, 147, rfl⟩
abbrev main_call8_v0 : Ref sig .tc := ⟨.hbm, 148, rfl⟩
abbrev main_call8_v1 : Ref sig .tc := ⟨.hbm, 149, rfl⟩
abbrev main_v69 : Ref sig .tc := ⟨.hbm, 150, rfl⟩

abbrev nD : Nat := 1
abbrev τ : Topo := Topo.v7x

variable {F : FTy → Type} [FloatOps F]
-- ==== Proof.Base.lean ====
/-
  What every part of the proof shares: the program as the SparseCore launch theorem sees it, the resource algebra, and
  the set of a flat array's elements between two positions.
-/
module

public import proofs.«01_k».proof.Defs
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic
public import Idealize.ShloMosaic.Lib.Batch
public import Idealize.ShloMosaic.Lib.WriteMode
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The resource algebra

The handshakes' rounds, the TensorCore pipeline's rounds, the write mode of the tiles' combined buffers, and the
transfers' counters. -/

abbrev UH : Type := URounds (GSem nD τ sig) ℕ
abbrev UP : Type := URounds (GSem nD τ sig) Unit
variable (F) in
abbrev UW : Type := WmRA nD τ sig (Elt F)
variable (F) in
abbrev UU : Type := UH × (UP × (UW F × Counters))

variable (F) in
/-- The machine's algebra with these components. -/
abbrev MM : Type := MT nD τ sig (HIx 1) (Elt F) ℕ (UU F) ℕ

/-- The handshakes' rounds. -/
abbrev EH : Emb UH (MM F) := embL
/-- The pipeline's rounds. -/
def EP : Emb UP (MM F) := ((UEmb.inl : UEmb UP (UP × (UW F × Counters))).trans UEmb.inr).trans uEmb |>.toEmb
/-- The write mode's cells. -/
def emb : UEmb (UW F) (UU F) := ((UEmb.inl : UEmb (UW F) (UW F × Counters)).trans UEmb.inr).trans UEmb.inr
/-- The transfers' counters. -/
abbrev EC : UEmb Counters (MM F) := countersEmb

instance EP_landsIn : (EP : Emb UP (MM F)).LandsIn (upEmb : UEmb _ (MM F)) := by unfold EP; infer_instance

/-! ## Elements of a flat array between two positions -/

/-- The elements of a flat array from position `lo` on and before `hi`. -/
def seg {n : ℕ} (lo hi : ℕ) : Finset (⟨1, ![n]⟩ : Shape).Idx := Finset.univ.filter fun i => lo ≤ (i 0).val ∧ (i 0).val < hi

theorem mem_seg {n lo hi : ℕ} {i : (⟨1, ![n]⟩ : Shape).Idx} : i ∈ seg lo hi ↔ lo ≤ (i 0).val ∧ (i 0).val < hi := by
  simp only [seg, Finset.mem_filter, Finset.mem_univ, true_and]

/-- The element of a flat array at position `k`. -/
def pos {n : ℕ} (k : ℕ) (h : k < n) : (⟨1, ![n]⟩ : Shape).Idx := fun a => ⟨k, by rw [Subsingleton.elim a 0]; exact h⟩

theorem pos_val {n k : ℕ} (h : k < n) : (pos (n := n) k h 0).val = k := rfl

theorem idx_ext {n : ℕ} {i j : (⟨1, ![n]⟩ : Shape).Idx} (h : (i 0).val = (j 0).val) : i = j :=
  funext fun a => Fin.ext (by rw [Subsingleton.elim a 0]; exact h)

theorem idx_lt {n : ℕ} (i : (⟨1, ![n]⟩ : Shape).Idx) : (i 0).val < n := (i 0).isLt

/-- The elements a contiguous slice of a flat array names. -/
theorem set_unit {n m o : ℕ} (inb : ∀ a, (![o] : Fin 1 → ℕ) a + (![m] : Fin 1 → ℕ) a ≤ (⟨1, ![n]⟩ : Shape).size a) :
    (Rect.unit (s := (⟨1, ![n]⟩ : Shape)) ![o] ![m] inb).set = seg o (o + m) := by
  ext i
  rw [Rect.mem_set_unit, mem_seg]
  constructor
  · intro h; exact h 0
  · intro h a; rw [Subsingleton.elim a 0]; exact h

/-! ## Contiguous slices of a flat view -/

section Views

variable {κ : Kind} {sp : Space} {e : EltTy} {n m : ℕ} {Val : EltTy → Type}

theorem unit_idx {off : Fin 1 → ℕ} {o : ℕ} (ho : off = ![o]) (inb : ∀ a, off a + (![m] : Fin 1 → ℕ) a ≤ (⟨1, ![n]⟩ : Shape).size a)
    (x : (⟨1, ![m]⟩ : Shape).Idx) (h : o + (x 0).val < n) :
    (Rect.unit (s := (⟨1, ![n]⟩ : Shape)) off ![m] inb).emb x = pos (o + (x 0).val) h := by
  subst ho
  exact idx_ext (by rw [Rect.emb_apply]; show o + 1 * (x 0).val = o + (x 0).val; omega)

/-- The position a slice's place is at lies inside the array. -/
theorem unit_lt {off : Fin 1 → ℕ} {o : ℕ} (ho : off = ![o]) (inb : ∀ a, off a + (![m] : Fin 1 → ℕ) a ≤ (⟨1, ![n]⟩ : Shape).size a)
    (x : (⟨1, ![m]⟩ : Shape).Idx) : o + (x 0).val < n := by
  subst ho
  have h0 : o + m ≤ n := inb 0
  have h1 := idx_lt x
  omega

/-- Reading a contiguous slice reads the array from the slice's offset on. -/
theorem read_unit (v : View sig κ sp (⟨1, ![n]⟩ : Shape) e) {off : Fin 1 → ℕ} {o : ℕ} (ho : off = ![o])
    (inb : ∀ a, off a + (![m] : Fin 1 → ℕ) a ≤ (⟨1, ![n]⟩ : Shape).size a) (f : v.ty.Contents Val) (x : (⟨1, ![m]⟩ : Shape).Idx) :
    (v.slice (Rect.unit (s := (⟨1, ![n]⟩ : Shape)) off ![m] inb)).read Val f x = v.read Val f (pos (o + (x 0).val) (unit_lt ho inb x)) := by
  rw [← unit_idx ho inb x]; rfl

/-- A whole buffer's view places every index at itself. -/
theorem setOn_whole (b : Ref sig κ) (M : Finset b.ty.Idx) : (View.whole b).setOn M = M := Finset.map_refl

/-- A contiguous slice's elements. -/
theorem set_slice_unit (v : View sig κ sp (⟨1, ![n]⟩ : Shape) e) {off : Fin 1 → ℕ} {o : ℕ} (ho : off = ![o])
    (inb : ∀ a, off a + (![m] : Fin 1 → ℕ) a ≤ (⟨1, ![n]⟩ : Shape).size a) :
    (v.slice (Rect.unit (s := (⟨1, ![n]⟩ : Shape)) off ![m] inb)).set = v.setOn (seg o (o + m)) := by
  subst ho
  rw [View.set_slice]; unfold View.setOn; congr 1; exact set_unit inb

/-- Writing a contiguous slice: inside it, what is written there; -/
theorem write_unit_mem (v : View sig κ sp (⟨1, ![n]⟩ : Shape) e) {off : Fin 1 → ℕ} {o : ℕ} (ho : off = ![o])
    (inb : ∀ a, off a + (![m] : Fin 1 → ℕ) a ≤ (⟨1, ![n]⟩ : Shape).size a) (f : v.ty.Contents Val) (w : (⟨1, ![m]⟩ : Shape).Idx → Val e)
    (i : (⟨1, ![n]⟩ : Shape).Idx) (h0 : o ≤ (i 0).val) (h1 : (i 0).val - o < m) :
    (v.slice (Rect.unit (s := (⟨1, ![n]⟩ : Shape)) off ![m] inb)).write Val f w Finset.univ (v.emb i)
      = _root_.cast (congrArg Val v.elt_eq.symm) (w (pos ((i 0).val - o) h1)) := by
  have hi : v.emb i = (v.slice (Rect.unit (s := (⟨1, ![n]⟩ : Shape)) off ![m] inb)).emb (pos ((i 0).val - o) h1) := by
    show v.emb i = v.emb ((Rect.unit (s := (⟨1, ![n]⟩ : Shape)) off ![m] inb).emb _)
    rw [unit_idx ho inb _ (unit_lt ho inb _)]
    congr 1; exact idx_ext (by rw [pos_val, pos_val]; omega)
  rw [hi, View.write_emb_of_mem _ _ (Finset.mem_univ _)]

/-- outside it, what was there. -/
theorem write_unit_not_mem (v : View sig κ sp (⟨1, ![n]⟩ : Shape) e) {off : Fin 1 → ℕ} {o : ℕ} (ho : off = ![o])
    (inb : ∀ a, off a + (![m] : Fin 1 → ℕ) a ≤ (⟨1, ![n]⟩ : Shape).size a) (f : v.ty.Contents Val) (w : (⟨1, ![m]⟩ : Shape).Idx → Val e)
    (i : (⟨1, ![n]⟩ : Shape).Idx) (h : ¬(o ≤ (i 0).val ∧ (i 0).val < o + m)) :
    (v.slice (Rect.unit (s := (⟨1, ![n]⟩ : Shape)) off ![m] inb)).write Val f w Finset.univ (v.emb i) = f (v.emb i) := by
  refine View.write_of_not_mem _ _ _ ?_
  rw [View.setOn_univ, set_slice_unit v ho inb, View.mem_setOn, mem_seg]
  exact h

end Views

end Cert.Proof.Pack

end
-- ==== Proof.Spec.lean ====
/-
  The packed row as a function of positions, and the tile kernel's address arithmetic against it.

  A row of the result has 512 positions: START (0), the first `k0` tokens of segment 0, END (2) twice, the first `k1`
  tokens of segment 1, END, and PAD (1) from there on. A tile keeps its 96 rows' segments in one flat buffer behind
  sixteen words of which the first three are PAD, END and START, so that every position of a packed row is one word
  of that buffer: `word` names it.
-/
module

public import proofs.«01_k».proof.Proof.Base

@[expose] public section

noncomputable section

namespace Cert.Proof.Pack

/-- How many tokens of a segment of length `a` are kept beside a segment of length `b`: at most 508 together, each
    entitled to 254. -/
def cut (a b : ℕ) : ℕ := min a (max 254 (508 - b))

theorem cut_le (a b : ℕ) : cut a b ≤ a := Nat.min_le_left _ _
theorem cut_add_le {a b : ℕ} (ha : a ≤ 384) (hb : b ≤ 384) : cut a b + cut b a ≤ 508 := by unfold cut; omega

/-- Position `j` of the packed row of two segments of lengths `a` and `b` with tokens `x` and `y`. -/
def packed (a b : ℕ) (x y : ℕ → BitVec 32) (j : ℕ) : BitVec 32 :=
  if j = 0 then 0#32
  else if j ≤ cut a b then x (j - 1)
  else if j < cut a b + 3 then 2#32
  else if j < cut a b + 3 + cut b a then y (j - (cut a b + 3))
  else if j = cut a b + 3 + cut b a then 2#32
  else 1#32

/-- Only the 384 tokens a segment has are read. -/
theorem packed_congr {a b : ℕ} (ha : a ≤ 384) (hb : b ≤ 384) {x x' y y' : ℕ → BitVec 32} (hx : ∀ t < 384, x t = x' t)
    (hy : ∀ t < 384, y t = y' t) (j : ℕ) : packed a b x y j = packed a b x' y' j := by
  have h0 := cut_le a b
  have h1 := cut_le b a
  unfold packed
  split_ifs <;> first | rfl | (exact hx _ (by omega)) | (exact hy _ (by omega))

/-- What one tile packs: its rows' lengths, and its rows' tokens laid out flat, 384 to a row. -/
structure TileData where
  len0 : ℕ → ℕ
  len1 : ℕ → ℕ
  tok0 : ℕ → BitVec 32
  tok1 : ℕ → BitVec 32

namespace TileData

variable (t : TileData)

/-- Every length is one a segment can have. -/
def Ok : Prop := ∀ r, t.len0 r ≤ 384 ∧ t.len1 r ≤ 384

/-- Tokens kept of row `r`'s segments. -/
def k0 (r : ℕ) : ℕ := cut (t.len0 r) (t.len1 r)
def k1 (r : ℕ) : ℕ := cut (t.len1 r) (t.len0 r)

/-- Position `j` of the tile's packed row `r`. -/
def row (r j : ℕ) : BitVec 32 := packed (t.len0 r) (t.len1 r) (fun s => t.tok0 (r * 384 + s)) (fun s => t.tok1 (r * 384 + s)) j

/-- The flat buffer: sixteen words holding the special tokens, then segment 0's rows, then segment 1's. -/
def comb (i : ℕ) : BitVec 32 :=
  if i < 16 then (if i = 1 then 2#32 else if i = 2 then 0#32 else 1#32)
  else if i < 36880 then t.tok0 (i - 16) else t.tok1 (i - 36880)

/-- The kept counts the tile tabulates for its 96 rows: `k0`, `k0 + 2`, `k1`, `k0 + 3 + k1`. -/
def table (i : ℕ) : BitVec 32 :=
  BitVec.ofNat 32 (if i < 96 then t.k0 (i % 96) else if i < 192 then t.k0 (i % 96) + 2
    else if i < 288 then t.k1 (i % 96) else t.k0 (i % 96) + 3 + t.k1 (i % 96))

/-- The word of the flat buffer that position `j` of row `r` is read from. -/
def word (r j : ℕ) : ℕ :=
  if j = 0 then 2
  else if j ≤ t.k0 r then 16 + r * 384 + (j - 1)
  else if j < t.k0 r + 3 then 1
  else if j < t.k0 r + 3 + t.k1 r then 36880 + r * 384 + (j - (t.k0 r + 3))
  else if j = t.k0 r + 3 + t.k1 r then 1
  else 0

variable {t}

theorem k_le (h : t.Ok) (r : ℕ) : t.k0 r ≤ 384 ∧ t.k1 r ≤ 384 ∧ t.k0 r + t.k1 r ≤ 508 :=
  ⟨(cut_le _ _).trans (h r).1, (cut_le _ _).trans (h r).2, cut_add_le (h r).1 (h r).2⟩

/-- The word named holds the packed row's position. -/
theorem comb_word (h : t.Ok) {r : ℕ} (hr : r < 96) (j : ℕ) : t.comb (t.word r j) = t.row r j := by
  obtain ⟨h0, h1, -⟩ := k_le h r
  unfold row packed word
  change t.comb _ = if j = 0 then 0#32 else if j ≤ t.k0 r then _ else if j < t.k0 r + 3 then _ else if j < t.k0 r + 3 + t.k1 r then _
    else if j = t.k0 r + 3 + t.k1 r then _ else _
  split_ifs with c0 c1 c2 c3 c4
  · rfl
  · unfold comb
    rw [if_neg (by omega), if_pos (by omega)]
    exact congrArg t.tok0 (by omega)
  · rfl
  · unfold comb
    rw [if_neg (by omega), if_neg (by omega)]
    exact congrArg t.tok1 (by unfold k0; omega)
  · rfl
  · rfl

/-- It is one of the special words or lies in the sixteen rows' block that row `r` belongs to. -/
theorem word_block (h : t.Ok) {r : ℕ} (hr : r < 96) (j : ℕ) :
    t.word r j < 16 ∨ (16 ≤ t.word r j ∧ t.word r j < 73744 ∧ (t.word r j - 16) % 36864 / 6144 = r / 16) := by
  obtain ⟨h0, h1, -⟩ := k_le h r
  unfold word
  split_ifs <;> omega

theorem word_lt (h : t.Ok) {r : ℕ} (hr : r < 96) (j : ℕ) : t.word r j < 73744 := by
  rcases word_block h hr j with h | h <;> omega

/-! ## The select chain -/

/-- The word a lane selects, from the row's table entries and the lane's position less one; `z` says the lane is at
    position 0. -/
def pick (z : Bool) (e0 e2 e1 ee off0 off1 m : BitVec 32) : BitVec 32 :=
  if m.ult e0 then m + off0
  else if (m - e2).ult e1 then (m - e2) + off1
  else if z then 2#32
  else if ee.ule m then 0#32 else 1#32

/-- The select chain computes the word's address. -/
theorem pick_eq (h : t.Ok) {r j : ℕ} (hr : r < 96) (hj : j < 512) :
    pick (decide (j = 0)) (BitVec.ofNat 32 (t.k0 r)) (BitVec.ofNat 32 (t.k0 r + 2)) (BitVec.ofNat 32 (t.k1 r)) (BitVec.ofNat 32 (t.k0 r + 3 + t.k1 r))
      (BitVec.ofNat 32 (16 + r * 384)) (BitVec.ofNat 32 (36880 + r * 384)) (BitVec.ofNat 32 j - 1#32) = BitVec.ofNat 32 (t.word r j) := by
  obtain ⟨h0, h1, h2⟩ := k_le h r
  unfold pick word
  generalize t.k0 r = a at *
  generalize t.k1 r = b at *
  simp only [BitVec.ult, BitVec.ule, decide_eq_true_eq]
  apply BitVec.eq_of_toNat_eq
  split_ifs <;> simp only [BitVec.toNat_add, BitVec.toNat_sub, BitVec.toNat_ofNat, decide_eq_true_eq, not_lt, not_le] at * <;> omega

end TileData

end Cert.Proof.Pack

end
-- ==== Proof.Row.lean ====
/-
  One packed row: the tile gathers sixteen positions at a time from its flat buffer into its output buffer.

  The flat buffer is in write mode while copies into it are in flight: its holder reads the words already marked
  written, and each gather of a row reads marked words only.
-/
module

public import proofs.«01_k».proof.Proof.Spec

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- A tile's thread, by its coordinates in the kernel's grid. -/
abbrev thr (d : Dev nD) (L : grid0.Coords) : Thread nD τ := V d ((L 0).castLE hcore0) ((L 1).castLE hsub0)

/-! ## The tile's buffers -/

/-- The flat buffer, the table of kept counts, the output buffer. -/
abbrev sC : Memref sig .scVector .vmem S73744 .i32 := Memref.whole cc0_scratch0
abbrev sK : Memref sig .scVector .vmem S384 .i32 := Memref.whole cc0_scratch3
abbrev sO : Memref sig .scVector .vmem S16384 .i32 := Memref.whole cc0_scratch4

section Row

variable [FloatOps F] (d : Dev nD) (L : grid0.Coords) (t : TileData) (ιwm : ℕ)

/-- What the flat buffer is to hold, as contents of it. -/
def combB : Buf (Elt F) ((thr d L).loc cc0_scratch0) := fun (i : S73744.Idx) => t.comb (i 0).val

/-- What the table holds. -/
def tableB : Buf (Elt F) ((thr d L).loc cc0_scratch3) := fun (i : S384.Idx) => t.table (i 0).val

/-- What the output buffer holds at position `i` when sixteen-row block `b` is packed into it: rows of 512 words, in
    the lower or the upper half of the buffer. -/
def outAt (b : ℕ) (i : ℕ) : BitVec 32 := t.row (16 * b + i % 8192 / 512) (i % 512)

/-- Sixteen words of the output buffer filled by a gather of the flat buffer's marked words. -/
theorem wp_gatherStore {α : Type} {Q : α → sProp (MM F)} {q : PosShare TreeShare} {W : Finset S73744.Idx} {f₀ : Buf (Elt F) ((thr d L).loc cc0_scratch0)}
    {off : Fin 1 → ℕ} {o : ℕ} (ho : off = ![o]) (inb : ∀ a, off a + S16.size a ≤ S16384.size a) (idx : IVec S16 32)
    (hidx : ∀ a x, ((![idx] : Fin 1 → IVec S16 32) a x).toNat < S73744.size a)
    (hlC : (Memref.whole cc0_scratch0).view.Loads)
    (hl : (Memref.whole cc0_scratch4).view.LoadsAt (Rect.unit (s := S16384) off S16.size inb).toLoadRect)
    (hs : ((Memref.whole cc0_scratch4).access (Rect.unit (s := S16384) off S16.size inb)).Stores Finset.univ)
    (hm : (Finset.univ : Finset (Rect.unit (s := S16384) off S16.size inb).shape.Idx) = Finset.univ ∨ ∀ a, (Rect.unit (s := S16384) off S16.size inb).stride a = 1)
    {H : Finset S16384.Idx} {f : Buf (Elt F) ((thr d L).loc cc0_scratch4)}
    (hH : seg o (o + 16) ⊆ H)
    (hW : ∀ x, pos (idx x).toNat (hidx 0 x) ∈ W)
    (k : PUnit → Prog (TpuEff nD τ sig (Elt F) Λ₀ (thr d L).2) α) :
    iprop(wmInv emb ιwm ∗ willBeTo emb ((thr d L).loc cc0_scratch0) Finset.univ q f₀ (fun i => some (combB d L t i)) W
        ∗ ((thr d L).loc cc0_scratch4 ↦[H]{fullShare} f))
      ⊢ iprop((∀ f' : Buf (Elt F) ((thr d L).loc cc0_scratch4),
            ⌜∀ i : S16384.Idx, (∀ h : o ≤ (i 0).val ∧ (i 0).val - o < 16, f' i = t.comb (idx (pos ((i 0).val - o) h.2)).toNat)
                ∧ (¬(o ≤ (i 0).val ∧ (i 0).val < o + 16) → f' i = f i)⌝
            -∗ willBeTo emb ((thr d L).loc cc0_scratch0) Finset.univ q f₀ (fun i => some (combB d L t i)) W
            -∗ ((thr d L).loc cc0_scratch4 ↦[H]{fullShare} f')
            -∗ wp frame (wpE (defs₀ (F := F)) 𝒱₀ (thr d L) none) Set.univ (k ⟨⟩) Q)
        -∗ wp frame (wpE (defs₀ (F := F)) 𝒱₀ (thr d L) none) Set.univ
            (.op (.load sC (LoadRect.whole S73744) (View.loadsAt_whole hlC)) fun v =>
              .op (.load sO (Rect.unit (s := S16384) off S16.size inb).toLoadRect hl) fun _ =>
              .op (.store sO (Rect.unit (s := S16384) off S16.size inb) (loadIdx (F := F) (e := .i32) v ![idx] hidx) Finset.univ hs hm) k) Q) := by
  iintro ⟨#Hinv, HC, HO⟩ Hk
  iapply (wp_load_willBeTo 𝒱₀ (thr d L) none Set.univ (m := sC) (Finset.subset_univ _)) $$ [HC]
  · isplitr; · iexact Hinv
    iexact HC
  iintro %cur %W' %hcur HC
  have hsub : (sO.view.slice (Rect.unit (s := S16384) off S16.size inb)).set ⊆ H := by
    rw [set_slice_unit sO.view ho inb, setOn_whole]
    exact hH
  iapply (wp_load_rect 𝒱₀ (thr d L) none Set.univ (m := sO) (r := Rect.unit (s := S16384) off S16.size inb) (S := H) hsub) $$ HO
  iintro HO
  iapply (wp_store 𝒱₀ (thr d L) none Set.univ (m := sO) (r := Rect.unit (s := S16384) off S16.size inb) (Mk := Finset.univ) (S := H) hsub) $$ HO
  iintro HO
  iapply Hk $$ %_ [] HC HO
  ipureintro
  intro i
  refine ⟨fun h => ?_, fun h => ?_⟩
  · refine (write_unit_mem sO.view ho inb _ _ i h.1 h.2).trans ?_
    have e := hidx 0 (pos ((i 0).val - o) h.2)
    have hw := hW (pos ((i 0).val - o) h.2)
    refine Eq.trans ?_ ((hcur.2 _ (Finset.mem_univ _)).2 (hcur.1 hw) _ rfl)
    exact congrArg cur (idx_ext (by show 0 + 1 * _ = _; rw [Nat.zero_add, Nat.one_mul]; rfl))
  · exact write_unit_not_mem sO.view ho inb _ _ i h

/-- Gathering the table reads its entries. -/
theorem loadIdx_table (v : IVec S16 32) (h : ∀ a x, ((![v] : Fin 1 → IVec S16 32) a x).toNat < S384.size a) :
    loadIdx (F := F) (e := .i32) (sK.view.readAt (Elt F) (LoadRect.whole S384) (tableB d L t)) ![v] h = fun x => t.table (v x).toNat := by
  funext x
  show t.table _ = t.table _
  exact congrArg t.table (by show 0 + 1 * _ = _; rw [Nat.zero_add, Nat.one_mul]; rfl)

/-- A vector whose sixteen lanes are the words of row `r` from position `16 * n` on. -/
theorem chain_eq (h : t.Ok) {r n : ℕ} (hr : r < 96) (hn : n < 32) (x : S16.Idx) (z : Bool) (hz : z = decide (16 * n + (x 0).val = 0)) (m : BitVec 32)
    (hm : m = BitVec.ofNat 32 (16 * n + (x 0).val) - 1#32) :
    TileData.pick z (BitVec.ofNat 32 (t.k0 r)) (BitVec.ofNat 32 (t.k0 r + 2)) (BitVec.ofNat 32 (t.k1 r)) (BitVec.ofNat 32 (t.k0 r + 3 + t.k1 r))
      (BitVec.ofNat 32 (16 + r * 384)) (BitVec.ofNat 32 (36880 + r * 384)) m = BitVec.ofNat 32 (t.word r (16 * n + (x 0).val)) := by
  have hx := idx_lt x
  rw [hz, hm]
  exact TileData.pick_eq h hr (by omega)

/-- One trip of a row's inner loop: sixteen further positions. -/
def innerBody (v44 v45 : IVec S16 32) (v137 v140 v143 v146 : Vec F S16 .i32) (v149 v151 : IVec S16 32)
    (off : Fin k0_t4_loop.trips → Fin 1 → ℕ) (inb : ∀ u a, off u a + S16.size a ≤ S16384.size a) :
    Fin k0_t4_loop.trips → IVec S16 32 → Prog (TpuEff nD τ sig (Elt F) Λ₀ (thr d L).2) (IVec S16 32) :=
  fun u arg21 => do
    have v184 : IVec S16 32 := k0_pay18 v44 v45 v137 v140 v143 v146 v149 v151 arg21
    have k0_hw6 : k0_chk6 v184 := (← Prog.lift (TpuEff.assume (k0_chk6 v184) (k0_chk6.dec v184))).down
    let v185 : Vec F S16 .i32 ← SparseCore.vectorLoadIdx sC ![v184] (k0_idx6_inb v184 k0_hw6) (View.loads_vmem h_S73744)
    let _ : Vec F S16 .i32 ← Prog.lift (.load sO (Rect.unit (s := S16384) (off u) S16.size (inb u)).toLoadRect (View.loadsAt_vmem h_S16))
    Prog.lift (.store sO (Rect.unit (s := S16384) (off u) S16.size (inb u)) v185 Finset.univ (View.stores_vmem_bits_univ h_S16 rfl) (.inl rfl))
    pure (k0_pay19 arg21)

theorem select_ofBool {α : Type} (b : Bool) (x y : α) : Scalar.select (BitVec.ofBool b) x y = if b then x else y := by
  cases b <;> rfl

/-- The lanes' numbers. -/
abbrev lanes : IVec S16 32 := iota .scVector S16 32 [0] iota_S16_d0_w32_scVector

theorem lanes_apply (x : S16.Idx) : lanes x = BitVec.ofNat 32 (x 0).val := by
  show BitVec.ofNat 32 _ = _
  exact congrArg (BitVec.ofNat 32) (by simp)

/-- The words row `r`'s gathers read are marked: every special word, and every word of the row's block. -/
def BlockMarked (b : ℕ) (W : Finset S73744.Idx) : Prop :=
  ∀ i : S73744.Idx, ((i 0).val < 16 ∨ (16 ≤ (i 0).val ∧ ((i 0).val - 16) % 36864 / 6144 = b)) → i ∈ W

/-- The first `n` groups of sixteen positions of row `r` are in the output buffer from position `o` on; everything
    outside the row is as in `f`. -/
def RowDone (r o n : ℕ) (f f' : Buf (Elt F) ((thr d L).loc cc0_scratch4)) : Prop :=
  ∀ i : S16384.Idx, (o ≤ (i 0).val ∧ (i 0).val < o + 16 * n → f' i = t.row r ((i 0).val - o))
    ∧ (¬(o ≤ (i 0).val ∧ (i 0).val < o + 512) → f' i = f i)

theorem RowDone.step {t} (h : t.Ok) {r o n : ℕ} (hr : r < 96) (hn : n < 32) {f f' f'' : Buf (Elt F) ((thr d L).loc cc0_scratch4)} (hd : RowDone d L t r o n f f')
    {idx : IVec S16 32} (hidx : ∀ x, idx x = BitVec.ofNat 32 (t.word r (16 * n + (x 0).val)))
    (hs : ∀ i : S16384.Idx, (∀ h : o + 16 * n ≤ (i 0).val ∧ (i 0).val - (o + 16 * n) < 16, f'' i = t.comb (idx (pos ((i 0).val - (o + 16 * n)) h.2)).toNat)
                ∧ (¬(o + 16 * n ≤ (i 0).val ∧ (i 0).val < o + 16 * n + 16) → f'' i = f' i)) :
    RowDone d L t r o (n + 1) f f'' := by
  intro i
  refine ⟨fun hi => ?_, fun hi => ?_⟩
  · by_cases hc : (i 0).val < o + 16 * n
    · rw [(hs i).2 (by omega)]; exact (hd i).1 ⟨hi.1, hc⟩
    · rw [(hs i).1 ⟨by omega, by omega⟩, hidx, BitVec.toNat_ofNat, Nat.mod_eq_of_lt ((TileData.word_lt h hr _).trans (by norm_num)), pos_val,
        TileData.comb_word h hr]
      exact congrArg (t.row r) (by omega)
  · rw [(hs i).2 (by omega)]; exact (hd i).2 hi

/-- The lanes' words of a gather are inside the flat buffer, and marked. -/
theorem words_lt (h : t.Ok) {r n : ℕ} (hr : r < 96) {idx : IVec S16 32} (hidx : ∀ x, idx x = BitVec.ofNat 32 (t.word r (16 * n + (x 0).val))) :
    ∀ a x, ((![idx] : Fin 1 → IVec S16 32) a x).toNat < S73744.size a := by
  intro a x
  rw [Subsingleton.elim a 0]
  show (idx x).toNat < 73744
  rw [hidx, BitVec.toNat_ofNat, Nat.mod_eq_of_lt ((TileData.word_lt h hr _).trans (by norm_num))]
  exact TileData.word_lt h hr _

theorem words_marked (h : t.Ok) {r n : ℕ} (hr : r < 96) {idx : IVec S16 32} (hidx : ∀ x, idx x = BitVec.ofNat 32 (t.word r (16 * n + (x 0).val)))
    {W : Finset S73744.Idx} (hW : BlockMarked (r / 16) W) (x : S16.Idx) (hlt : (idx x).toNat < 73744) : pos (idx x).toNat hlt ∈ W := by
  refine hW _ ?_
  rw [pos_val, hidx, BitVec.toNat_ofNat, Nat.mod_eq_of_lt ((TileData.word_lt h hr _).trans (by norm_num))]
  rcases TileData.word_block h hr (16 * n + (x 0).val) with h | h
  · exact .inl h
  · exact .inr ⟨h.1, h.2.2⟩

/-- A row's inner loop, from the row's table entries: each trip fills sixteen positions. -/
theorem wp_inner (h : t.Ok) {r o : ℕ} (hr : r < 96) {q : PosShare TreeShare} {W : Finset S73744.Idx} (hW : BlockMarked (r / 16) W) {f₀ : Buf (Elt F) ((thr d L).loc cc0_scratch0)}
    (off : Fin k0_t4_loop.trips → Fin 1 → ℕ) (inb : ∀ u a, off u a + S16.size a ≤ S16384.size a) (hoff : ∀ u, off u = ![o + 16 * (u.val + 1)])
    {H : Finset S16384.Idx} (hH : seg o (o + 512) ⊆ H) (f : Buf (Elt F) ((thr d L).loc cc0_scratch4))
    (u : Fin k0_t4_loop.trips) (acc : IVec S16 32) :
    iprop(wmInv emb ιwm ∗ willBeTo emb ((thr d L).loc cc0_scratch0) Finset.univ q f₀ (fun i => some (combB d L t i)) W
        ∗ ⌜∀ x, acc x = BitVec.ofNat 32 (16 * (u.val + 1) + (x 0).val) - 1#32⌝
        ∗ ∃ f', ⌜RowDone d L t r o (u.val + 1) f f'⌝ ∗ ((thr d L).loc cc0_scratch4 ↦[H]{fullShare} f'))
      ⊢ wp (M := MM F) frame (wpE (defs₀ (F := F)) 𝒱₀ (thr d L) none) Set.univ
          (innerBody (F := F) d L k0_pay28 k0_pay29 (fun _ => BitVec.ofNat 32 (t.k0 r)) (fun _ => BitVec.ofNat 32 (t.k0 r + 2)) (fun _ => BitVec.ofNat 32 (t.k1 r))
            (fun _ => BitVec.ofNat 32 (t.k0 r + 3 + t.k1 r)) (fun _ => BitVec.ofNat 32 (16 + r * 384)) (fun _ => BitVec.ofNat 32 (36880 + r * 384)) off inb u acc)
          fun (acc' : IVec S16 32) => iprop(wmInv emb ιwm ∗ willBeTo emb ((thr d L).loc cc0_scratch0) Finset.univ q f₀ (fun i => some (combB d L t i)) W
        ∗ ⌜∀ x, acc' x = BitVec.ofNat 32 (16 * (u.val + 1 + 1) + (x 0).val) - 1#32⌝
        ∗ ∃ f', ⌜RowDone d L t r o (u.val + 1 + 1) f f'⌝ ∗ ((thr d L).loc cc0_scratch4 ↦[H]{fullShare} f')) := by
  have hu : u.val < 31 := u.isLt
  iintro ⟨#Hinv, HC, %hacc, %f', %hf', HO⟩
  simp only [innerBody, Prog.lift, SparseCore.vectorLoadIdx, Prog.bind_op, Prog.bind_ret, Prog.pure_eq_ret]
  have hidx : ∀ x, k0_pay18 (F := F) k0_pay28 k0_pay29 (fun _ => BitVec.ofNat 32 (t.k0 r)) (fun _ => BitVec.ofNat 32 (t.k0 r + 2)) (fun _ => BitVec.ofNat 32 (t.k1 r))
      (fun _ => BitVec.ofNat 32 (t.k0 r + 3 + t.k1 r)) (fun _ => BitVec.ofNat 32 (16 + r * 384)) (fun _ => BitVec.ofNat 32 (36880 + r * 384)) acc x
        = BitVec.ofNat 32 (t.word r (16 * (u.val + 1) + (x 0).val)) := by
    intro x
    rw [← chain_eq t h hr (by omega) x false (by simp) (acc x) (hacc x)]
    show Scalar.select (BitVec.ofBool ((acc x).ult _)) _ (Scalar.select (BitVec.ofBool ((acc x - _).ult _)) _
      (Scalar.select (BitVec.ofBool (BitVec.ule _ (acc x))) 0#32 1#32)) = _
    simp only [select_ofBool]
    rfl
  rw [wp_assume_of _ _ _ _ (show k0_chk6 _ from words_lt t h hr hidx)]
  iapply (wp_gatherStore d L t ιwm (hoff u) (inb u) _ (words_lt t h hr hidx) (View.loads_vmem h_S73744)
    (View.loadsAt_vmem h_S16) (View.stores_vmem_bits_univ h_S16 rfl) (.inl rfl) (H := H) (f := f')
    (fun i hi => hH (mem_seg.2 (by have := mem_seg.1 hi; omega))) (fun x => words_marked t h hr hidx hW x _)) $$ [HC HO]
  · isplitr; · iexact Hinv
    isplitl [HC] <;> iassumption
  iintro %f'' %hf'' HC HO
  rw [wp_ret]
  imodintro
  isplitr; · iexact Hinv
  isplitl [HC]; · iexact HC
  isplitr
  · ipureintro
    intro x
    show acc x + 16#32 = _
    rw [hacc x]
    have := idx_lt x
    apply BitVec.eq_of_toNat_eq
    simp only [BitVec.toNat_add, BitVec.toNat_sub, BitVec.toNat_ofNat]
    omega
  iexists f''
  isplitr
  · ipureintro; exact hf'.step d L h hr (by omega) hidx hf''
  iexact HO

/-- One row: its table entries, its first sixteen positions, then the other thirty-one groups. -/
def rowBody (v44 v45 v46 : IVec S16 32) (v62 : BitVec 32) (off : Fin k0_t3_loop.trips → Fin 1 → ℕ) (inb : ∀ u a, off u a + S16.size a ≤ S16384.size a)
    (off' : Fin k0_t3_loop.trips → Fin k0_t4_loop.trips → Fin 1 → ℕ) (inb' : ∀ u v a, off' u v a + S16.size a ≤ S16384.size a) :
    Fin k0_t3_loop.trips → BitVec 32 → Prog (TpuEff nD τ sig (Elt F) Λ₀ (thr d L).2) (BitVec 32) :=
  fun u _ => do
    let arg18 : BitVec 32 := Scf.iv 0#32 1#32 u
    let v134 : BitVec 32 := Scalar.muli v62 16#32
    let v135 : BitVec 32 := Scalar.addi v134 arg18
    have v136 : IVec S16 32 := broadcast S16 v135
    have k0_hw1 : k0_chk1 v136 := (← Prog.lift (TpuEff.assume (k0_chk1 v136) (k0_chk1.dec v136))).down
    let v137 : Vec F S16 .i32 ← SparseCore.vectorLoadIdx sK ![v136] (k0_idx1_inb v136 k0_hw1) (View.loads_vmem h_S384)
    have v139 : IVec S16 32 := k0_pay1 v136
    have k0_hw2 : k0_chk2 v139 := (← Prog.lift (TpuEff.assume (k0_chk2 v139) (k0_chk2.dec v139))).down
    let v140 : Vec F S16 .i32 ← SparseCore.vectorLoadIdx sK ![v139] (k0_idx2_inb v139 k0_hw2) (View.loads_vmem h_S384)
    have v142 : IVec S16 32 := k0_pay2 v136
    have k0_hw3 : k0_chk3 v142 := (← Prog.lift (TpuEff.assume (k0_chk3 v142) (k0_chk3.dec v142))).down
    let v143 : Vec F S16 .i32 ← SparseCore.vectorLoadIdx sK ![v142] (k0_idx3_inb v142 k0_hw3) (View.loads_vmem h_S384)
    have v145 : IVec S16 32 := k0_pay3 v136
    have k0_hw4 : k0_chk4 v145 := (← Prog.lift (TpuEff.assume (k0_chk4 v145) (k0_chk4.dec v145))).down
    let v146 : Vec F S16 .i32 ← SparseCore.vectorLoadIdx sK ![v145] (k0_idx4_inb v145 k0_hw4) (View.loads_vmem h_S384)
    have v165 : IVec S16 32 := k0_pay6 lanes v44 v45 v46 v62 0#32 1#32 u v137 v140 v143 v146
    have k0_hw5 : k0_chk5 v165 := (← Prog.lift (TpuEff.assume (k0_chk5 v165) (k0_chk5.dec v165))).down
    let v166 : Vec F S16 .i32 ← SparseCore.vectorLoadIdx sC ![v165] (k0_idx5_inb v165 k0_hw5) (View.loads_vmem h_S73744)
    let _ : Vec F S16 .i32 ← Prog.lift (.load sO (Rect.unit (s := S16384) (off u) S16.size (inb u)).toLoadRect (View.loadsAt_vmem h_S16))
    Prog.lift (.store sO (Rect.unit (s := S16384) (off u) S16.size (inb u)) v166 Finset.univ (View.stores_vmem_bits_univ h_S16 rfl) (.inl rfl))
    let _ : IVec S16 32 ← Scf.Loop.for k0_t4_loop k0_t4_ok (k0_pay17 (k0_pay7 lanes) k0_pay8)
      (innerBody d L v44 v45 v137 v140 v143 v146 (k0_pay4 v62 0#32 1#32 u) (k0_pay5 v62 0#32 1#32 u) (off' u) (inb' u))
    pure 0#32

/-- The even block's row body is this one, at its offsets; -/
theorem t3_body_eq (v2 : BitVec 32) (v44 v45 v46 : IVec S16 32) (c0 c1 : BitVec 32) (k : Fin k0_t2_loop.trips) (v62 : BitVec 32) :
    k0_t3_body (F := F) L (Memref.whole main_v1_scv) (Memref.isWhole_whole _) (Memref.whole main_v3_scv) (Memref.isWhole_whole _)
      (Memref.whole main_v4_scv) (Memref.isWhole_whole _) (Memref.whole main_v5_scv) (Memref.isWhole_whole _) (Memref.whole main_v6_scv) (Memref.isWhole_whole _)
      sC (Memref.isWhole_whole _) (Memref.whole cc0_scratch1) (Memref.isWhole_whole _) (Memref.whole cc0_scratch2) (Memref.isWhole_whole _)
      sK (Memref.isWhole_whole _) sO (Memref.isWhole_whole _) cc0_scratch5 cc0_scratch6 cc0_scratch7 cc0_scratch8 cc0_scoped0 cc0_scoped1
      v2 lanes v44 v45 v46 c0 c1 k v62
      = rowBody d L v44 v45 v46 v62 k0_off11 k0_off11_inb k0_off12 k0_off12_inb := by
  funext u acc
  simp only [k0_t3_body, k0_part1_eq_skeleton]
  rfl

/-- the odd block's too. -/
theorem t5_body_eq (v2 : BitVec 32) (v44 v45 v46 : IVec S16 32) (k : Fin k0_t2_loop.trips) (a v62 : BitVec 32) :
    k0_t5_body (F := F) L (Memref.whole main_v1_scv) (Memref.isWhole_whole _) (Memref.whole main_v3_scv) (Memref.isWhole_whole _)
      (Memref.whole main_v4_scv) (Memref.isWhole_whole _) (Memref.whole main_v5_scv) (Memref.isWhole_whole _) (Memref.whole main_v6_scv) (Memref.isWhole_whole _)
      sC (Memref.isWhole_whole _) (Memref.whole cc0_scratch1) (Memref.isWhole_whole _) (Memref.whole cc0_scratch2) (Memref.isWhole_whole _)
      sK (Memref.isWhole_whole _) sO (Memref.isWhole_whole _) cc0_scratch5 cc0_scratch6 cc0_scratch7 cc0_scratch8 cc0_scoped0 cc0_scoped1
      v2 lanes v44 v45 v46 k a v62
      = rowBody d L v44 v45 v46 v62 k0_off17 k0_off17_inb k0_off18 k0_off18_inb := by
  funext u acc
  simp only [k0_t5_body, k0_part2_eq_skeleton]
  rfl

/-- Row `u` of block `b`: the row's 512 words are in the output buffer, the rest of it as before. -/
theorem wp_row (h : t.Ok) {b o : ℕ} (hb : b < 6) {v62 : BitVec 32} (hv : v62 = BitVec.ofNat 32 b) {q : PosShare TreeShare} {W : Finset S73744.Idx}
    (hW : BlockMarked b W) {f₀ : Buf (Elt F) ((thr d L).loc cc0_scratch0)}
    (off : Fin k0_t3_loop.trips → Fin 1 → ℕ) (inb : ∀ u a, off u a + S16.size a ≤ S16384.size a) (hoff : ∀ u, off u = ![o + 512 * u.val])
    (off' : Fin k0_t3_loop.trips → Fin k0_t4_loop.trips → Fin 1 → ℕ) (inb' : ∀ u v a, off' u v a + S16.size a ≤ S16384.size a)
    (hoff' : ∀ u v, off' u v = ![o + 512 * u.val + 16 * (v.val + 1)])
    {H : Finset S16384.Idx} (hH : seg o (o + 8192) ⊆ H) (f : Buf (Elt F) ((thr d L).loc cc0_scratch4)) (u : Fin k0_t3_loop.trips) (acc : BitVec 32) :
    iprop(wmInv emb ιwm ∗ willBeTo emb ((thr d L).loc cc0_scratch0) Finset.univ q f₀ (fun i => some (combB d L t i)) W
        ∗ ((thr d L).loc cc0_scratch3 ↦[Finset.univ]{fullShare} tableB d L t)
        ∗ ((thr d L).loc cc0_scratch4 ↦[H]{fullShare} f))
      ⊢ wp (M := MM F) frame (wpE (defs₀ (F := F)) 𝒱₀ (thr d L) none) Set.univ
          (rowBody (F := F) d L k0_pay28 k0_pay29 k0_pay30 v62 off inb off' inb' u acc)
          fun _ => iprop(wmInv emb ιwm ∗ willBeTo emb ((thr d L).loc cc0_scratch0) Finset.univ q f₀ (fun i => some (combB d L t i)) W
        ∗ ((thr d L).loc cc0_scratch3 ↦[Finset.univ]{fullShare} tableB d L t)
        ∗ ∃ f', ⌜RowDone d L t (16 * b + u.val) (o + 512 * u.val) 32 f f'⌝ ∗ ((thr d L).loc cc0_scratch4 ↦[H]{fullShare} f')) := by
  have hu : u.val < 16 := u.isLt
  set r : ℕ := 16 * b + u.val with hrdef
  have hr : r < 96 := by omega
  have hrb : r / 16 = b := by omega
  have hv135 : Scalar.addi (Scalar.muli v62 16#32) (Scf.iv 0#32 1#32 u) = BitVec.ofNat 32 r := by
    rw [hv]
    apply BitVec.eq_of_toNat_eq
    show (BitVec.ofNat 32 b * 16#32 + (0#32 + BitVec.ofNat 32 u.val * 1#32)).toNat = _
    simp only [BitVec.toNat_add, BitVec.toNat_mul, BitVec.toNat_ofNat]
    omega
  obtain ⟨hk0, hk1, hk2⟩ := TileData.k_le h r
  iintro ⟨#Hinv, HC, HK, HO⟩
  simp only [rowBody, Prog.lift, SparseCore.vectorLoadIdx, Prog.bind_op, Prog.bind_ret, Prog.pure_eq_ret]
  generalize hv136 : (broadcast S16 (Scalar.addi (Scalar.muli v62 16#32) (Scf.iv 0#32 1#32 u)) : IVec S16 32) = v136
  have chk : ∀ m ≤ 288, ∀ v : IVec S16 32, (∀ x, v x = BitVec.ofNat 32 (r + m)) → ∀ a x, ((![v] : Fin 1 → IVec S16 32) a x).toNat < S384.size a := by
    intro m hm v hv a x
    rw [Subsingleton.elim a 0]
    show (v x).toNat < 384
    rw [hv, BitVec.toNat_ofNat]; omega
  have e1 : ∀ x, v136 x = BitVec.ofNat 32 (r + 0) := fun x => hv136 ▸ hv135
  have e2 : ∀ x, k0_pay1 v136 x = BitVec.ofNat 32 (r + 96) := fun x => hv136 ▸ (congrArg (· + 96#32) hv135).trans (BitVec.ofNat_add r 96).symm
  have e3 : ∀ x, k0_pay2 v136 x = BitVec.ofNat 32 (r + 192) := fun x => hv136 ▸ (congrArg (· + 192#32) hv135).trans (BitVec.ofNat_add r 192).symm
  have e4 : ∀ x, k0_pay3 v136 x = BitVec.ofNat 32 (r + 288) := fun x => hv136 ▸ (congrArg (· + 288#32) hv135).trans (BitVec.ofNat_add r 288).symm
  have hl : ∀ m ≤ 288, ∀ v : IVec S16 32, (∀ x, v x = BitVec.ofNat 32 (r + m)) → ∀ h', ∀ w, t.table (r + m) = w →
      loadIdx (F := F) (e := .i32) (sK.view.readAt (Elt F) (LoadRect.whole S384) (tableB d L t)) ![v] h' = fun _ => w := by
    intro m hm v hv h' w hw
    rw [loadIdx_table]
    funext x
    rw [hv, BitVec.toNat_ofNat, Nat.mod_eq_of_lt (by omega), hw]
  have t1 : t.table (r + 0) = BitVec.ofNat 32 (t.k0 r) := by
    unfold TileData.table; rw [if_pos (by omega), show (r + 0) % 96 = r by omega]
  have t2 : t.table (r + 96) = BitVec.ofNat 32 (t.k0 r + 2) := by
    unfold TileData.table; rw [if_neg (by omega), if_pos (by omega), show (r + 96) % 96 = r by omega]
  have t3 : t.table (r + 192) = BitVec.ofNat 32 (t.k1 r) := by
    unfold TileData.table; rw [if_neg (by omega), if_neg (by omega), if_pos (by omega), show (r + 192) % 96 = r by omega]
  have t4 : t.table (r + 288) = BitVec.ofNat 32 (t.k0 r + 3 + t.k1 r) := by
    unfold TileData.table; rw [if_neg (by omega), if_neg (by omega), if_neg (by omega), show (r + 288) % 96 = r by omega]
  have c1 : k0_chk1 _ := chk 0 (by omega) _ e1
  rw [wp_assume_of _ _ _ _ c1]
  iapply (wp_load 𝒱₀ (thr d L) none Set.univ (m := sK) (S := Finset.univ) (Finset.subset_univ _)) $$ HK
  iintro HK
  have c2 : k0_chk2 _ := chk 96 (by omega) _ e2
  rw [wp_assume_of _ _ _ _ c2]
  iapply (wp_load 𝒱₀ (thr d L) none Set.univ (m := sK) (S := Finset.univ) (Finset.subset_univ _)) $$ HK
  iintro HK
  have c3 : k0_chk3 _ := chk 192 (by omega) _ e3
  rw [wp_assume_of _ _ _ _ c3]
  iapply (wp_load 𝒱₀ (thr d L) none Set.univ (m := sK) (S := Finset.univ) (Finset.subset_univ _)) $$ HK
  iintro HK
  have c4 : k0_chk4 _ := chk 288 (by omega) _ e4
  rw [wp_assume_of _ _ _ _ c4]
  iapply (wp_load 𝒱₀ (thr d L) none Set.univ (m := sK) (S := Finset.univ) (Finset.subset_univ _)) $$ HK
  iintro HK
  rw [hl 0 (by omega) _ e1 _ _ t1, hl 96 (by omega) _ e2 _ _ t2, hl 192 (by omega) _ e3 _ _ t3, hl 288 (by omega) _ e4 _ _ t4]
  have hoffs : ∀ (c : ℕ), c ≤ 36880 → (Scalar.addi (BitVec.ofNat 32 c) (Scalar.muli (Scalar.addi (Scalar.muli v62 16#32) (Scf.iv 0#32 1#32 u)) 384#32)) = BitVec.ofNat 32 (c + r * 384) := by
    intro c _
    rw [hv135]
    show BitVec.ofNat 32 c + BitVec.ofNat 32 r * 384#32 = _
    rw [BitVec.ofNat_add c (r * 384), BitVec.ofNat_mul r 384]
  have p4 : k0_pay4 v62 0#32 1#32 u = fun _ => BitVec.ofNat 32 (16 + r * 384) := funext fun x => hoffs 16 (by omega)
  have p5 : k0_pay5 v62 0#32 1#32 u = fun _ => BitVec.ofNat 32 (36880 + r * 384) := funext fun x => hoffs 36880 (by omega)
  have hidx : ∀ x, k0_pay6 (F := F) lanes k0_pay28 k0_pay29 k0_pay30 v62 0#32 1#32 u (fun _ => BitVec.ofNat 32 (t.k0 r)) (fun _ => BitVec.ofNat 32 (t.k0 r + 2))
      (fun _ => BitVec.ofNat 32 (t.k1 r)) (fun _ => BitVec.ofNat 32 (t.k0 r + 3 + t.k1 r)) x = BitVec.ofNat 32 (t.word r (16 * 0 + (x 0).val)) := by
    intro x
    have hx := idx_lt x
    rw [← chain_eq t h hr (by omega) x (decide (16 * 0 + (x 0).val = 0)) rfl (lanes x - 1#32) (by rw [lanes_apply, Nat.mul_zero, Nat.zero_add])]
    have hz : BitVec.ofBool (lanes x == 0#32) = BitVec.ofBool (decide (16 * 0 + (x 0).val = 0)) := by
      rw [lanes_apply]
      congr 1
      rw [Bool.eq_iff_iff, beq_iff_eq, decide_eq_true_eq, ← BitVec.toNat_inj, BitVec.toNat_ofNat, BitVec.toNat_ofNat]
      omega
    unfold k0_pay6
    rw [p4, p5]
    show Scalar.select (BitVec.ofBool ((lanes x - 1#32).ult _)) _ (Scalar.select (BitVec.ofBool ((lanes x - 1#32 - _).ult _)) _
      (Scalar.select (BitVec.ofBool (lanes x == 0#32)) 2#32 (Scalar.select (BitVec.ofBool (BitVec.ule _ (lanes x - 1#32))) 0#32 1#32))) = _
    rw [hz]
    simp only [select_ofBool]
    rfl
  have c5 : k0_chk5 _ := words_lt t h hr hidx
  rw [wp_assume_of _ _ _ _ c5]
  iapply (wp_gatherStore d L t ιwm (hoff u) (inb u) _ (words_lt t h hr hidx) (View.loads_vmem h_S73744)
    (View.loadsAt_vmem h_S16) (View.stores_vmem_bits_univ h_S16 rfl) (.inl rfl) (H := H) (f := f)
    (fun i hi => hH (mem_seg.2 (by have := mem_seg.1 hi; omega))) (fun x => words_marked t h hr hidx (hrb ▸ hW) x _)) $$ [HC HO]
  · isplitr; · iexact Hinv
    isplitl [HC] <;> iassumption
  iintro %f1 %hf1 HC HO
  have hd : RowDone d L t r (o + 512 * u.val) 1 f f1 :=
    RowDone.step d L h hr (n := 0) (by omega) (f' := f) (fun i => ⟨fun hi => absurd hi.2 (by omega), fun _ => rfl⟩) hidx hf1
  rw [p4, p5]
  sl_for (fun n acc => iprop(wmInv emb ιwm ∗ willBeTo emb ((thr d L).loc cc0_scratch0) Finset.univ q f₀ (fun i => some (combB d L t i)) W
        ∗ ⌜∀ x, (acc : IVec S16 32) x = BitVec.ofNat 32 (16 * (n + 1) + (x 0).val) - 1#32⌝
        ∗ ∃ f', ⌜RowDone d L t r (o + 512 * u.val) (n + 1) f f'⌝ ∗ ((thr d L).loc cc0_scratch4 ↦[H]{fullShare} f'))) $$ [HC HO]
  case region =>
    intro v acc'
    exact wp_inner d L t ιwm h hr (hrb ▸ hW) (off' u) (inb' u) (hoff' u) (fun i hi => hH (mem_seg.2 (by have := mem_seg.1 hi; omega))) f v acc'
  · isplitr; · iexact Hinv
    isplitl [HC]; · iexact HC
    isplitr
    · ipureintro
      intro x
      show lanes x + 16#32 - 1#32 = _
      rw [lanes_apply]
      have := idx_lt x
      apply BitVec.eq_of_toNat_eq
      simp only [BitVec.toNat_add, BitVec.toNat_sub, BitVec.toNat_ofNat]
      omega
    iexists f1
    isplitr; · ipureintro; exact hd
    iexact HO
  iintro %_ ⟨-, HC, -, %f', %hf', HO⟩
  sl_exec
  rw [wp_ret]
  imodintro
  isplitr; · iexact Hinv
  isplitl [HC]; · iexact HC
  isplitl [HK]; · iexact HK
  iexists f'
  isplitr; · ipureintro; exact hf'
  iexact HO

/-- Before row `u` of block `b`, the rows before it are in the half of the output buffer that starts at `o`. -/
def rowsInv (b o : ℕ) (q : PosShare TreeShare) (W : Finset S73744.Idx) (f₀ : Buf (Elt F) ((thr d L).loc cc0_scratch0)) (n : ℕ) : sProp (MM F) :=
  iprop(wmInv emb ιwm ∗ willBeTo emb ((thr d L).loc cc0_scratch0) Finset.univ q f₀ (fun i => some (combB d L t i)) W
        ∗ ((thr d L).loc cc0_scratch3 ↦[Finset.univ]{fullShare} tableB d L t)
        ∗ ∃ f : Buf (Elt F) ((thr d L).loc cc0_scratch4), ⌜∀ i : S16384.Idx, o ≤ (i 0).val → (i 0).val < o + 512 * n → f i = outAt t b (i 0).val⌝
          ∗ ((thr d L).loc cc0_scratch4 ↦[seg (n := 16384) o (o + 8192)]{fullShare} f))

theorem wp_rows (h : t.Ok) {b o : ℕ} (hb : b < 6) (ho : o = 0 ∨ o = 8192) {v62 : BitVec 32} (hv : v62 = BitVec.ofNat 32 b) {q : PosShare TreeShare} {W : Finset S73744.Idx}
    (hW : BlockMarked b W) {f₀ : Buf (Elt F) ((thr d L).loc cc0_scratch0)}
    (off : Fin k0_t3_loop.trips → Fin 1 → ℕ) (inb : ∀ u a, off u a + S16.size a ≤ S16384.size a) (hoff : ∀ u, off u = ![o + 512 * u.val])
    (off' : Fin k0_t3_loop.trips → Fin k0_t4_loop.trips → Fin 1 → ℕ) (inb' : ∀ u v a, off' u v a + S16.size a ≤ S16384.size a)
    (hoff' : ∀ u v, off' u v = ![o + 512 * u.val + 16 * (v.val + 1)])
    (u : Fin k0_t3_loop.trips) (acc : BitVec 32) :
    rowsInv d L t ιwm b o q W f₀ u.val
      ⊢ wp (M := MM F) frame (wpE (defs₀ (F := F)) 𝒱₀ (thr d L) none) Set.univ
          (rowBody (F := F) d L k0_pay28 k0_pay29 k0_pay30 v62 off inb off' inb' u acc)
          fun _ => rowsInv d L t ιwm b o q W f₀ (u.val + 1) := by
  have hu : u.val < 16 := u.isLt
  unfold rowsInv
  iintro ⟨#Hinv, HC, HK, %f, %hf, HO⟩
  iapply (wp_wand frame (wpE (defs₀ (F := F)) 𝒱₀ (thr d L) none)) $$ [HC HK HO]
  · iapply (wp_row d L t ιwm h hb hv hW off inb hoff off' inb' hoff' (H := seg o (o + 8192)) (Finset.Subset.refl _) f u acc)
    isplitr; · iexact Hinv
    isplitl [HC]; · iexact HC
    isplitl [HK] <;> iassumption
  iintro %_ ⟨-, HC, HK, %f', %hf', HO⟩
  isplitr; · iexact Hinv
  isplitl [HC]; · iexact HC
  isplitl [HK]; · iexact HK
  iexists f'
  isplitr
  · ipureintro
    intro i h0 h1
    by_cases hc : (i 0).val < o + 512 * u.val
    · rw [(hf' i).2 (by omega)]; exact hf i h0 hc
    · rw [(hf' i).1 (by omega)]
      unfold outAt
      rw [show (i 0).val % 8192 / 512 = u.val by omega, show (i 0).val % 512 = (i 0).val - (o + 512 * u.val) by omega]
  iexact HO

end Row

end Cert.Proof.Pack

end
-- ==== Proof.Fly.lean ====
/-
  The tile's copies: each sixteen-row block of the two token arrays comes into the flat buffer under one semaphore, two
  copies at a time, and each packed block leaves from one half of the output buffer.

  While blocks are in flight the flat buffer is in write mode. Half of its share stays with the tile (its marks say
  which words have arrived); the other half travels with the copies and brings their marks home.
-/
module

public import proofs.«01_k».proof.Proof.Row

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The blocks of the flat buffer -/

/-- Block `b` of the first (`s = 0`) or second (`s = 1`) segment's tokens in the flat buffer. -/
abbrev bset (b s : ℕ) : Finset S73744.Idx := seg (16 + 36864 * s + 6144 * b) (16 + 36864 * s + 6144 * b + 6144)

/-- The blocks from `b` on, of both segments. -/
def future (b : ℕ) : Finset S73744.Idx := Finset.univ.filter fun i => 16 ≤ (i 0).val ∧ b ≤ ((i 0).val - 16) % 36864 / 6144

/-- The special words and the blocks before `b`. -/
def past (b : ℕ) : Finset S73744.Idx := Finset.univ.filter fun i => (i 0).val < 16 ∨ ((i 0).val - 16) % 36864 / 6144 < b

theorem mem_future {b : ℕ} {i : S73744.Idx} : i ∈ future b ↔ 16 ≤ (i 0).val ∧ b ≤ ((i 0).val - 16) % 36864 / 6144 := by
  simp only [future, Finset.mem_filter, Finset.mem_univ, true_and]

theorem mem_past {b : ℕ} {i : S73744.Idx} : i ∈ past b ↔ (i 0).val < 16 ∨ ((i 0).val - 16) % 36864 / 6144 < b := by
  simp only [past, Finset.mem_filter, Finset.mem_univ, true_and]

theorem idx73744 (i : S73744.Idx) : (i 0).val < 73744 := (i 0).isLt

theorem bset_disj {b : ℕ} (hb : b < 6) : Disjoint (bset b 0) (bset b 1) :=
  Finset.disjoint_left.mpr fun i h0 h1 => by rw [mem_seg] at h0 h1; omega

theorem future_split {b : ℕ} (hb : b < 6) : future b = (bset b 0 ∪ bset b 1) ∪ future (b + 1) := by
  ext i
  have := idx73744 i
  simp only [Finset.mem_union, mem_future, mem_seg]
  omega

theorem future_disj {b : ℕ} (hb : b < 6) : Disjoint (bset b 0 ∪ bset b 1) (future (b + 1)) :=
  Finset.disjoint_left.mpr fun i h0 h1 => by
    have := idx73744 i
    simp only [Finset.mem_union, mem_seg] at h0; rw [mem_future] at h1; omega

theorem past_split {b : ℕ} (hb : b < 6) : past (b + 1) = past b ∪ (bset b 0 ∪ bset b 1) := by
  ext i
  have := idx73744 i
  simp only [Finset.mem_union, mem_past, mem_seg]
  omega

theorem past_disj {b : ℕ} (hb : b < 6) : Disjoint (past b) (bset b 0 ∪ bset b 1) :=
  Finset.disjoint_left.mpr fun i h0 h1 => by
    have := idx73744 i
    simp only [Finset.mem_union, mem_seg] at h1; rw [mem_past] at h0; omega

theorem past_six : past 6 = Finset.univ := by
  ext i
  have := idx73744 i
  simp only [mem_past, Finset.mem_univ, iff_true]
  omega

theorem past_future : past 0 ∪ future 0 = Finset.univ := by
  ext i
  simp only [Finset.mem_union, mem_past, mem_future, Finset.mem_univ, iff_true]
  omega

theorem past_future_disj : Disjoint (past 0) (future 0) :=
  Finset.disjoint_left.mpr fun i h0 h1 => by rw [mem_past] at h0; rw [mem_future] at h1; omega

theorem blockMarked_past (b : ℕ) : BlockMarked b (past (b + 1)) := fun i h => by
  rw [mem_past]; omega

/-! ## The flat buffer in write mode -/

/-- The share of the flat buffer that stays with the tile, and the one its incoming copies carry. -/
abbrev qL : PosShare TreeShare := fullShare.left
abbrev qR : PosShare TreeShare := fullShare.right

/-- The tile's number among the thirty-two. -/
def wid (L : grid0.Coords) : ℕ := 2 * (L 1).val + (L 0).val

theorem wid_lt (L : grid0.Coords) : wid L < 32 := by
  have h0 : (L 0).val < 2 := (L 0).isLt
  have h1 : (L 1).val < 16 := (L 1).isLt
  unfold wid; omega

section Tile

variable [FloatOps F] (d : Dev nD) (L : grid0.Coords) (t : TileData) (ιwm : ℕ) (f₀ : Buf (Elt F) ((thr d L).loc cc0_scratch0))

/-- A part of the flat buffer in write mode, its targets the words it is to hold. -/
abbrev wb (I : Finset S73744.Idx) (q : PosShare TreeShare) (W : Finset S73744.Idx) : sProp (MM F) :=
  willBeTo emb ((thr d L).loc cc0_scratch0) I q f₀ (fun i => some (combB d L t i)) W

theorem wb_union {I J : Finset S73744.Idx} (h : Disjoint I J) (q : PosShare TreeShare) (W : Finset S73744.Idx) :
    wb d L t f₀ (I ∪ J) q W ⊣⊢ iprop(wb d L t f₀ I q W ∗ wb d L t f₀ J q W) :=
  BI.Region.held_union h

theorem wb_congr {I : Finset S73744.Idx} {q : PosShare TreeShare} {W W' : Finset S73744.Idx} (h : ∀ i ∈ I, i ∈ W ↔ i ∈ W') :
    wb d L t f₀ I q W = wb d L t f₀ I q W' :=
  BI.Region.willBe_congr (fun _ _ => rfl) (fun _ _ => rfl) h

/-- Splitting the share keeps the marks. -/
theorem wb_share {I : Finset S73744.Idx} {q q₁ q₂ : PosShare TreeShare} (h : q ∈ PCS.op q₁ q₂) (W : Finset S73744.Idx) :
    wb d L t f₀ I q W ⊣⊢ iprop(wb d L t f₀ I q₁ W ∗ wb d L t f₀ I q₂ W) :=
  BI.Region.held_share h fun i _ => by
    have  := Region.WB.mem_mk_op_mk (f₀ i) (some (combB d L t i)) (decide (i ∈ W)) (decide (i ∈ W))
    rwa [Bool.or_self] at this

/-- What the one half-share knows to be written, the other learns. -/
theorem wb_learn (I W : Finset S73744.Idx) :
    iprop(wb d L t f₀ Finset.univ qL W ∗ wb d L t f₀ I qR Finset.univ)
      ⊢ iprop(wb d L t f₀ Finset.univ qL (W ∪ I) ∗ wb d L t f₀ I qR Finset.univ) := by
  have hsplit (W' : Finset S73744.Idx) : wb d L t f₀ Finset.univ qL W' ⊣⊢ iprop(wb d L t f₀ I qL W' ∗ wb d L t f₀ (Finset.univ \ I) qL W') :=
    BI.Region.held_split_subset (Finset.subset_univ I)
  have hjoin : iprop(wb d L t f₀ I qL W ∗ wb d L t f₀ I qR Finset.univ) ⊢ wb d L t f₀ I fullShare Finset.univ :=
    (BI.Region.held_share (PosShare.mem_left_op_right fullShare) fun i _ => by
      have  := Region.WB.mem_mk_op_mk (f₀ i) (some (combB d L t i)) (decide (i ∈ W)) (decide (i ∈ (Finset.univ : Finset S73744.Idx)))
      simpa only [Finset.mem_univ, decide_true, Bool.or_true] using this).2
  iintro ⟨HL, HR⟩
  ihave HL := (hsplit W).1 $$ HL
  icases HL with ⟨HI, HO⟩
  ihave H := hjoin $$ [HI HR]
  · isplitl [HI] <;> iassumption
  ihave H := (wb_share d L t f₀ (PosShare.mem_left_op_right fullShare) Finset.univ).1 $$ H
  icases H with ⟨HI, HR⟩
  isplitr [HR]
  · iapply (hsplit (W ∪ I)).2
    isplitl [HI]
    · iapply (Entails.of_eq (wb_congr d L t f₀ (I := I) (W := Finset.univ) (W' := W ∪ I) (fun i hi => by simp [hi]))) $$ HI
    · iapply (Entails.of_eq (wb_congr d L t f₀ (I := Finset.univ \ I) (W := W) (W' := W ∪ I) (fun i hi => by
        have := (Finset.mem_sdiff.mp hi).2
        simp [this]))) $$ HO
  · iexact HR

/-! ## A block's two copies coming in -/

/-- The amount one incoming copy signals, and one outgoing. -/
abbrev NI : ℕ := (cc0_scratch0 : Ref sig .scVector).dmaCredit S6144 .i32
abbrev NO : ℕ := (main_v6_scv : Ref sig .scVector).dmaCredit S8192 .i32

/-- The tile's part of a token array. -/
abbrev tokSeg : Finset S1179648.Idx := seg (36864 * wid L) (36864 * wid L + 36864)

variable (g1 : Buf (Elt F) ((thr d L).loc main_v1_scv)) (g3 : Buf (Elt F) ((thr d L).loc main_v3_scv))

/-- What a block's two copies deliver: its words of the flat buffer, marked, and the sources' shares. -/
def inD (b : ℕ) (q : PosShare TreeShare) : Fin 2 → sProp (MM F) := fun s =>
  iprop(wb d L t f₀ (bset b s.val) qR Finset.univ
    ∗ (if s.val = 0 then ((thr d L).loc main_v1_scv ↦[tokSeg L]{q} g1) else ((thr d L).loc main_v3_scv ↦[tokSeg L]{q} g3)))

instance (b : ℕ) (q : PosShare TreeShare) (s : Fin 2) : Storable (upEmb : UEmb _ (MM F)) (inD d L t f₀ g1 g3 b q s) := by
  unfold inD; split <;> infer_instance

/-- A block in flight. -/
abbrev inFlight (sem : DmaSem sig) (b : ℕ) (q : PosShare TreeShare) (j u : ℕ) : sProp (MM F) :=
  Batch EC (thr d L) (.dma sem) (none : HIx 1) NI (inD d L t f₀ g1 g3 b q) j u

/-- One copy of a block set going: the piece of the array it reads leaves with it, with the words of the flat buffer it fills. -/
theorem wp_inPiece {α : Type} {Q : α → sProp (MM F)} {sem : DmaSem sig} {b : ℕ} (hb : b < 6) (s : Fin 2) {qb q : PosShare TreeShare}
    (r : Memref sig .scVector .hbm S1179648 .i32) {g : Buf (Elt F) (r.view.loc (thr d L))}
    (hread : ∀ i (h : 36864 * wid L + i < 1179648), i < 36864 → r.view.read (Elt F) g (pos (36864 * wid L + i) h) = t.comb (16 + 36864 * s.val + i))
    {offs offd : Fin 1 → ℕ} (hs : offs = ![36864 * wid L + 6144 * b]) (hd : offd = ![16 + 36864 * s.val + 6144 * b])
    (inbs : ∀ a, offs a + S6144.size a ≤ S1179648.size a) (inbd : ∀ a, offd a + S6144.size a ≤ S73744.size a)
    (hD : iprop((r.view.loc (thr d L) ↦[r.view.setOn (tokSeg L)]{q} g) ∗ wb d L t f₀ (bset b s.val) qR Finset.univ) ⊢ inD d L t f₀ g1 g3 b qb s)
    (hw : (r.slice (Rect.unit (s := S1179648) offs S6144.size inbs) (fun _ => rfl)).view.WordExact)
    (hw' : (sC.slice (Rect.unit (s := S73744) offd S6144.size inbd) (fun _ => rfl)).view.WordExact)
    (hty : DmaTarget.Typed (nD := nD) (p := (thr d L).2) .hbm (.dma sem) (.here (sC.slice (Rect.unit (s := S73744) offd S6144.size inbd) (fun _ => rfl))))
    (k : PUnit → Prog (TpuEff nD τ sig (Elt F) Λ₀ (thr d L).2) α) :
    iprop(wmInv emb ιwm ∗ (r.view.loc (thr d L) ↦[r.view.setOn (tokSeg L)]{q} g) ∗ wb d L t f₀ (bset b s.val) qR ∅
        ∗ inFlight d L t f₀ g1 g3 sem b qb s.val 0)
      ⊢ iprop((inFlight d L t f₀ g1 g3 sem b qb (s.val + 1) 0 -∗ wp frame (wpE (defs₀ (F := F)) 𝒱₀ (thr d L) none) Set.univ (k ⟨⟩) Q)
        -∗ wp frame (wpE (defs₀ (F := F)) 𝒱₀ (thr d L) none) Set.univ
            (.op (.enqueueDma (r.slice (Rect.unit (s := S1179648) offs S6144.size inbs) (fun _ => rfl))
              (.here (sC.slice (Rect.unit (s := S73744) offd S6144.size inbd) (fun _ => rfl))) (.dma sem) hw hw' hty) k) Q) := by
  have hset : (r.slice (Rect.unit (s := S1179648) offs S6144.size inbs) (fun _ => rfl)).view.set
      = r.view.setOn (seg (36864 * wid L + 6144 * b) (36864 * wid L + 6144 * b + 6144)) := set_slice_unit r.view hs inbs
  have hsub : (r.slice (Rect.unit (s := S1179648) offs S6144.size inbs) (fun _ => rfl)).view.set ⊆ r.view.setOn (tokSeg L) := by
    rw [hset]
    exact Finset.map_subset_map.mpr fun i hi => by rw [mem_seg] at hi ⊢; omega
  have hdst : (sC.slice (Rect.unit (s := S73744) offd S6144.size inbd) (fun _ => rfl)).view.set = bset b s.val :=
    (set_slice_unit sC.view hd inbd).trans (setOn_whole _ _)
  have hadm : (sC.slice (Rect.unit (s := S73744) offd S6144.size inbd) (fun _ => rfl)).view.Admitted (Elt F)
      (fun i => some (combB d L t i))
      ((r.slice (Rect.unit (s := S1179648) offs S6144.size inbs) (fun _ => rfl)).view.read (Elt F) g) Finset.univ := by
    refine View.admitted_some_iff.mpr fun x _ => ?_
    have hx : (x 0).val < 6144 := (x 0).isLt
    have e1 := read_unit r.view hs inbs g x
    have e2 := read_unit (Val := Elt F) sC.view hd inbd (combB d L t) x
    refine e1.trans (Eq.trans ?_ e2.symm)
    have e3 := hread (6144 * b + (x 0).val) (by have := wid_lt L; omega) (by omega)
    have e4 : pos (n := 1179648) (36864 * wid L + 6144 * b + (x 0).val) (unit_lt hs inbs x)
        = pos (36864 * wid L + (6144 * b + (x 0).val)) (by have := wid_lt L; omega) := idx_ext (by rw [pos_val, pos_val]; omega)
    rw [e4, e3]
    exact congrArg t.comb (by show _ = 16 + 36864 * s.val + 6144 * b + (x 0).val; omega)
  iintro ⟨#Hinv, Hs, Hd, HB⟩ Hk
  unfold inFlight Batch
  icases HB with ⟨%γ, %γ₀, %κ, #Hbi, HI, H0, Hcred⟩
  ihave HI' := (show bigSep (pending s.val) (fun t => count EC (γ t) 0)
      ⊢ (iprop(count EC (γ s) 0 ∗ bigSep (pending (s.val + 1)) (fun t => count EC (γ t) 0)) : sProp (MM F))
    from Entails.of_eq (by rw [pending_succ s.isLt, bigSep_insert (not_mem_pending_succ s.isLt)]; rfl)) $$ HI
  icases HI' with ⟨Ht, HI⟩
  ihave Hs := (pointsTo_split_subset hsub).1 $$ Hs
  icases Hs with ⟨Hs, Hrest⟩
  iapply (wp_enqueueDma_willBeTo (emb := emb) (ιwm := ιwm) 𝒱₀ (thr d L) none Set.univ (none : HIx 1) NI rfl hadm
      (fs := g) (q := q) (qd := qR) (fd := f₀) (W := ∅) (src := r.slice (Rect.unit (s := S1179648) offs S6144.size inbs) (fun _ => rfl))
      (dst := sC.slice (Rect.unit (s := S73744) offd S6144.size inbd) (fun _ => rfl)) (sem := .dma sem)) $$ [Hs Hd] [Ht Hrest]
  · isplitl [Hs]; · iexact Hs
    isplitr; · iexact Hinv
    rw [hdst]; iexact Hd
  · iapply (batch_creditUpdate_with EC s
      (put := iprop(r.view.loc (thr d L) ↦[r.view.setOn (tokSeg L) \ (r.slice (Rect.unit (s := S1179648) offs S6144.size inbs) (fun _ => rfl)).view.set]{q} g)) (by
        refine BIBase.Entails.trans ?_ hD
        iintro ⟨Hrest, Hd, Hs⟩
        isplitr [Hd]
        · iapply (pointsTo_split_subset hsub).2
          isplitl [Hs] <;> iassumption
        · rw [hdst, wb_congr d L t f₀ (W := Finset.univ) (W' := ∅ ∪ bset b s.val) (fun i hi => by simp [hi])]
          iexact Hd))
    isplitr; · iexact Hbi
    isplitl [Ht] <;> iassumption
  iintro Hcred'
  iapply Hk
  iexists γ, γ₀, κ
  isplitr; · iexact Hbi
  isplitl [HI]; · iexact HI
  isplitl [H0]; · iexact H0
  rw [show (s.val + 1) * NI - 0 = (s.val * NI - 0) + NI by rw [Nat.succ_mul]; omega, ← tallyAt_add]
  icombine Hcred Hcred' as H
  iexact H

/-- The tile's parts of the two token arrays hold the tokens `t` names. -/
structure Toks : Prop where
  tok0 : ∀ i (h : 36864 * wid L + i < 1179648), i < 36864 → (show IVec S1179648 32 from g1) (pos (36864 * wid L + i) h) = t.tok0 i
  tok1 : ∀ i (h : 36864 * wid L + i < 1179648), i < 36864 → (show IVec S1179648 32 from g3) (pos (36864 * wid L + i) h) = t.tok1 i

variable {L t g1 g3}

theorem Toks.comb0 (h : Toks d L t g1 g3) (i : ℕ) (hi : 36864 * wid L + i < 1179648) (hl : i < 36864) :
    (Memref.whole main_v1_scv).view.read (Elt F) g1 (pos (36864 * wid L + i) hi) = t.comb (16 + 36864 * 0 + i) := by
  refine (h.tok0 i hi hl).trans ?_
  unfold TileData.comb
  rw [if_neg (by omega), if_pos (by omega)]
  exact congrArg t.tok0 (by omega)

theorem Toks.comb1 (h : Toks d L t g1 g3) (i : ℕ) (hi : 36864 * wid L + i < 1179648) (hl : i < 36864) :
    (Memref.whole main_v3_scv).view.read (Elt F) g3 (pos (36864 * wid L + i) hi) = t.comb (16 + 36864 * 1 + i) := by
  refine (h.tok1 i hi hl).trans ?_
  unfold TileData.comb
  rw [if_neg (by omega), if_neg (by omega)]
  exact congrArg t.tok1 (by omega)

variable (L t g1 g3)

theorem inD_zero (b : ℕ) (q : PosShare TreeShare) :
    inD d L t f₀ g1 g3 b q 0 = iprop(wb d L t f₀ (bset b 0) qR Finset.univ ∗ ((thr d L).loc main_v1_scv ↦[tokSeg L]{q} g1)) := rfl

theorem inD_one (b : ℕ) (q : PosShare TreeShare) :
    inD d L t f₀ g1 g3 b q 1 = iprop(wb d L t f₀ (bset b 1) qR Finset.univ ∗ ((thr d L).loc main_v3_scv ↦[tokSeg L]{q} g3)) := rfl

/-- Block `b` set going: its two copies, under one semaphore. -/
theorem wp_inIssue (ht : Toks d L t g1 g3) {α : Type} {Q : α → sProp (MM F)} {sem : DmaSem sig} {b : ℕ} (hb : b < 6) {q : PosShare TreeShare}
    {os os' od od' : Fin 1 → ℕ} (hos : os = ![36864 * wid L + 6144 * b]) (hos' : os' = ![36864 * wid L + 6144 * b])
    (hod : od = ![16 + 6144 * b]) (hod' : od' = ![36880 + 6144 * b])
    (is : ∀ a, os a + S6144.size a ≤ S1179648.size a) (is' : ∀ a, os' a + S6144.size a ≤ S1179648.size a)
    (id : ∀ a, od a + S6144.size a ≤ S73744.size a) (id' : ∀ a, od' a + S6144.size a ≤ S73744.size a)
    (w1 : ((Memref.whole main_v1_scv).slice (Rect.unit (s := S1179648) os S6144.size is) (fun _ => rfl)).view.WordExact)
    (w2 : (sC.slice (Rect.unit (s := S73744) od S6144.size id) (fun _ => rfl)).view.WordExact)
    (w3 : ((Memref.whole main_v3_scv).slice (Rect.unit (s := S1179648) os' S6144.size is') (fun _ => rfl)).view.WordExact)
    (w4 : (sC.slice (Rect.unit (s := S73744) od' S6144.size id') (fun _ => rfl)).view.WordExact)
    (ty1 : DmaTarget.Typed (nD := nD) (p := (thr d L).2) .hbm (.dma sem) (.here (sC.slice (Rect.unit (s := S73744) od S6144.size id) (fun _ => rfl))))
    (ty2 : DmaTarget.Typed (nD := nD) (p := (thr d L).2) .hbm (.dma sem) (.here (sC.slice (Rect.unit (s := S73744) od' S6144.size id') (fun _ => rfl))))
    (k : PUnit → Prog (TpuEff nD τ sig (Elt F) Λ₀ (thr d L).2) α) :
    iprop(wmInv emb ιwm ∗ ((thr d L).loc main_v1_scv ↦[tokSeg L]{q} g1) ∗ ((thr d L).loc main_v3_scv ↦[tokSeg L]{q} g3)
        ∗ wb d L t f₀ (future b) qR ∅ ∗ semVal (thr d L, SemLoc.dma sem) 0)
      ⊢ iprop((iprop(inFlight d L t f₀ g1 g3 sem b q 2 0 ∗ wb d L t f₀ (future (b + 1)) qR ∅)
            -∗ wp frame (wpE (defs₀ (F := F)) 𝒱₀ (thr d L) none) Set.univ (k ⟨⟩) Q)
        -∗ wp frame (wpE (defs₀ (F := F)) 𝒱₀ (thr d L) none) Set.univ
            (.op (.enqueueDma ((Memref.whole main_v1_scv).slice (Rect.unit (s := S1179648) os S6144.size is) (fun _ => rfl))
              (.here (sC.slice (Rect.unit (s := S73744) od S6144.size id) (fun _ => rfl))) (.dma sem) w1 w2 ty1) fun _ =>
             .op (.enqueueDma ((Memref.whole main_v3_scv).slice (Rect.unit (s := S1179648) os' S6144.size is') (fun _ => rfl))
              (.here (sC.slice (Rect.unit (s := S73744) od' S6144.size id') (fun _ => rfl))) (.dma sem) w3 w4 ty2) k) Q) := by
  iintro ⟨#Hinv, H1, H3, HF, Hv⟩ Hk
  ihave HF := (Entails.of_eq (congrArg (fun I => wb d L t f₀ I qR ∅) (future_split hb))) $$ HF
  ihave HF := (wb_union d L t f₀ (future_disj hb) qR ∅).1 $$ HF
  icases HF with ⟨HB, HF⟩
  ihave HB := (wb_union d L t f₀ (bset_disj hb) qR ∅).1 $$ HB
  icases HB with ⟨HB0, HB1⟩
  imod (batch_alloc' EC (thr d L) (none : HIx 1) NI (inD d L t f₀ g1 g3 b q) (sm := .dma sem) (E := Set.univ)) $$ Hv with HB
  iapply (wp_inPiece d L t ιwm f₀ g1 g3 hb 0 (qb := q) (q := q) (Memref.whole main_v1_scv) (g := g1) (ht.comb0 d) hos (hod.trans (by congr 1)) is id (by
    rw [inD_zero, setOn_whole]
    exact sep_comm.1) w1 w2 ty1) $$ [H1 HB0 HB]
  · isplitr; · iexact Hinv
    isplitl [H1]; · rw [setOn_whole]; iexact H1
    isplitl [HB0]; · iexact HB0
    iexact HB
  iintro HB
  iapply (wp_inPiece d L t ιwm f₀ g1 g3 hb 1 (qb := q) (q := q) (Memref.whole main_v3_scv) (g := g3) (ht.comb1 d) hos' (hod'.trans (by congr 1)) is' id' (by
    rw [inD_one, setOn_whole]
    exact sep_comm.1) w3 w4 ty2) $$ [H3 HB1 HB]
  · isplitr; · iexact Hinv
    isplitl [H3]; · rw [setOn_whole]; iexact H3
    isplitl [HB1]; · iexact HB1
    iexact HB
  iintro HB
  iapply Hk
  isplitl [HB]; · iexact HB
  iexact HF

/-! ## Waiting -/

/-- What the tile owes, whatever it has waited for beyond `W` at the kernel's own index. -/
def owesX (O : CellTallies nD τ sig (HIx 1)) (W : Waits sig (HIx 1)) : sProp (MM F) :=
  iprop(∃ W', ⌜∀ p ∈ W', p ∈ W ∨ p.2 = none⌝ ∗ owes (thr d L) O W')

theorem owesX_insert {O : CellTallies nD τ sig (HIx 1)} {W W' : Waits sig (HIx 1)} (sem : DmaSem sig) (h : ∀ p ∈ W', p ∈ W ∨ p.2 = none) :
    owes (thr d L) O (insert (SemLoc.dma sem, none) W') ⊢ (owesX d L O W : sProp (MM F)) := by
  unfold owesX
  iintro H
  iexists _
  isplitr [H]
  swap; · iexact H
  ipureintro
  intro p hp
  rcases Finset.mem_insert.mp hp with rfl | hp
  · exact .inr rfl
  · exact h p hp

/-- Block `b` waited for: its two waits. The flat buffer's marks now cover the block, and the sources are back. -/
theorem wp_inWait {α : Type} {Q : α → sProp (MM F)} {sem : DmaSem sig} {b : ℕ} (hb : b < 6) {q : PosShare TreeShare}
    {O : CellTallies nD τ sig (HIx 1)} (hO : ∀ g, O g none = 0) {W : Waits sig (HIx 1)}
    {od od' : Fin 1 → ℕ}
    (s1 s2 : Memref sig .scVector .hbm S6144 .i32)
    (id : ∀ a, od a + S6144.size a ≤ S73744.size a) (id' : ∀ a, od' a + S6144.size a ≤ S73744.size a)
    (w1 : s1.view.WordExact)
    (w2 : (sC.slice (Rect.unit (s := S73744) od S6144.size id) (fun _ => rfl)).view.WordExact)
    (w3 : s2.view.WordExact)
    (w4 : (sC.slice (Rect.unit (s := S73744) od' S6144.size id') (fun _ => rfl)).view.WordExact)
    (k : PUnit → Prog (TpuEff nD τ sig (Elt F) Λ₀ (thr d L).2) α) :
    iprop(levAts (K (F := F)).L (K (F := F)).lev ∗ inFlight d L t f₀ g1 g3 sem b q 2 0 ∗ owesX d L O W
        ∗ wb d L t f₀ Finset.univ qL (past b) ∗ wb d L t f₀ (past b) qR Finset.univ)
      ⊢ iprop((iprop(((thr d L).loc main_v1_scv ↦[tokSeg L]{q} g1) ∗ ((thr d L).loc main_v3_scv ↦[tokSeg L]{q} g3)
                ∗ semVal (thr d L, SemLoc.dma sem) 0 ∗ owesX d L O W
                ∗ wb d L t f₀ Finset.univ qL (past (b + 1)) ∗ wb d L t f₀ (past (b + 1)) qR Finset.univ)
            -∗ wp frame (wpE (defs₀ (F := F)) 𝒱₀ (thr d L) none) Set.univ (k ⟨⟩) Q)
        -∗ wp frame (wpE (defs₀ (F := F)) 𝒱₀ (thr d L) none) Set.univ
            (.op (.waitDma2 sem s1 (sC.slice (Rect.unit (s := S73744) od S6144.size id) (fun _ => rfl)) w1 w2) fun _ =>
             .op (.waitDma2 sem s2 (sC.slice (Rect.unit (s := S73744) od' S6144.size id') (fun _ => rfl)) w3 w4) k) Q) := by
  have hN0 : 0 < NI := View.dmaCredit_pos (sC.slice (Rect.unit (s := S73744) od S6144.size id) (fun _ => rfl)).view (show 0 < S6144.numel by decide)
  iintro ⟨#Hlev, HB, Ho, HL, HR⟩ Hk
  ihave Ho := (show owesX d L O W ⊢ (iprop(∃ W', ⌜∀ p ∈ W', p ∈ W ∨ p.2 = none⌝ ∗ owes (thr d L) O W') : sProp (MM F)) from .rfl) $$ Ho
  icases Ho with ⟨%W', %hW', Ho⟩
  iapply (wp_waitBatchO EC 𝒱₀ (thr d L) none (none : HIx 1) (N := NI) rfl (D := inD d L t f₀ g1 g3 b q) (u := 0) (by omega)) $$ [HB Ho]
  · isplitl [HB]; · iexact HB
    isplitl [Ho]; · iexact Ho
    iapply ((K (F := F)).mayWait_none (SemLoc.dma sem) hO) $$ Hlev
  iintro ⟨HB, Ho⟩
  iapply (wp_waitBatchLastO EC 𝒱₀ (thr d L) none (none : HIx 1) (N := NI) rfl hN0 (D := inD d L t f₀ g1 g3 b q) (u := 0 + NI) (by omega)) $$ [HB Ho]
  · isplitl [HB]; · iexact HB
    isplitl [Ho]; · iexact Ho
    iapply ((K (F := F)).mayWait_none (SemLoc.dma sem) hO) $$ Hlev
  iintro ⟨HD, Hv, Ho⟩
  ihave HD := (show bigSep Finset.univ (inD d L t f₀ g1 g3 b q) ⊢ iprop(inD d L t f₀ g1 g3 b q 0 ∗ inD d L t f₀ g1 g3 b q 1) by
    rw [show (Finset.univ : Finset (Fin 2)) = {0, 1} by decide, bigSep_insert (by decide), bigSep_singleton]; exact .rfl) $$ HD
  rw [inD_zero, inD_one]
  icases HD with ⟨⟨HB0, H1⟩, HB1, H3⟩
  ihave HB := (wb_union d L t f₀ (bset_disj hb) qR Finset.univ).2 $$ [HB0 HB1]
  · isplitl [HB0] <;> iassumption
  ihave H := (wb_learn d L t f₀ _ _) $$ [HL HB]
  · isplitl [HL] <;> iassumption
  icases H with ⟨HL, HB⟩
  iapply Hk
  isplitl [H1]; · iexact H1
  isplitl [H3]; · iexact H3
  isplitl [Hv]; · iexact Hv
  isplitl [Ho]
  · iapply (owesX_insert d L sem (W := W) (W' := insert (SemLoc.dma sem, none) W') (fun p hp => by
      rcases Finset.mem_insert.mp hp with rfl | hp
      · exact .inr rfl
      · exact hW' p hp)) $$ Ho
  rw [past_split hb]
  isplitl [HL]; · iexact HL
  iapply (wb_union d L t f₀ (past_disj hb) qR Finset.univ).2
  isplitl [HR] <;> iassumption

/-! ## A packed block leaving -/

/-- The tile's part of the result: from here on, row by row. -/
abbrev outBase : ℕ := 49152 * wid L

/-- What the tile's part of the result is to hold. -/
def outB : Buf (Elt F) ((thr d L).loc main_v6_scv) := fun (i : S2097152.Idx) => t.row (((i 0).val - outBase L) / 512) (((i 0).val - outBase L) % 512)

/-- Block `b` of the tile's part of the result. -/
abbrev oset (b : ℕ) : Finset S2097152.Idx := seg (outBase L + 8192 * b) (outBase L + 8192 * b + 8192)

/-- What a block's copy out delivers: the block in the result, and the half of the output buffer it left from. -/
def outD (b o : ℕ) : sProp (MM F) :=
  iprop(((thr d L).loc main_v6_scv ↦[oset L b]{fullShare} outB d L t)
    ∗ ∃ f, ((thr d L).loc cc0_scratch4 ↦[seg o (o + 8192)]{fullShare} f))

/-- A block on its way out. -/
abbrev outFlight (sem : DmaSem sig) (b o : ℕ) : sProp (MM F) :=
  Flight EC (thr d L) (.dma sem) (none : HIx 1) NO (outD d L t b o)

/-- A packed block set going. -/
theorem wp_outIssue {α : Type} {Q : α → sProp (MM F)} {sem : DmaSem sig} {b o : ℕ} (ho : o = 0 ∨ o = 8192)
    {os od : Fin 1 → ℕ} (hos : os = ![o]) (hod : od = ![outBase L + 8192 * b])
    (is : ∀ a, os a + S8192.size a ≤ S16384.size a) (id : ∀ a, od a + S8192.size a ≤ S2097152.size a)
    (w1 : (sO.slice (Rect.unit (s := S16384) os S8192.size is) (fun _ => rfl)).view.WordExact)
    (w2 : ((Memref.whole main_v6_scv).slice (Rect.unit (s := S2097152) od S8192.size id) (fun _ => rfl)).view.WordExact)
    (ty : DmaTarget.Typed (nD := nD) (p := (thr d L).2) .vmem (.dma sem)
      (.here ((Memref.whole main_v6_scv).slice (Rect.unit (s := S2097152) od S8192.size id) (fun _ => rfl))))
    {f : Buf (Elt F) ((thr d L).loc cc0_scratch4)} {fd : Buf (Elt F) ((thr d L).loc main_v6_scv)}
    (hf : ∀ i : S16384.Idx, o ≤ (i 0).val → (i 0).val < o + 8192 → f i = outAt t b (i 0).val)
    (k : PUnit → Prog (TpuEff nD τ sig (Elt F) Λ₀ (thr d L).2) α) :
    iprop(((thr d L).loc cc0_scratch4 ↦[seg o (o + 8192)]{fullShare} f) ∗ ((thr d L).loc main_v6_scv ↦[oset L b]{fullShare} fd)
        ∗ semVal (thr d L, SemLoc.dma sem) 0)
      ⊢ iprop((outFlight d L t sem b o -∗ wp frame (wpE (defs₀ (F := F)) 𝒱₀ (thr d L) none) Set.univ (k ⟨⟩) Q)
        -∗ wp frame (wpE (defs₀ (F := F)) 𝒱₀ (thr d L) none) Set.univ
            (.op (.enqueueDma (sO.slice (Rect.unit (s := S16384) os S8192.size is) (fun _ => rfl))
              (.here ((Memref.whole main_v6_scv).slice (Rect.unit (s := S2097152) od S8192.size id) (fun _ => rfl))) (.dma sem) w1 w2 ty) k) Q) := by
  have hN0 : 0 < NO := View.dmaCredit_pos ((Memref.whole main_v6_scv).slice (Rect.unit (s := S2097152) od S8192.size id) (fun _ => rfl)).view (show 0 < S8192.numel by decide)
  have hsrc : (sO.slice (Rect.unit (s := S16384) os S8192.size is) (fun _ => rfl)).view.set = seg o (o + 8192) :=
    (set_slice_unit sO.view hos is).trans (setOn_whole _ _)
  have hdst : ((Memref.whole main_v6_scv).slice (Rect.unit (s := S2097152) od S8192.size id) (fun _ => rfl)).view.set = oset L b :=
    (set_slice_unit (Memref.whole main_v6_scv).view hod id).trans (setOn_whole _ _)
  iintro ⟨Hs, Hd, Hv⟩ Hk
  iapply (wp_dmaLocal EC 𝒱₀ (thr d L) none (none : HIx 1) NO rfl hN0 (fs := f) (fd := fd) (q := fullShare) (Sd := oset L b) hdst.subset
    (src := sO.slice (Rect.unit (s := S16384) os S8192.size is) (fun _ => rfl))
    (dst := (Memref.whole main_v6_scv).slice (Rect.unit (s := S2097152) od S8192.size id) (fun _ => rfl)) (sm := .dma sem)) $$ [Hs Hd Hv]
  · isplitl [Hs]; · rw [hsrc]; iexact Hs
    isplitl [Hd] <;> iassumption
  iintro HF
  iapply Hk
  iapply (Flight_mono EC (thr d L) (show _ ⊢ outD d L t b o from ?_)) $$ HF
  unfold outD
  iintro ⟨Hd, Hs⟩
  isplitl [Hd]
  · iapply (Entails.of_eq (pointsTo_congr (fun i hi => ?_))) $$ Hd
    have hi' := mem_seg.mp hi
    have e := write_unit_mem (Val := Elt F) (Memref.whole main_v6_scv).view hod id fd
      ((sO.slice (Rect.unit (s := S16384) os S8192.size is) (fun _ => rfl)).view.read (Elt F) f) i hi'.1 (by omega)
    refine Eq.trans e ?_
    have e2 := read_unit (Val := Elt F) sO.view hos is f (pos ((i 0).val - (outBase L + 8192 * b)) (by omega))
    refine Eq.trans e2 ?_
    have hx : o + ((i 0).val - (outBase L + 8192 * b)) < 16384 := by omega
    refine (hf (pos (o + ((i 0).val - (outBase L + 8192 * b))) hx) (by rw [pos_val]; omega) (by rw [pos_val]; omega)).trans ?_
    rw [pos_val]
    unfold outAt outB
    exact congr (congrArg t.row (by rcases ho with rfl | rfl <;> omega)) (by rcases ho with rfl | rfl <;> omega)
  · iexists f
    rw [hsrc]; iexact Hs

/-- A packed block's copy waited for. -/
theorem wp_outWait {α : Type} {Q : α → sProp (MM F)} {sem : DmaSem sig} {b o : ℕ}
    {O : CellTallies nD τ sig (HIx 1)} (hO : ∀ g, O g none = 0) {W : Waits sig (HIx 1)}
    {od : Fin 1 → ℕ} (s1 : Memref sig .scVector .vmem S8192 .i32)
    (id : ∀ a, od a + S8192.size a ≤ S2097152.size a)
    (w1 : s1.view.WordExact)
    (w2 : ((Memref.whole main_v6_scv).slice (Rect.unit (s := S2097152) od S8192.size id) (fun _ => rfl)).view.WordExact)
    (k : PUnit → Prog (TpuEff nD τ sig (Elt F) Λ₀ (thr d L).2) α) :
    iprop(levAts (K (F := F)).L (K (F := F)).lev ∗ outFlight d L t sem b o ∗ owesX d L O W)
      ⊢ iprop((iprop(outD d L t b o ∗ semVal (thr d L, SemLoc.dma sem) 0 ∗ owesX d L O W)
            -∗ wp frame (wpE (defs₀ (F := F)) 𝒱₀ (thr d L) none) Set.univ (k ⟨⟩) Q)
        -∗ wp frame (wpE (defs₀ (F := F)) 𝒱₀ (thr d L) none) Set.univ
            (.op (.waitDma2 sem s1 ((Memref.whole main_v6_scv).slice (Rect.unit (s := S2097152) od S8192.size id) (fun _ => rfl)) w1 w2) k) Q) := by
  iintro ⟨#Hlev, HF, Ho⟩ Hk
  ihave Ho := (show owesX d L O W ⊢ (iprop(∃ W', ⌜∀ p ∈ W', p ∈ W ∨ p.2 = none⌝ ∗ owes (thr d L) O W') : sProp (MM F)) from .rfl) $$ Ho
  icases Ho with ⟨%W', %hW', Ho⟩
  iapply (wp_waitLocalO EC 𝒱₀ (thr d L) none (none : HIx 1) (N := NO) rfl) $$ [HF Ho]
  · isplitl [HF]; · iexact HF
    isplitl [Ho]; · iexact Ho
    iapply ((K (F := F)).mayWait_none (SemLoc.dma sem) hO) $$ Hlev
  iintro ⟨HD, Hv, Ho⟩
  iapply Hk
  isplitl [HD]; · iexact HD
  isplitl [Hv]; · iexact Hv
  iapply (owesX_insert d L sem hW') $$ Ho

end Tile

end Cert.Proof.Pack

end
-- ==== Proof.Block.lean ====
/-
  One sixteen-row block of a tile: wait for its tokens, set the block after the next going, wait for the half of the
  output buffer to be free, pack the rows, send the half off. The even and the odd blocks differ in their semaphores
  and in the half they pack into; both are instances of one program text, run once here.
-/
module

public import proofs.«01_k».proof.Proof.Fly

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

section Tile

variable [FloatOps F] (d : Dev nD) (L : grid0.Coords) (t : TileData) (ιwm : ℕ) (f₀ : Buf (Elt F) ((thr d L).loc cc0_scratch0))
  (g1 : Buf (Elt F) ((thr d L).loc main_v1_scv)) (g3 : Buf (Elt F) ((thr d L).loc main_v3_scv)) (g6 : Buf (Elt F) ((thr d L).loc main_v6_scv))

/-! ## What is in flight -/

/-- Under an incoming semaphore: block `b`, if there is one; else nothing, and the sources' share is here. -/
def inSide (sem : DmaSem sig) (b : ℕ) (q : PosShare TreeShare) : sProp (MM F) :=
  if b < 6 then inFlight d L t f₀ g1 g3 sem b q 2 0
  else iprop(semVal (thr d L, SemLoc.dma sem) 0 ∗ ((thr d L).loc main_v1_scv ↦[tokSeg L]{q} g1) ∗ ((thr d L).loc main_v3_scv ↦[tokSeg L]{q} g3))

/-- Under an outgoing semaphore before block `b`: the block two before it, if there is one; else nothing, and its half of
    the output buffer is here. -/
def outSide (sem : DmaSem sig) (b o : ℕ) : sProp (MM F) :=
  if 2 ≤ b then outFlight d L t sem (b - 2) o
  else iprop(semVal (thr d L, SemLoc.dma sem) 0 ∗ ∃ f, ((thr d L).loc cc0_scratch4 ↦[seg o (o + 8192)]{fullShare} f))

/-- The blocks of the tile's part of the result that have landed, -/
def landed (b : ℕ) : sProp (MM F) := iprop((thr d L).loc main_v6_scv ↦[seg (outBase L) (outBase L + 8192 * b)]{fullShare} outB d L t)

/-- and those not yet sent. -/
def unsent (b : ℕ) : sProp (MM F) := iprop((thr d L).loc main_v6_scv ↦[seg (outBase L + 8192 * b) (outBase L + 49152)]{fullShare} g6)

theorem landed_step (b : ℕ) :
    iprop(landed d L t b ∗ ((thr d L).loc main_v6_scv ↦[oset L b]{fullShare} outB d L t)) ⊢ (landed d L t (b + 1) : sProp (MM F)) := by
  unfold landed
  rw [show (seg (outBase L) (outBase L + 8192 * (b + 1)) : Finset S2097152.Idx) = seg (outBase L) (outBase L + 8192 * b) ∪ oset L b from by
    ext i; rw [Finset.mem_union, mem_seg, mem_seg, mem_seg]; omega]
  exact (pointsTo_union (Finset.disjoint_left.mpr fun i h0 h1 => by rw [mem_seg] at h0 h1; omega)).2

theorem unsent_step {b : ℕ} (hb : b < 6) :
    unsent d L g6 b ⊢ (iprop(((thr d L).loc main_v6_scv ↦[oset L b]{fullShare} g6) ∗ unsent d L g6 (b + 1)) : sProp (MM F)) := by
  unfold unsent
  rw [show (seg (outBase L + 8192 * b) (outBase L + 49152) : Finset S2097152.Idx) = oset L b ∪ seg (outBase L + 8192 * (b + 1)) (outBase L + 49152) from by
    ext i; rw [Finset.mem_union, mem_seg, mem_seg, mem_seg]; omega]
  exact (pointsTo_union (Finset.disjoint_left.mpr fun i h0 h1 => by rw [mem_seg] at h0 h1; omega)).1

theorem future_none {b : ℕ} (hb : 6 ≤ b) : future b = ∅ := by
  ext i
  rw [mem_future]
  simp only [Finset.notMem_empty, iff_false]
  omega

/-! ## The two conditional steps -/

/-- Setting block `b` going, if there is one. -/
theorem wp_inIssueIf (ht : Toks d L t g1 g3) {α : Type} {Q : α → sProp (MM F)} {sem : DmaSem sig} {b : ℕ} {q : PosShare TreeShare} {c : BitVec 1} (hc : c = 1#1 ↔ b < 6)
    {os os' od od' : c = 1#1 → Fin 1 → ℕ} (hos : ∀ h, os h = ![36864 * wid L + 6144 * b]) (hos' : ∀ h, os' h = ![36864 * wid L + 6144 * b])
    (hod : ∀ h, od h = ![16 + 6144 * b]) (hod' : ∀ h, od' h = ![36880 + 6144 * b])
    (is : ∀ h a, os h a + S6144.size a ≤ S1179648.size a) (is' : ∀ h a, os' h a + S6144.size a ≤ S1179648.size a)
    (id : ∀ h a, od h a + S6144.size a ≤ S73744.size a) (id' : ∀ h a, od' h a + S6144.size a ≤ S73744.size a)
    (w1 : ∀ h, ((Memref.whole main_v1_scv).slice (Rect.unit (s := S1179648) (os h) S6144.size (is h)) (fun _ => rfl)).view.WordExact)
    (w2 : ∀ h, (sC.slice (Rect.unit (s := S73744) (od h) S6144.size (id h)) (fun _ => rfl)).view.WordExact)
    (w3 : ∀ h, ((Memref.whole main_v3_scv).slice (Rect.unit (s := S1179648) (os' h) S6144.size (is' h)) (fun _ => rfl)).view.WordExact)
    (w4 : ∀ h, (sC.slice (Rect.unit (s := S73744) (od' h) S6144.size (id' h)) (fun _ => rfl)).view.WordExact)
    (ty1 : ∀ h, DmaTarget.Typed (nD := nD) (p := (thr d L).2) .hbm (.dma sem) (.here (sC.slice (Rect.unit (s := S73744) (od h) S6144.size (id h)) (fun _ => rfl))))
    (ty2 : ∀ h, DmaTarget.Typed (nD := nD) (p := (thr d L).2) .hbm (.dma sem) (.here (sC.slice (Rect.unit (s := S73744) (od' h) S6144.size (id' h)) (fun _ => rfl))))
    (k : Prog (TpuEff nD τ sig (Elt F) Λ₀ (thr d L).2) α) :
    iprop(wmInv emb ιwm ∗ ((thr d L).loc main_v1_scv ↦[tokSeg L]{q} g1) ∗ ((thr d L).loc main_v3_scv ↦[tokSeg L]{q} g3)
        ∗ wb d L t f₀ (future b) qR ∅ ∗ semVal (thr d L, SemLoc.dma sem) 0)
      ⊢ iprop((iprop(inSide d L t f₀ g1 g3 sem b q ∗ wb d L t f₀ (future (b + 1)) qR ∅)
          -∗ wp frame (wpE (defs₀ (F := F)) 𝒱₀ (thr d L) none) Set.univ k Q)
        -∗ wp frame (wpE (defs₀ (F := F)) 𝒱₀ (thr d L) none) Set.univ
          (if h : c = 1#1 then
            .op (.enqueueDma ((Memref.whole main_v1_scv).slice (Rect.unit (s := S1179648) (os h) S6144.size (is h)) (fun _ => rfl))
              (.here (sC.slice (Rect.unit (s := S73744) (od h) S6144.size (id h)) (fun _ => rfl))) (.dma sem) (w1 h) (w2 h) (ty1 h)) fun _ =>
             .op (.enqueueDma ((Memref.whole main_v3_scv).slice (Rect.unit (s := S1179648) (os' h) S6144.size (is' h)) (fun _ => rfl))
              (.here (sC.slice (Rect.unit (s := S73744) (od' h) S6144.size (id' h)) (fun _ => rfl))) (.dma sem) (w3 h) (w4 h) (ty2 h)) fun _ => k
           else k) Q) := by
  by_cases h : c = 1#1
  · have hb := hc.mp h
    rw [dif_pos h]
    unfold inSide
    rw [if_pos hb]
    iintro ⟨#Hinv, H1, H3, HF, Hv⟩ Hk
    iapply (wp_inIssue d L t ιwm f₀ g1 g3 ht hb (q := q) (hos h) (hos' h) (hod h) (hod' h) (is h) (is' h) (id h) (id' h) (w1 h) (w2 h) (w3 h) (w4 h) (ty1 h) (ty2 h)) $$ [H1 H3 HF Hv]
    · isplitr; · iexact Hinv
      isplitl [H1]; · iexact H1
      isplitl [H3]; · iexact H3
      isplitl [HF] <;> iassumption
    iintro H
    iapply Hk
    iexact H
  · have hb : ¬b < 6 := fun hb => h (hc.mpr hb)
    rw [dif_neg h]
    unfold inSide
    rw [if_neg hb, future_none (by omega : 6 ≤ b), future_none (by omega : 6 ≤ b + 1)]
    iintro ⟨-, H1, H3, HF, Hv⟩ Hk
    iapply Hk
    isplitr [HF]
    · isplitl [Hv]; · iexact Hv
      isplitl [H1] <;> iassumption
    · iexact HF

/-- Waiting for the half of the output buffer that block `b` packs into, if a block is on its way out of it. -/
theorem wp_outWaitIf {α : Type} {Q : α → sProp (MM F)} {sem : DmaSem sig} {b o : ℕ} {c : BitVec 1} (hc : c = 1#1 ↔ 2 ≤ b)
    {O : CellTallies nD τ sig (HIx 1)} (hO : ∀ g, O g none = 0) {W : Waits sig (HIx 1)}
    {od : c = 1#1 → Fin 1 → ℕ} (s1 : Memref sig .scVector .vmem S8192 .i32)
    (id : ∀ h a, od h a + S8192.size a ≤ S2097152.size a)
    (w1 : c = 1#1 → s1.view.WordExact)
    (w2 : ∀ h, ((Memref.whole main_v6_scv).slice (Rect.unit (s := S2097152) (od h) S8192.size (id h)) (fun _ => rfl)).view.WordExact)
    (k : Prog (TpuEff nD τ sig (Elt F) Λ₀ (thr d L).2) α) :
    iprop(levAts (K (F := F)).L (K (F := F)).lev ∗ outSide d L t sem b o ∗ owesX d L O W ∗ landed d L t (b - 2))
      ⊢ iprop((iprop(semVal (thr d L, SemLoc.dma sem) 0 ∗ (∃ f, ((thr d L).loc cc0_scratch4 ↦[seg o (o + 8192)]{fullShare} f))
            ∗ owesX d L O W ∗ landed d L t (b - 1))
          -∗ wp frame (wpE (defs₀ (F := F)) 𝒱₀ (thr d L) none) Set.univ k Q)
        -∗ wp frame (wpE (defs₀ (F := F)) 𝒱₀ (thr d L) none) Set.univ
          (if h : c = 1#1 then
            .op (.waitDma2 sem s1 ((Memref.whole main_v6_scv).slice (Rect.unit (s := S2097152) (od h) S8192.size (id h)) (fun _ => rfl)) (w1 h) (w2 h)) fun _ => k
           else k) Q) := by
  by_cases h : c = 1#1
  · have hb := hc.mp h
    rw [dif_pos h]
    unfold outSide
    rw [if_pos hb]
    iintro ⟨#Hlev, HF, Ho, HL⟩ Hk
    iapply (wp_outWait d L t hO s1 (id h) (w1 h) (w2 h)) $$ [HF Ho]
    · isplitr; · iexact Hlev
      isplitl [HF] <;> iassumption
    unfold outD
    iintro ⟨⟨HD, Hf⟩, Hv, Ho⟩
    iapply Hk
    isplitl [Hv]; · iexact Hv
    isplitl [Hf]; · iexact Hf
    isplitl [Ho]; · iexact Ho
    rw [show b - 1 = (b - 2) + 1 by omega]
    iapply (landed_step d L t (b - 2))
    isplitl [HL] <;> iassumption
  · have hb : ¬2 ≤ b := fun hb => h (hc.mpr hb)
    rw [dif_neg h]
    unfold outSide
    rw [if_neg hb, show b - 1 = b - 2 by omega]
    iintro ⟨-, ⟨Hv, Hf⟩, Ho, HL⟩ Hk
    iapply Hk
    isplitl [Hv]; · iexact Hv
    isplitl [Hf]; · iexact Hf
    isplitl [Ho] <;> iassumption

/-! ## A block's text, up to its packed rows -/

/-- The text of one block: wait for its two copies, set the block after the next going, wait for the half of the output
    buffer, pack the rows, go on as `kk`. -/
def halfProg {α : Type} (semI semO : DmaSem sig) (s1 s2 : Memref sig .scVector .hbm S6144 .i32)
    (oa ob : Fin 1 → ℕ) (ia : ∀ a, oa a + S6144.size a ≤ S73744.size a) (ib : ∀ a, ob a + S6144.size a ≤ S73744.size a)
    (c1 c2 : BitVec 1) (os od od' : c1 = 1#1 → Fin 1 → ℕ)
    (is : ∀ h a, os h a + S6144.size a ≤ S1179648.size a)
    (id : ∀ h a, od h a + S6144.size a ≤ S73744.size a) (id' : ∀ h a, od' h a + S6144.size a ≤ S73744.size a)
    (so : Memref sig .scVector .vmem S8192 .i32) (oo : c2 = 1#1 → Fin 1 → ℕ) (io : ∀ h a, oo h a + S8192.size a ≤ S2097152.size a)
    (body : Fin k0_t3_loop.trips → BitVec 32 → Prog (TpuEff nD τ sig (Elt F) Λ₀ (thr d L).2) (BitVec 32))
    (kk : BitVec 32 → Prog (TpuEff nD τ sig (Elt F) Λ₀ (thr d L).2) α) : Prog (TpuEff nD τ sig (Elt F) Λ₀ (thr d L).2) α := do
  Prog.lift (.waitDma2 semI s1 (sC.slice (Rect.unit (s := S73744) oa S6144.size ia) (fun _ => rfl)) (View.wordExact_bits rfl) (View.wordExact_bits rfl))
  Prog.lift (.waitDma2 semI s2 (sC.slice (Rect.unit (s := S73744) ob S6144.size ib) (fun _ => rfl)) (View.wordExact_bits rfl) (View.wordExact_bits rfl))
  if h : c1 = 1#1 then do
    Prog.lift (.enqueueDma ((Memref.whole main_v1_scv).slice (Rect.unit (s := S1179648) (os h) S6144.size (is h)) (fun _ => rfl))
      (.here (sC.slice (Rect.unit (s := S73744) (od h) S6144.size (id h)) (fun _ => rfl))) (.dma semI) (View.wordExact_bits rfl) (View.wordExact_bits rfl) ⟨Or.inl rfl, trivial⟩)
    Prog.lift (.enqueueDma ((Memref.whole main_v3_scv).slice (Rect.unit (s := S1179648) (os h) S6144.size (is h)) (fun _ => rfl))
      (.here (sC.slice (Rect.unit (s := S73744) (od' h) S6144.size (id' h)) (fun _ => rfl))) (.dma semI) (View.wordExact_bits rfl) (View.wordExact_bits rfl) ⟨Or.inl rfl, trivial⟩)
    pure PUnit.unit
  else do
    pure PUnit.unit
  if h : c2 = 1#1 then do
    Prog.lift (.waitDma2 semO so ((Memref.whole main_v6_scv).slice (Rect.unit (s := S2097152) (oo h) S8192.size (io h)) (fun _ => rfl)) (View.wordExact_bits rfl) (View.wordExact_bits rfl))
    pure PUnit.unit
  else do
    pure PUnit.unit
  let v : BitVec 32 ← Scf.Loop.for k0_t3_loop k0_t3_ok 0#32 body
  kk v

/-- Block `b`, up to its packed rows. -/
theorem wp_half (hk : t.Ok) (ht : Toks d L t g1 g3) {α : Type} {Q : α → sProp (MM F)} {semI semO : DmaSem sig} {b o : ℕ} (hb : b < 6) (ho : o = 0 ∨ o = 8192)
    {q : PosShare TreeShare} {O : CellTallies nD τ sig (HIx 1)} (hO : ∀ g, O g none = 0) {W : Waits sig (HIx 1)}
    (s1 s2 : Memref sig .scVector .hbm S6144 .i32)
    (oa ob : Fin 1 → ℕ) (ia : ∀ a, oa a + S6144.size a ≤ S73744.size a) (ib : ∀ a, ob a + S6144.size a ≤ S73744.size a)
    {c1 c2 : BitVec 1} (hc1 : c1 = 1#1 ↔ b + 2 < 6) (hc2 : c2 = 1#1 ↔ 2 ≤ b) (os od od' : c1 = 1#1 → Fin 1 → ℕ)
    (is : ∀ h a, os h a + S6144.size a ≤ S1179648.size a)
    (id : ∀ h a, od h a + S6144.size a ≤ S73744.size a) (id' : ∀ h a, od' h a + S6144.size a ≤ S73744.size a)
    (hos : ∀ h, os h = ![36864 * wid L + 6144 * (b + 2)])
    (hod : ∀ h, od h = ![16 + 6144 * (b + 2)]) (hod' : ∀ h, od' h = ![36880 + 6144 * (b + 2)])
    (so : Memref sig .scVector .vmem S8192 .i32) (oo : c2 = 1#1 → Fin 1 → ℕ) (io : ∀ h a, oo h a + S8192.size a ≤ S2097152.size a)
    {v62 : BitVec 32} (hv : v62 = BitVec.ofNat 32 b)
    (off : Fin k0_t3_loop.trips → Fin 1 → ℕ) (inb : ∀ u a, off u a + S16.size a ≤ S16384.size a) (hoff : ∀ u, off u = ![o + 512 * u.val])
    (off' : Fin k0_t3_loop.trips → Fin k0_t4_loop.trips → Fin 1 → ℕ) (inb' : ∀ u v a, off' u v a + S16.size a ≤ S16384.size a)
    (hoff' : ∀ u v, off' u v = ![o + 512 * u.val + 16 * (v.val + 1)])
    (kk : BitVec 32 → Prog (TpuEff nD τ sig (Elt F) Λ₀ (thr d L).2) α) :
    iprop(wmInv emb ιwm ∗ levAts (K (F := F)).L (K (F := F)).lev ∗ owesX d L O W
        ∗ wb d L t f₀ Finset.univ qL (past b) ∗ wb d L t f₀ (past b) qR Finset.univ ∗ wb d L t f₀ (future (b + 2)) qR ∅
        ∗ inSide d L t f₀ g1 g3 semI b q ∗ outSide d L t semO b o ∗ landed d L t (b - 2)
        ∗ ((thr d L).loc cc0_scratch3 ↦[Finset.univ]{fullShare} tableB d L t))
      ⊢ iprop((∀ v, iprop(owesX d L O W
              ∗ wb d L t f₀ Finset.univ qL (past (b + 1)) ∗ wb d L t f₀ (past (b + 1)) qR Finset.univ ∗ wb d L t f₀ (future (b + 3)) qR ∅
              ∗ inSide d L t f₀ g1 g3 semI (b + 2) q ∗ semVal (thr d L, SemLoc.dma semO) 0 ∗ landed d L t (b - 1)
              ∗ ((thr d L).loc cc0_scratch3 ↦[Finset.univ]{fullShare} tableB d L t)
              ∗ ∃ f : Buf (Elt F) ((thr d L).loc cc0_scratch4), ⌜∀ i : S16384.Idx, o ≤ (i 0).val → (i 0).val < o + 8192 → f i = outAt t b (i 0).val⌝
                ∗ ((thr d L).loc cc0_scratch4 ↦[seg o (o + 8192)]{fullShare} f))
            -∗ wp frame (wpE (defs₀ (F := F)) 𝒱₀ (thr d L) none) Set.univ (kk v) Q)
        -∗ wp frame (wpE (defs₀ (F := F)) 𝒱₀ (thr d L) none) Set.univ
            (halfProg (F := F) d L semI semO s1 s2 oa ob ia ib c1 c2 os od od' is id id' so oo io
              (rowBody (F := F) d L k0_pay28 k0_pay29 k0_pay30 v62 off inb off' inb') kk) Q) := by
  simp only [halfProg, Prog.lift, Prog.bind_op, Prog.bind_ret, Prog.pure_eq_ret]
  iintro ⟨#Hinv, #Hlev, Ho, HL, HR, HF, HI, HS, Hland, HK⟩ Hk
  ihave HI := (Entails.of_eq (show inSide d L t f₀ g1 g3 semI b q = inFlight d L t f₀ g1 g3 semI b q 2 0 from if_pos hb)) $$ HI
  iapply (wp_inWait d L t f₀ g1 g3 hb hO (W := W) (q := q) s1 s2 ia ib (View.wordExact_bits rfl) (View.wordExact_bits rfl) (View.wordExact_bits rfl) (View.wordExact_bits rfl)) $$ [Ho HL HR HI]
  · isplitr; · iexact Hlev
    isplitl [HI]; · iexact HI
    isplitl [Ho]; · iexact Ho
    isplitl [HL] <;> iassumption
  iintro ⟨H1, H3, Hv, Ho, HL, HR⟩
  iapply (wp_inIssueIf d L t ιwm f₀ g1 g3 ht hc1 (q := q) hos hos hod hod' is is id id' (fun _ => View.wordExact_bits rfl) (fun _ => View.wordExact_bits rfl)
      (fun _ => View.wordExact_bits rfl) (fun _ => View.wordExact_bits rfl) (fun _ => ⟨Or.inl rfl, trivial⟩) (fun _ => ⟨Or.inl rfl, trivial⟩) _) $$ [H1 H3 HF Hv]
  · isplitr; · iexact Hinv
    isplitl [H1]; · iexact H1
    isplitl [H3]; · iexact H3
    isplitl [HF] <;> iassumption
  iintro ⟨HI, HF⟩
  iapply (wp_outWaitIf d L t hc2 hO (W := W) so io (fun _ => View.wordExact_bits rfl) (fun _ => View.wordExact_bits rfl) _) $$ [HS Ho Hland]
  · isplitr; · iexact Hlev
    isplitl [HS]; · iexact HS
    isplitl [Ho] <;> iassumption
  iintro ⟨Hv, ⟨%f, HO⟩, Ho, Hland⟩
  iapply (Scf.wp_for_bind frame (wpE (defs₀ (F := F)) 𝒱₀ (thr d L) none) Set.univ _ _ _ _ _ _
    (fun n _ => rowsInv d L t ιwm b o qL (past (b + 1)) f₀ n)
    (fun u acc => wp_rows d L t ιwm hk hb ho hv (blockMarked_past b) off inb hoff off' inb' hoff' u acc)) $$ [HL HK HO]
  · unfold rowsInv
    isplitr; · iexact Hinv
    isplitl [HL]; · iexact HL
    isplitl [HK]; · iexact HK
    iexists f
    isplitr
    · ipureintro; intro i h0 h1; omega
    iexact HO
  iintro %v HI'
  unfold rowsInv
  icases HI' with ⟨-, HL, HK, %f', %hf', HO⟩
  iapply Hk
  isplitl [Ho]; · iexact Ho
  isplitl [HL]; · iexact HL
  isplitl [HR]; · iexact HR
  isplitl [HF]; · iexact HF
  isplitl [HI]; · iexact HI
  isplitl [Hv]; · iexact Hv
  isplitl [Hland]; · iexact Hland
  isplitl [HK]; · iexact HK
  iexists f'
  isplitr
  · ipureintro; exact hf'
  iexact HO

end Tile

end Cert.Proof.Pack

end
-- ==== Proof.Loop.lean ====
/-
  The tile's loop over its six blocks, two at a time.
-/
module

public import proofs.«01_k».proof.Proof.Block

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

section Tile

variable [FloatOps F] (d : Dev nD) (L : grid0.Coords) (t : TileData) (ιwm : ℕ) (f₀ : Buf (Elt F) ((thr d L).loc cc0_scratch0))
  (g1 : Buf (Elt F) ((thr d L).loc main_v1_scv)) (g3 : Buf (Elt F) ((thr d L).loc main_v3_scv)) (g6 : Buf (Elt F) ((thr d L).loc main_v6_scv))

/-- The even block's part of the loop body is a block's text; -/
theorem part3_eq (v2 : BitVec 32) (k : Fin k0_t2_loop.trips) :
    k0_part3 (F := F) L (Memref.whole main_v1_scv) (Memref.isWhole_whole _) (Memref.whole main_v3_scv) (Memref.isWhole_whole _)
      (Memref.whole main_v4_scv) (Memref.isWhole_whole _) (Memref.whole main_v5_scv) (Memref.isWhole_whole _) (Memref.whole main_v6_scv) (Memref.isWhole_whole _)
      sC (Memref.isWhole_whole _) (Memref.whole cc0_scratch1) (Memref.isWhole_whole _) (Memref.whole cc0_scratch2) (Memref.isWhole_whole _)
      sK (Memref.isWhole_whole _) sO (Memref.isWhole_whole _) cc0_scratch5 cc0_scratch6 cc0_scratch7 cc0_scratch8 cc0_scoped0 cc0_scoped1
      v2 lanes k0_pay28 k0_pay29 k0_pay30 0#32 1#32 k
      = halfProg d L cc0_scratch7.sem cc0_scratch5.sem
          ((Memref.whole main_v1_scv).slice (Rect.unit (s := S1179648) (k0_off7 L k 0#32) S6144.size (k0_off7_inb L k 0)) (fun _ => rfl))
          ((Memref.whole main_v3_scv).slice (Rect.unit (s := S1179648) (k0_off7 L k 0#32) S6144.size (k0_off7_inb L k 0)) (fun _ => rfl))
          (k0_off6 k 16#32 0#32) (k0_off6 k 36880#32 0#32) (k0_off6_inb k 0 0) (k0_off6_inb k 1 0)
          (k0_cond1 k) (k0_cond2 k) (fun _ => k0_off9 L k) (fun _ => k0_off8 k 16#32) (fun _ => k0_off8 k 36880#32)
          (fun h => k0_off9_inb L k h) (fun h => k0_off8_inb k h 0) (fun h => k0_off8_inb k h 1)
          (sO.slice (Rect.unit (s := S16384) ![0] S8192.size inb_S16384_S8192_0) (fun _ => rfl))
          (fun _ => k0_off10 L k) (fun h => k0_off10_inb L k h)
          (rowBody (F := F) d L k0_pay28 k0_pay29 k0_pay30 (Scalar.addi (Scalar.muli (Scf.iv 0#32 1#32 k) 2#32) 0#32) k0_off11 k0_off11_inb k0_off12 k0_off12_inb)
          (fun _ => pure (Scf.iv 0#32 1#32 k)) := by
  rw [k0_part3_eq_skeleton]
  simp only [k0_part3_skel, t3_body_eq d L]
  rfl

/-- the odd block's, after the even block is sent off. -/
theorem part4_eq (v2 a : BitVec 32) (k : Fin k0_t2_loop.trips) :
    k0_part4 (F := F) L (Memref.whole main_v1_scv) (Memref.isWhole_whole _) (Memref.whole main_v3_scv) (Memref.isWhole_whole _)
      (Memref.whole main_v4_scv) (Memref.isWhole_whole _) (Memref.whole main_v5_scv) (Memref.isWhole_whole _) (Memref.whole main_v6_scv) (Memref.isWhole_whole _)
      sC (Memref.isWhole_whole _) (Memref.whole cc0_scratch1) (Memref.isWhole_whole _) (Memref.whole cc0_scratch2) (Memref.isWhole_whole _)
      sK (Memref.isWhole_whole _) sO (Memref.isWhole_whole _) cc0_scratch5 cc0_scratch6 cc0_scratch7 cc0_scratch8 cc0_scoped0 cc0_scoped1
      v2 lanes k0_pay28 k0_pay29 k0_pay30 k a
      = .op (.enqueueDma (sO.slice (Rect.unit (s := S16384) ![0] S8192.size inb_S16384_S8192_0) (fun _ => rfl))
          (.here ((Memref.whole main_v6_scv).slice (Rect.unit (s := S2097152) (k0_off13 L k 0#32) S8192.size (k0_off13_inb L k 0)) (fun _ => rfl)))
          (.dma cc0_scratch5.sem) (View.wordExact_bits rfl) (View.wordExact_bits rfl) ⟨Or.inl rfl, trivial⟩) fun _ =>
        halfProg d L cc0_scratch8.sem cc0_scratch6.sem
          ((Memref.whole main_v1_scv).slice (Rect.unit (s := S1179648) (k0_off7 L k 1#32) S6144.size (k0_off7_inb L k 1)) (fun _ => rfl))
          ((Memref.whole main_v3_scv).slice (Rect.unit (s := S1179648) (k0_off7 L k 1#32) S6144.size (k0_off7_inb L k 1)) (fun _ => rfl))
          (k0_off6 k 16#32 1#32) (k0_off6 k 36880#32 1#32) (k0_off6_inb k 0 1) (k0_off6_inb k 1 1)
          (k0_cond3 k) (k0_cond4 k) (fun _ => k0_off15 L k) (fun _ => k0_off14 k 16#32) (fun _ => k0_off14 k 36880#32)
          (fun h => k0_off15_inb L k h) (fun h => k0_off14_inb k h 0) (fun h => k0_off14_inb k h 1)
          (sO.slice (Rect.unit (s := S16384) ![8192] S8192.size inb_S16384_S8192_8192) (fun _ => rfl))
          (fun _ => k0_off16 L k) (fun h => k0_off16_inb L k h)
          (rowBody (F := F) d L k0_pay28 k0_pay29 k0_pay30 (Scalar.addi (Scalar.muli a 2#32) 1#32) k0_off17 k0_off17_inb k0_off18 k0_off18_inb)
          (fun _ => pure ⟨Scalar.addi (Scalar.muli a 2#32) 1#32, 16#32⟩) := by
  rw [k0_part4_eq_skeleton]
  simp only [k0_part4_skel, t5_body_eq d L]
  rfl

/-- Before pair `k` of blocks: the blocks before it have arrived and left, or are leaving; the next two are coming in. -/
def blkInv (O : CellTallies nD τ sig (HIx 1)) (W : Waits sig (HIx 1)) (k : ℕ) : sProp (MM F) :=
  iprop(wmInv emb ιwm ∗ levAts (K (F := F)).L (K (F := F)).lev ∗ owesX d L O W
    ∗ wb d L t f₀ Finset.univ qL (past (2 * k)) ∗ wb d L t f₀ (past (2 * k)) qR Finset.univ ∗ wb d L t f₀ (future (2 * k + 2)) qR ∅
    ∗ inSide d L t f₀ g1 g3 cc0_scratch7.sem (2 * k) qL ∗ inSide d L t f₀ g1 g3 cc0_scratch8.sem (2 * k + 1) qR
    ∗ outSide d L t cc0_scratch5.sem (2 * k) 0 ∗ outSide d L t cc0_scratch6.sem (2 * k + 1) 8192
    ∗ landed d L t (2 * k - 2) ∗ unsent d L g6 (2 * k)
    ∗ ((thr d L).loc cc0_scratch3 ↦[Finset.univ]{fullShare} tableB d L t))

theorem trips2 (k : Fin k0_t2_loop.trips) : k.val < 3 := k.isLt

theorem cond1_iff : ∀ k : Fin k0_t2_loop.trips, k0_cond1 k = 1#1 ↔ 2 * k.val + 2 < 6 := by decide +kernel
theorem cond2_iff : ∀ k : Fin k0_t2_loop.trips, k0_cond2 k = 1#1 ↔ 2 ≤ 2 * k.val := by decide +kernel
theorem cond3_iff : ∀ k : Fin k0_t2_loop.trips, k0_cond3 k = 1#1 ↔ 2 * k.val + 1 + 2 < 6 := by decide +kernel
theorem cond4_iff : ∀ k : Fin k0_t2_loop.trips, k0_cond4 k = 1#1 ↔ 2 ≤ 2 * k.val + 1 := by decide +kernel
theorem even_iv : ∀ k : Fin k0_t2_loop.trips, Scalar.addi (Scalar.muli (Scf.iv 0#32 1#32 k) 2#32) 0#32 = BitVec.ofNat 32 (2 * k.val) := by decide +kernel
theorem odd_iv : ∀ k : Fin k0_t2_loop.trips, Scalar.addi (Scalar.muli (Scf.iv 0#32 1#32 k) 2#32) 1#32 = BitVec.ofNat 32 (2 * k.val + 1) := by decide +kernel

theorem vec1 {o : Fin 1 → ℕ} {a b : ℕ} (h : o = ![a]) (hab : a = b) : o = ![b] := hab ▸ h

/-- One pair of blocks. -/
theorem wp_pair (hk : t.Ok) (ht : Toks d L t g1 g3) {O : CellTallies nD τ sig (HIx 1)} (hO : ∀ g, O g none = 0) {W : Waits sig (HIx 1)}
    (v2 : BitVec 32) (k : Fin k0_t2_loop.trips) (acc : BitVec 32) :
    blkInv d L t ιwm f₀ g1 g3 g6 O W k.val
      ⊢ wp (M := MM F) frame (wpE (defs₀ (F := F)) 𝒱₀ (thr d L) none) Set.univ
          (k0_t2_body (F := F) L (Memref.whole main_v1_scv) (Memref.isWhole_whole _) (Memref.whole main_v3_scv) (Memref.isWhole_whole _)
            (Memref.whole main_v4_scv) (Memref.isWhole_whole _) (Memref.whole main_v5_scv) (Memref.isWhole_whole _) (Memref.whole main_v6_scv) (Memref.isWhole_whole _)
            sC (Memref.isWhole_whole _) (Memref.whole cc0_scratch1) (Memref.isWhole_whole _) (Memref.whole cc0_scratch2) (Memref.isWhole_whole _)
            sK (Memref.isWhole_whole _) sO (Memref.isWhole_whole _) cc0_scratch5 cc0_scratch6 cc0_scratch7 cc0_scratch8 cc0_scoped0 cc0_scoped1
            v2 lanes k acc)
          fun _ => blkInv d L t ιwm f₀ g1 g3 g6 O W (k.val + 1) := by
  have hk3 := trips2 k
  unfold blkInv k0_t2_body
  rw [part3_eq d L, wp_bind]
  iintro ⟨#Hinv, #Hlev, Ho, HL, HR, HF, HA, HB, HC, HD, Hland, Hun, HK⟩
  iapply (wp_half d L t ιwm f₀ g1 g3 hk ht (b := 2 * k.val) (o := 0) (by omega) (.inl rfl) (q := qL) hO (W := W) _ _ _ _ _ _ (cond1_iff k) (cond2_iff k) _ _ _ _ _ _
    (fun _ => vec1 (k0_off9_eq L k) (by unfold wid; omega))
    (fun _ => vec1 (k0_off8_eq k 0) (by show 36864 * 0 + 12288 * k.val + 12304 = _; omega))
    (fun _ => vec1 (k0_off8_eq k 1) (by show 36864 * 1 + 12288 * k.val + 12304 = _; omega)) _ _ _
    (even_iv k) _ _ (fun u => vec1 (k0_off11_eq u) (by omega)) _ _ (fun u v => vec1 (k0_off12_eq u v) (by omega)) _) $$ [Ho HL HR HF HA HC Hland HK]
  · isplitr; · iexact Hinv
    isplitr; · iexact Hlev
    isplitl [Ho]; · iexact Ho
    isplitl [HL]; · iexact HL
    isplitl [HR]; · iexact HR
    isplitl [HF]; · iexact HF
    isplitl [HA]; · iexact HA
    isplitl [HC]; · iexact HC
    isplitl [Hland] <;> iassumption
  iintro %_ ⟨Ho, HL, HR, HF, HA, Hv, Hland, HK, %f, %hf, HO⟩
  rw [Prog.pure_eq_ret, wp_ret]
  imodintro
  rw [wp_bind, part4_eq d L]
  ihave Hun := (unsent_step d L g6 (b := 2 * k.val) (by omega)) $$ Hun
  icases Hun with ⟨Hd, Hun⟩
  iapply (wp_outIssue d L t (b := 2 * k.val) (o := 0) (.inl rfl) rfl (vec1 (k0_off13_eq L k 0) (by show 98304 * (L 1).val + 49152 * (L 0).val + 16384 * k.val + 8192 * 0 = _; unfold outBase wid; omega))
    _ _ _ _ _ hf _) $$ [HO Hd Hv]
  · isplitl [HO]; · iexact HO
    isplitl [Hd] <;> iassumption
  iintro HC
  iapply (wp_half d L t ιwm f₀ g1 g3 hk ht (b := 2 * k.val + 1) (o := 8192) (by omega) (.inr rfl) (q := qR) hO (W := W) _ _ _ _ _ _ (cond3_iff k) (cond4_iff k) _ _ _ _ _ _
    (fun _ => vec1 (k0_off15_eq L k) (by unfold wid; omega))
    (fun _ => vec1 (k0_off14_eq k 0) (by show 36864 * 0 + 12288 * k.val + 18448 = _; omega))
    (fun _ => vec1 (k0_off14_eq k 1) (by show 36864 * 1 + 12288 * k.val + 18448 = _; omega)) _ _ _
    (odd_iv k) _ _ (fun u => vec1 (k0_off17_eq u) (by omega)) _ _ (fun u v => vec1 (k0_off18_eq u v) (by omega)) _) $$ [Ho HL HR HF HB HD Hland HK]
  · isplitr; · iexact Hinv
    isplitr; · iexact Hlev
    isplitl [Ho]; · iexact Ho
    isplitl [HL]; · iexact HL
    isplitl [HR]; · iexact HR
    isplitl [HF]; · iexact HF
    isplitl [HB]; · iexact HB
    isplitl [HD]; · iexact HD
    isplitl [Hland]; · iexact Hland
    iexact HK
  iintro %_ ⟨Ho, HL, HR, HF, HB, Hv, Hland, HK, %f', %hf', HO⟩
  rw [Prog.pure_eq_ret, wp_ret]
  imodintro
  ihave Hun := (unsent_step d L g6 (b := 2 * k.val + 1) (by omega)) $$ Hun
  icases Hun with ⟨Hd, Hun⟩
  simp only [Prog.lift, Prog.bind_op, Prog.bind_ret, Prog.pure_eq_ret]
  iapply (wp_outIssue d L t (b := 2 * k.val + 1) (o := 8192) (.inr rfl) rfl (vec1 (k0_off13_eq L k 1) (by show 98304 * (L 1).val + 49152 * (L 0).val + 16384 * k.val + 8192 * 1 = _; unfold outBase wid; omega))
    _ _ _ _ _ hf' _) $$ [HO Hd Hv]
  · isplitl [HO]; · iexact HO
    isplitl [Hd] <;> iassumption
  iintro HD
  rw [wp_ret]
  imodintro
  rw [show 2 * (k.val + 1) = 2 * k.val + 2 by omega]
  isplitr; · iexact Hinv
  isplitr; · iexact Hlev
  isplitl [Ho]; · iexact Ho
  isplitl [HL]; · iexact HL
  isplitl [HR]; · iexact HR
  isplitl [HF]; · iexact HF
  isplitl [HA]; · iexact HA
  isplitl [HB]; · iexact HB
  isplitl [HC]
  · unfold outSide
    rw [if_pos (by omega : 2 ≤ 2 * k.val + 2)]
    iexact HC
  isplitl [HD]
  · unfold outSide
    rw [if_pos (by omega : 2 ≤ 2 * k.val + 2 + 1)]
    iexact HD
  isplitl [Hland]; · iexact Hland
  isplitl [Hun]; · iexact Hun
  iexact HK

end Tile

end Cert.Proof.Pack

end
-- ==== Proof.Table.lean ====
/-
  The tile's table of kept counts: six trips, sixteen rows each, from the lengths the tile has copied in.
-/
module

public import proofs.«01_k».proof.Proof.Loop

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

section Tile

variable [FloatOps F] (d : Dev nD) (L : grid0.Coords) (t : TileData)

/-- The tile's two buffers of lengths. -/
abbrev sL0 : Memref sig .scVector .vmem S96 .i32 := Memref.whole cc0_scratch1
abbrev sL1 : Memref sig .scVector .vmem S96 .i32 := Memref.whole cc0_scratch2

/-- What they hold once the lengths are in. -/
def lenB0 : Buf (Elt F) ((thr d L).loc cc0_scratch1) := fun (i : S96.Idx) => BitVec.ofNat 32 (t.len0 (i 0).val)
def lenB1 : Buf (Elt F) ((thr d L).loc cc0_scratch2) := fun (i : S96.Idx) => BitVec.ofNat 32 (t.len1 (i 0).val)

/-- A kept count as the kernel computes it. -/
theorem cut_eq {a b : ℕ} (ha : a ≤ 384) (hb : b ≤ 384) :
    IntOp.minsi (BitVec.ofNat 32 a) (IntOp.maxsi 254#32 (508#32 - BitVec.ofNat 32 b)) = BitVec.ofNat 32 (cut a b) := by
  have e : 508#32 - BitVec.ofNat 32 b = BitVec.ofNat 32 (508 - b) := by
    apply BitVec.eq_of_toNat_eq
    simp only [BitVec.toNat_sub, BitVec.toNat_ofNat]; omega
  rw [e]
  have e2 : IntOp.maxsi 254#32 (BitVec.ofNat 32 (508 - b)) = BitVec.ofNat 32 (max 254 (508 - b)) := by
    unfold IntOp.maxsi
    simp only [BitVec.slt_eq_decide, BitVec.toInt_eq_toNat_cond, BitVec.toNat_ofNat, decide_eq_true_eq]
    split_ifs <;> first | omega | (congr 1; omega)
  rw [e2]
  unfold IntOp.minsi cut
  simp only [BitVec.slt_eq_decide, BitVec.toInt_eq_toNat_cond, BitVec.toNat_ofNat, decide_eq_true_eq]
  split_ifs <;> first | omega | (congr 1; omega)

/-- Sixteen words stored into the table. -/
theorem wp_put {α : Type} {Q : α → sProp (MM F)} {off : Fin 1 → ℕ} {o : ℕ} (ho : off = ![o]) (inb : ∀ a, off a + S16.size a ≤ S384.size a) (w : Vec F S16 .i32)
    (hl : sK.view.LoadsAt (Rect.unit (s := S384) off S16.size inb).toLoadRect)
    (hs : (sK.access (Rect.unit (s := S384) off S16.size inb)).Stores Finset.univ)
    (hm : (Finset.univ : Finset (Rect.unit (s := S384) off S16.size inb).shape.Idx) = Finset.univ ∨ ∀ a, (Rect.unit (s := S384) off S16.size inb).stride a = 1)
    {f : Buf (Elt F) ((thr d L).loc cc0_scratch3)}
    (k : PUnit → Prog (TpuEff nD τ sig (Elt F) Λ₀ (thr d L).2) α) :
    ((thr d L).loc cc0_scratch3 ↦[Finset.univ]{fullShare} f)
      ⊢ iprop((∀ f' : Buf (Elt F) ((thr d L).loc cc0_scratch3),
            ⌜∀ i : S384.Idx, (∀ h : o ≤ (i 0).val ∧ (i 0).val - o < 16, f' i = w (pos ((i 0).val - o) h.2))
                ∧ (¬(o ≤ (i 0).val ∧ (i 0).val < o + 16) → f' i = f i)⌝
            -∗ ((thr d L).loc cc0_scratch3 ↦[Finset.univ]{fullShare} f')
            -∗ wp frame (wpE (defs₀ (F := F)) 𝒱₀ (thr d L) none) Set.univ (k ⟨⟩) Q)
        -∗ wp frame (wpE (defs₀ (F := F)) 𝒱₀ (thr d L) none) Set.univ
            (.op (.load sK (Rect.unit (s := S384) off S16.size inb).toLoadRect hl) fun _ =>
              .op (.store sK (Rect.unit (s := S384) off S16.size inb) w Finset.univ hs hm) k) Q) := by
  iintro HK Hk
  iapply (wp_load_rect 𝒱₀ (thr d L) none Set.univ (m := sK) (r := Rect.unit (s := S384) off S16.size inb) (S := Finset.univ) (Finset.subset_univ _)) $$ HK
  iintro HK
  iapply (wp_store 𝒱₀ (thr d L) none Set.univ (m := sK) (r := Rect.unit (s := S384) off S16.size inb) (Mk := Finset.univ) (S := Finset.univ) (Finset.subset_univ _)) $$ HK
  iintro HK
  iapply Hk $$ %_ [] HK
  ipureintro
  intro i
  exact ⟨fun h => write_unit_mem sK.view ho inb _ _ i h.1 h.2, fun h => write_unit_not_mem sK.view ho inb _ _ i h⟩

/-- Before trip `k`: the table's entries of the first `16 k` rows are in. -/
def tabInv (k : ℕ) : sProp (MM F) :=
  iprop(((thr d L).loc cc0_scratch1 ↦[Finset.univ]{fullShare} lenB0 d L t) ∗ ((thr d L).loc cc0_scratch2 ↦[Finset.univ]{fullShare} lenB1 d L t)
    ∗ ∃ f, ⌜∀ i : S384.Idx, (i 0).val % 96 < 16 * k → f i = t.table (i 0).val⌝ ∗ ((thr d L).loc cc0_scratch3 ↦[Finset.univ]{fullShare} f))

theorem trips1 (k : Fin k0_t1_loop.trips) : k.val < 6 := k.isLt

/-- One trip. -/
theorem wp_tab (hk : t.Ok) (v2 : BitVec 32) (k : Fin k0_t1_loop.trips) (acc : BitVec 32) :
    tabInv d L t k.val
      ⊢ wp (M := MM F) frame (wpE (defs₀ (F := F)) 𝒱₀ (thr d L) none) Set.univ
          (k0_t1_body (F := F) L (Memref.whole main_v1_scv) (Memref.isWhole_whole _) (Memref.whole main_v3_scv) (Memref.isWhole_whole _)
            (Memref.whole main_v4_scv) (Memref.isWhole_whole _) (Memref.whole main_v5_scv) (Memref.isWhole_whole _) (Memref.whole main_v6_scv) (Memref.isWhole_whole _)
            sC (Memref.isWhole_whole _) (Memref.whole cc0_scratch1) (Memref.isWhole_whole _) (Memref.whole cc0_scratch2) (Memref.isWhole_whole _)
            sK (Memref.isWhole_whole _) sO (Memref.isWhole_whole _) cc0_scratch5 cc0_scratch6 cc0_scratch7 cc0_scratch8 cc0_scoped0 cc0_scoped1
            v2 k acc)
          fun _ => tabInv d L t (k.val + 1) := by
  have hk6 := trips1 k
  have h3 := k0_off3_eq k
  have r0 (x : S16.Idx) : sL0.view.readAt (Elt F) (Rect.unit (s := S96) (k0_off3 k) S16.size (k0_off3_inb k)).toLoadRect (lenB0 d L t) x
      = BitVec.ofNat 32 (t.len0 (16 * k.val + (x 0).val)) := by
    refine Eq.trans ?_ (read_unit (Val := Elt F) sL0.view h3 (k0_off3_inb k) (lenB0 d L t) x)
    rw [View.readAt_rect]
  have r1 (x : S16.Idx) : sL1.view.readAt (Elt F) (Rect.unit (s := S96) (k0_off3 k) S16.size (k0_off3_inb k)).toLoadRect (lenB1 d L t) x
      = BitVec.ofNat 32 (t.len1 (16 * k.val + (x 0).val)) := by
    refine Eq.trans ?_ (read_unit (Val := Elt F) sL1.view h3 (k0_off3_inb k) (lenB1 d L t) x)
    rw [View.readAt_rect]
  generalize hv : sL0.view.readAt (Elt F) (Rect.unit (s := S96) (k0_off3 k) S16.size (k0_off3_inb k)).toLoadRect (lenB0 d L t) = v at r0
  generalize hw : sL1.view.readAt (Elt F) (Rect.unit (s := S96) (k0_off3 k) S16.size (k0_off3_inb k)).toLoadRect (lenB1 d L t) = w at r1
  have p24 (x : S16.Idx) : k0_pay24 (F := F) v w x = BitVec.ofNat 32 (t.k0 (16 * k.val + (x 0).val)) := by
    show IntOp.minsi (v x) (IntOp.maxsi 254#32 (508#32 - w x)) = _
    rw [r0, r1]; exact cut_eq (hk _).1 (hk _).2
  have p25 (x : S16.Idx) : k0_pay25 (F := F) v w x = BitVec.ofNat 32 (t.k1 (16 * k.val + (x 0).val)) := by
    show IntOp.minsi (w x) (IntOp.maxsi 254#32 (508#32 - v x)) = _
    rw [r0, r1]; exact cut_eq (hk _).2 (hk _).1
  have p26 (x : S16.Idx) : k0_pay26 (F := F) v w x = BitVec.ofNat 32 (t.k0 (16 * k.val + (x 0).val) + 2) := by
    show k0_pay24 (F := F) v w x + 2#32 = _
    rw [p24, BitVec.ofNat_add]
  have p27 (x : S16.Idx) : k0_pay27 (F := F) v w x = BitVec.ofNat 32 (t.k0 (16 * k.val + (x 0).val) + 3 + t.k1 (16 * k.val + (x 0).val)) := by
    show (k0_pay24 (F := F) v w x + 3#32) + k0_pay25 (F := F) v w x = _
    rw [p24, p25, BitVec.ofNat_add, BitVec.ofNat_add]
  unfold tabInv k0_t1_body
  simp only [Prog.lift, Prog.bind_op, Prog.bind_ret, Prog.pure_eq_ret]
  iintro ⟨H0, H1, %f, %hf, HK⟩
  iapply (wp_load_rect 𝒱₀ (thr d L) none Set.univ (m := sL0) (r := Rect.unit (s := S96) (k0_off3 k) S16.size (k0_off3_inb k)) (S := Finset.univ) (Finset.subset_univ _)) $$ H0
  iintro H0
  iapply (wp_load_rect 𝒱₀ (thr d L) none Set.univ (m := sL1) (r := Rect.unit (s := S96) (k0_off3 k) S16.size (k0_off3_inb k)) (S := Finset.univ) (Finset.subset_univ _)) $$ H1
  iintro H1
  rw [View.readAt_rect] at hv hw
  rw [hv, hw]
  iapply (wp_put d L (vec1 (k0_off4_eq k) rfl)) $$ HK
  iintro %fa %ha HK
  iapply (wp_put d L (vec1 (k0_off5_eq k 0) (show 96 * 0 + 16 * k.val + 96 = 96 + 16 * k.val by omega))) $$ HK
  iintro %fb %hb HK
  iapply (wp_put d L (vec1 (k0_off5_eq k 1) (show 96 * 1 + 16 * k.val + 96 = 192 + 16 * k.val by omega))) $$ HK
  iintro %fc %hc HK
  iapply (wp_put d L (vec1 (k0_off5_eq k 2) (show 96 * 2 + 16 * k.val + 96 = 288 + 16 * k.val by omega))) $$ HK
  iintro %fd %hd HK
  rw [wp_ret]
  imodintro
  isplitl [H0]; · iexact H0
  isplitl [H1]; · iexact H1
  iexists fd
  isplitr [HK]
  swap; · iexact HK
  ipureintro
  intro i hi
  have hi384 : (i 0).val < 384 := idx_lt i
  have hq : (i 0).val = 96 * ((i 0).val / 96) + (i 0).val % 96 := by omega
  have hq4 : (i 0).val / 96 < 4 := by omega
  by_cases hold : (i 0).val % 96 < 16 * k.val
  · rw [(hd i).2 (by omega), (hc i).2 (by omega), (hb i).2 (by omega), (ha i).2 (by omega)]
    exact hf i hold
  · have hm : 16 * k.val + ((i 0).val % 96 - 16 * k.val) = (i 0).val % 96 := by omega
    unfold TileData.table
    rcases (by omega : (i 0).val / 96 = 0 ∨ (i 0).val / 96 = 1 ∨ (i 0).val / 96 = 2 ∨ (i 0).val / 96 = 3) with h | h | h | h
    · rw [(hd i).2 (by omega), (hc i).2 (by omega), (hb i).2 (by omega), (ha i).1 ⟨by omega, by omega⟩, p24, if_pos (by omega)]
      exact congrArg (fun n => BitVec.ofNat 32 (t.k0 n)) (by show 16 * k.val + ((i 0).val - 16 * k.val) = _; omega)
    · rw [(hd i).2 (by omega), (hc i).2 (by omega), (hb i).1 ⟨by omega, by omega⟩, p26, if_neg (by omega), if_pos (by omega)]
      exact congrArg (fun n => BitVec.ofNat 32 (t.k0 n + 2)) (by show 16 * k.val + ((i 0).val - (96 + 16 * k.val)) = _; omega)
    · rw [(hd i).2 (by omega), (hc i).1 ⟨by omega, by omega⟩, p25, if_neg (by omega), if_neg (by omega), if_pos (by omega)]
      exact congrArg (fun n => BitVec.ofNat 32 (t.k1 n)) (by show 16 * k.val + ((i 0).val - (192 + 16 * k.val)) = _; omega)
    · rw [(hd i).1 ⟨by omega, by omega⟩, p27, if_neg (by omega), if_neg (by omega), if_neg (by omega)]
      exact congrArg (fun n => BitVec.ofNat 32 (t.k0 n + 3 + t.k1 n)) (by show 16 * k.val + ((i 0).val - (288 + 16 * k.val)) = _; omega)

/-- After all six the table is complete. -/
theorem tab_done : tabInv d L t 6
    ⊢ (iprop(((thr d L).loc cc0_scratch1 ↦[Finset.univ]{fullShare} lenB0 d L t) ∗ ((thr d L).loc cc0_scratch2 ↦[Finset.univ]{fullShare} lenB1 d L t)
      ∗ ((thr d L).loc cc0_scratch3 ↦[Finset.univ]{fullShare} tableB d L t)) : sProp (MM F)) := by
  unfold tabInv
  iintro ⟨H0, H1, %f, %hf, HK⟩
  isplitl [H0]; · iexact H0
  isplitl [H1]; · iexact H1
  iapply (Entails.of_eq (pointsTo_congr (fun i _ => hf i (by omega)))) $$ HK

end Tile

end Cert.Proof.Pack

end
-- ==== Proof.Tile.lean ====
/-
  One tile's whole run: its copies set going, its lengths fetched, its table made, its six blocks packed and sent.
-/
module

public import proofs.«01_k».proof.Proof.Table

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

section Tile

variable [FloatOps F] (d : Dev nD) (L : grid0.Coords) (t : TileData) (ιwm : ℕ)
  (g1 : Buf (Elt F) ((thr d L).loc main_v1_scv)) (g3 : Buf (Elt F) ((thr d L).loc main_v3_scv))
  (g4 : Buf (Elt F) ((thr d L).loc main_v4_scv)) (g5 : Buf (Elt F) ((thr d L).loc main_v5_scv)) (g6 : Buf (Elt F) ((thr d L).loc main_v6_scv))

/-- The tile's part of an array of lengths, -/
abbrev lenSeg : Finset S3072.Idx := seg (96 * wid L) (96 * wid L + 96)

/-- which holds the lengths `t` names. -/
structure Lens : Prop where
  len0 : ∀ i (h : 96 * wid L + i < 3072), i < 96 → (show IVec S3072 32 from g4) (pos (96 * wid L + i) h) = BitVec.ofNat 32 (t.len0 i)
  len1 : ∀ i (h : 96 * wid L + i < 3072), i < 96 → (show IVec S3072 32 from g5) (pos (96 * wid L + i) h) = BitVec.ofNat 32 (t.len1 i)

/-- The amount a copy of lengths signals. -/
abbrev NL0 : ℕ := (cc0_scratch1 : Ref sig .scVector).dmaCredit S96 .i32
abbrev NL1 : ℕ := (cc0_scratch2 : Ref sig .scVector).dmaCredit S96 .i32

theorem len_off : k0_off2 L = ![96 * wid L] := vec1 (k0_off2_eq L) (by unfold wid; omega)

/-- The first lengths' copy, -/
theorem wp_len0 (hl : Lens d L t g4 g5) {α : Type} {Q : α → sProp (MM F)} {f : Buf (Elt F) ((thr d L).loc cc0_scratch1)}
    (w1 : ((Memref.whole main_v4_scv).slice (Rect.unit (s := S3072) (k0_off2 L) S96.size (k0_off2_inb L)) (fun _ => rfl)).view.WordExact)
    (w2 : sL0.view.WordExact) (ty : DmaTarget.Typed (nD := nD) (p := (thr d L).2) .hbm (.dma cc0_scoped0.sem) (.here sL0))
    (k : PUnit → Prog (TpuEff nD τ sig (Elt F) Λ₀ (thr d L).2) α) :
    iprop(((thr d L).loc main_v4_scv ↦[lenSeg L]{fullShare} g4) ∗ ((thr d L).loc cc0_scratch1 ↦[Finset.univ]{fullShare} f)
        ∗ semVal (thr d L, SemLoc.dma cc0_scoped0.sem) 0)
      ⊢ iprop((Flight EC (thr d L) (.dma cc0_scoped0.sem) (none : HIx 1) NL0
            iprop(((thr d L).loc cc0_scratch1 ↦[Finset.univ]{fullShare} lenB0 d L t) ∗ ((thr d L).loc main_v4_scv ↦[lenSeg L]{fullShare} g4))
          -∗ wp frame (wpE (defs₀ (F := F)) 𝒱₀ (thr d L) none) Set.univ (k ⟨⟩) Q)
        -∗ wp frame (wpE (defs₀ (F := F)) 𝒱₀ (thr d L) none) Set.univ
            (.op (.enqueueDma ((Memref.whole main_v4_scv).slice (Rect.unit (s := S3072) (k0_off2 L) S96.size (k0_off2_inb L)) (fun _ => rfl))
              (.here sL0) (.dma cc0_scoped0.sem) w1 w2 ty) k) Q) := by
  have hsrc : ((Memref.whole main_v4_scv).slice (Rect.unit (s := S3072) (k0_off2 L) S96.size (k0_off2_inb L)) (fun _ => rfl)).view.set = lenSeg L :=
    (set_slice_unit (Memref.whole main_v4_scv).view (len_off L) (k0_off2_inb L)).trans (setOn_whole _ _)
  have hN0 : 0 < NL0 := View.dmaCredit_pos sL0.view (show 0 < S96.numel by decide)
  iintro ⟨Hs, Hd, Hv⟩ Hk
  iapply (wp_dmaLocal EC 𝒱₀ (thr d L) none (none : HIx 1) NL0 rfl hN0 (fs := g4) (fd := f) (q := fullShare) (Sd := Finset.univ) (Finset.subset_univ _)
    (src := (Memref.whole main_v4_scv).slice (Rect.unit (s := S3072) (k0_off2 L) S96.size (k0_off2_inb L)) (fun _ => rfl))
    (dst := sL0) (sm := .dma cc0_scoped0.sem)) $$ [Hs Hd Hv]
  · isplitl [Hs]; · rw [hsrc]; iexact Hs
    isplitl [Hd] <;> iassumption
  iintro HF
  iapply Hk
  iapply (Flight_mono EC (thr d L) (show _ ⊢ _ from ?_)) $$ HF
  iintro ⟨Hd, Hs⟩
  isplitl [Hd]
  · iapply (Entails.of_eq (pointsTo_congr (fun i _ => ?_))) $$ Hd
    refine (congrFun (View.write_whole_univ _ _ _) i).trans ?_
    have hi : (i 0).val < 96 := idx_lt i
    exact (read_unit (Val := Elt F) (Memref.whole main_v4_scv).view (len_off L) (k0_off2_inb L) g4 i).trans (hl.len0 (i 0).val (unit_lt (len_off L) (k0_off2_inb L) i) hi)
  · rw [hsrc]; iexact Hs

/-- and the second's. -/
theorem wp_len1 (hl : Lens d L t g4 g5) {α : Type} {Q : α → sProp (MM F)} {f : Buf (Elt F) ((thr d L).loc cc0_scratch2)}
    (w1 : ((Memref.whole main_v5_scv).slice (Rect.unit (s := S3072) (k0_off2 L) S96.size (k0_off2_inb L)) (fun _ => rfl)).view.WordExact)
    (w2 : sL1.view.WordExact) (ty : DmaTarget.Typed (nD := nD) (p := (thr d L).2) .hbm (.dma cc0_scoped1.sem) (.here sL1))
    (k : PUnit → Prog (TpuEff nD τ sig (Elt F) Λ₀ (thr d L).2) α) :
    iprop(((thr d L).loc main_v5_scv ↦[lenSeg L]{fullShare} g5) ∗ ((thr d L).loc cc0_scratch2 ↦[Finset.univ]{fullShare} f)
        ∗ semVal (thr d L, SemLoc.dma cc0_scoped1.sem) 0)
      ⊢ iprop((Flight EC (thr d L) (.dma cc0_scoped1.sem) (none : HIx 1) NL1
            iprop(((thr d L).loc cc0_scratch2 ↦[Finset.univ]{fullShare} lenB1 d L t) ∗ ((thr d L).loc main_v5_scv ↦[lenSeg L]{fullShare} g5))
          -∗ wp frame (wpE (defs₀ (F := F)) 𝒱₀ (thr d L) none) Set.univ (k ⟨⟩) Q)
        -∗ wp frame (wpE (defs₀ (F := F)) 𝒱₀ (thr d L) none) Set.univ
            (.op (.enqueueDma ((Memref.whole main_v5_scv).slice (Rect.unit (s := S3072) (k0_off2 L) S96.size (k0_off2_inb L)) (fun _ => rfl))
              (.here sL1) (.dma cc0_scoped1.sem) w1 w2 ty) k) Q) := by
  have hsrc : ((Memref.whole main_v5_scv).slice (Rect.unit (s := S3072) (k0_off2 L) S96.size (k0_off2_inb L)) (fun _ => rfl)).view.set = lenSeg L :=
    (set_slice_unit (Memref.whole main_v5_scv).view (len_off L) (k0_off2_inb L)).trans (setOn_whole _ _)
  have hN0 : 0 < NL1 := View.dmaCredit_pos sL1.view (show 0 < S96.numel by decide)
  iintro ⟨Hs, Hd, Hv⟩ Hk
  iapply (wp_dmaLocal EC 𝒱₀ (thr d L) none (none : HIx 1) NL1 rfl hN0 (fs := g5) (fd := f) (q := fullShare) (Sd := Finset.univ) (Finset.subset_univ _)
    (src := (Memref.whole main_v5_scv).slice (Rect.unit (s := S3072) (k0_off2 L) S96.size (k0_off2_inb L)) (fun _ => rfl))
    (dst := sL1) (sm := .dma cc0_scoped1.sem)) $$ [Hs Hd Hv]
  · isplitl [Hs]; · rw [hsrc]; iexact Hs
    isplitl [Hd] <;> iassumption
  iintro HF
  iapply Hk
  iapply (Flight_mono EC (thr d L) (show _ ⊢ _ from ?_)) $$ HF
  iintro ⟨Hd, Hs⟩
  isplitl [Hd]
  · iapply (Entails.of_eq (pointsTo_congr (fun i _ => ?_))) $$ Hd
    refine (congrFun (View.write_whole_univ _ _ _) i).trans ?_
    have hi : (i 0).val < 96 := idx_lt i
    exact (read_unit (Val := Elt F) (Memref.whole main_v5_scv).view (len_off L) (k0_off2_inb L) g5 i).trans (hl.len1 (i 0).val (unit_lt (len_off L) (k0_off2_inb L) i) hi)
  · rw [hsrc]; iexact Hs

/-- The special words the tile stores are the flat buffer's first sixteen. -/
theorem special_eq (x : S16.Idx) : k0_pay23 x = t.comb (x 0).val := by
  have hx : (x 0).val < 16 := idx_lt x
  show Scalar.select (IntOp.cmpi .eq (lanes x) 0#32) 1#32 (Scalar.select (IntOp.cmpi .eq (lanes x) 1#32) 2#32 (Scalar.select (IntOp.cmpi .eq (lanes x) 2#32) 0#32 1#32)) = _
  rw [lanes_apply]
  unfold TileData.comb
  rw [if_pos hx]
  generalize (x 0).val = n at hx ⊢
  interval_cases n <;> rfl

/-- The special words' store, in write mode. -/
theorem wp_special {α : Type} {Q : α → sProp (MM F)} {f₀ : Buf (Elt F) ((thr d L).loc cc0_scratch0)}
    (hl : sC.view.LoadsAt (Rect.unit (s := S73744) ![0] S16.size inb_S73744_S16_0).toLoadRect)
    (hs : (sC.access (Rect.unit (s := S73744) ![0] S16.size inb_S73744_S16_0)).Stores Finset.univ)
    (hm : (Finset.univ : Finset (Rect.unit (s := S73744) ![0] S16.size inb_S73744_S16_0).shape.Idx) = Finset.univ ∨ ∀ a, (Rect.unit (s := S73744) ![0] S16.size inb_S73744_S16_0).stride a = 1)
    (k : PUnit → Prog (TpuEff nD τ sig (Elt F) Λ₀ (thr d L).2) α) :
    iprop(wmInv emb ιwm ∗ wb d L t f₀ Finset.univ qL ∅ ∗ wb d L t f₀ (past 0) qR ∅)
      ⊢ iprop((iprop(wb d L t f₀ Finset.univ qL (past 0) ∗ wb d L t f₀ (past 0) qR Finset.univ)
          -∗ wp frame (wpE (defs₀ (F := F)) 𝒱₀ (thr d L) none) Set.univ (k ⟨⟩) Q)
        -∗ wp frame (wpE (defs₀ (F := F)) 𝒱₀ (thr d L) none) Set.univ
            (.op (.load sC (Rect.unit (s := S73744) ![0] S16.size inb_S73744_S16_0).toLoadRect hl) fun _ =>
             .op (.store sC (Rect.unit (s := S73744) ![0] S16.size inb_S73744_S16_0) (show Vec F S16 .i32 from k0_pay23) Finset.univ hs hm) k) Q) := by
  have hset : (sC.access (Rect.unit (s := S73744) ![0] S16.size inb_S73744_S16_0)).setOn Finset.univ = past 0 := by
    rw [View.setOn_univ]
    refine ((set_slice_unit sC.view rfl inb_S73744_S16_0).trans (setOn_whole _ _)).trans ?_
    ext i
    rw [mem_seg, mem_past]
    omega
  have hadm : (sC.access (Rect.unit (s := S73744) ![0] S16.size inb_S73744_S16_0)).Admitted (Elt F) (fun i => some (combB d L t i))
      (show Vec F S16 .i32 from k0_pay23) Finset.univ := by
    refine View.admitted_some_iff.mpr fun x _ => ?_
    refine (special_eq t x).trans ?_
    refine Eq.trans ?_ (read_unit (Val := Elt F) sC.view rfl inb_S73744_S16_0 (combB d L t) x).symm
    exact congrArg t.comb (by show _ = 0 + (x 0).val; omega)
  iintro ⟨#Hinv, HL, HR⟩ Hk
  iapply (wp_load_willBeTo 𝒱₀ (thr d L) none Set.univ (m := sC) (Finset.subset_univ _)) $$ [HL]
  · isplitr; · iexact Hinv
    iexact HL
  iintro %cur %W' %hcur HL
  iapply (wp_store_willBeTo 𝒱₀ (thr d L) none Set.univ (m := sC) (r := Rect.unit (s := S73744) ![0] S16.size inb_S73744_S16_0) (S := past 0) (q := qR) (W := ∅) (f := f₀) hset.subset hadm) $$ [HR]
  · isplitr; · iexact Hinv
    iexact HR
  iintro HR
  rw [hset]
  ihave HR := (Entails.of_eq (wb_congr d L t f₀ (I := past 0) (q := qR) (W := ∅ ∪ past 0) (W' := Finset.univ) (fun i hi => by simp [hi]))) $$ HR
  ihave H := (wb_learn d L t f₀ _ _) $$ [HL HR]
  · isplitl [HL] <;> iassumption
  icases H with ⟨HL, HR⟩
  iapply Hk
  isplitl [HL]
  · iapply (Entails.of_eq (wb_congr d L t f₀ (I := Finset.univ) (q := qL) (W := ∅ ∪ past 0) (W' := past 0) (fun i _ => by simp))) $$ HL
  · iexact HR

/-- The four arrays' parts the tile reads. -/
abbrev tileIn : sProp (MM F) :=
  iprop(((thr d L).loc main_v1_scv ↦[tokSeg L]{fullShare} g1) ∗ ((thr d L).loc main_v3_scv ↦[tokSeg L]{fullShare} g3)
    ∗ ((thr d L).loc main_v4_scv ↦[lenSeg L]{fullShare} g4) ∗ ((thr d L).loc main_v5_scv ↦[lenSeg L]{fullShare} g5))

/-- The tile's part of the result. -/
abbrev outSeg : Finset S2097152.Idx := seg (outBase L) (outBase L + 49152)

/-- The tile's scratch buffers, at some contents, -/
abbrev tileBufs : sProp (MM F) :=
  iprop((∃ f, (thr d L).loc cc0_scratch0 ↦[Finset.univ]{fullShare} f) ∗ (∃ f, (thr d L).loc cc0_scratch1 ↦[Finset.univ]{fullShare} f)
    ∗ (∃ f, (thr d L).loc cc0_scratch2 ↦[Finset.univ]{fullShare} f) ∗ (∃ f, (thr d L).loc cc0_scratch3 ↦[Finset.univ]{fullShare} f)
    ∗ (∃ f, (thr d L).loc cc0_scratch4 ↦[Finset.univ]{fullShare} f))

/-- and its semaphores at zero. -/
abbrev tileSems : sProp (MM F) :=
  iprop(semVal (thr d L, SemLoc.dma cc0_scratch5.sem) 0 ∗ semVal (thr d L, SemLoc.dma cc0_scratch6.sem) 0
    ∗ semVal (thr d L, SemLoc.dma cc0_scratch7.sem) 0 ∗ semVal (thr d L, SemLoc.dma cc0_scratch8.sem) 0
    ∗ semVal (thr d L, SemLoc.dma cc0_scoped0.sem) 0 ∗ semVal (thr d L, SemLoc.dma cc0_scoped1.sem) 0)

theorem half_split (f : Buf (Elt F) ((thr d L).loc cc0_scratch4)) :
    ((thr d L).loc cc0_scratch4 ↦[Finset.univ]{fullShare} f)
      ⊣⊢ (iprop(((thr d L).loc cc0_scratch4 ↦[seg 0 8192]{fullShare} f) ∗ ((thr d L).loc cc0_scratch4 ↦[seg 8192 16384]{fullShare} f)) : sProp (MM F)) := by
  rw [show (Finset.univ : Finset S16384.Idx) = seg 0 8192 ∪ seg 8192 16384 from by
    ext i; have := idx_lt i; rw [Finset.mem_union, mem_seg, mem_seg]; simp only [Finset.mem_univ, true_iff]; omega]
  exact pointsTo_union (Finset.disjoint_left.mpr fun i h0 h1 => by rw [mem_seg] at h0 h1; omega)

/-- The output buffer's halves, whatever each holds, are the buffer. -/
theorem half_join (f f' : Buf (Elt F) ((thr d L).loc cc0_scratch4)) :
    iprop(((thr d L).loc cc0_scratch4 ↦[seg 0 8192]{fullShare} f) ∗ ((thr d L).loc cc0_scratch4 ↦[seg 8192 16384]{fullShare} f'))
      ⊢ (iprop(∃ f, (thr d L).loc cc0_scratch4 ↦[Finset.univ]{fullShare} f) : sProp (MM F)) := by
  classical
  have e0 : ((thr d L).loc cc0_scratch4 ↦[seg 0 8192]{fullShare} f : sProp (MM F)) = ((thr d L).loc cc0_scratch4 ↦[seg 0 8192]{fullShare} (seg (n := 16384) 0 8192).piecewise f f') :=
    pointsTo_congr fun i hi => (Finset.piecewise_eq_of_mem _ _ _ hi).symm
  have e1 : ((thr d L).loc cc0_scratch4 ↦[seg 8192 16384]{fullShare} f' : sProp (MM F)) = ((thr d L).loc cc0_scratch4 ↦[seg 8192 16384]{fullShare} (seg (n := 16384) 0 8192).piecewise f f') :=
    pointsTo_congr fun i hi => (Finset.piecewise_eq_of_notMem _ _ _ (fun h => by
      have h0 := mem_seg.mp hi
      have h1 := mem_seg.mp h
      omega)).symm
  rw [e0, e1]
  iintro ⟨H0, H1⟩
  iexists (seg (n := 16384) 0 8192).piecewise f f'
  iapply (half_split d L _).2
  isplitl [H0] <;> iassumption

/-- The whole run of one tile: its part of the result comes out packed, everything else as it was. -/
theorem wp_tile (hk : t.Ok) (ht : Toks d L t g1 g3) (hl : Lens d L t g4 g5) {O : CellTallies nD τ sig (HIx 1)} (hO : ∀ g, O g none = 0) {W : Waits sig (HIx 1)} :
    iprop(wmInv emb ιwm ∗ levAts (K (F := F)).L (K (F := F)).lev ∗ tileIn d L g1 g3 g4 g5
        ∗ ((thr d L).loc main_v6_scv ↦[outSeg L]{fullShare} g6) ∗ tileBufs d L ∗ tileSems d L ∗ owes (thr d L) O W)
      ⊢ wp (M := MM F) frame (wpE (defs₀ (F := F)) 𝒱₀ (thr d L) none) Set.univ
          (cc0__body (F := F) L (Memref.whole main_v1_scv) (Memref.isWhole_whole _) (Memref.whole main_v3_scv) (Memref.isWhole_whole _)
            (Memref.whole main_v4_scv) (Memref.isWhole_whole _) (Memref.whole main_v5_scv) (Memref.isWhole_whole _) (Memref.whole main_v6_scv) (Memref.isWhole_whole _)
            sC (Memref.isWhole_whole _) (Memref.whole cc0_scratch1) (Memref.isWhole_whole _) (Memref.whole cc0_scratch2) (Memref.isWhole_whole _)
            sK (Memref.isWhole_whole _) sO (Memref.isWhole_whole _) cc0_scratch5 cc0_scratch6 cc0_scratch7 cc0_scratch8 cc0_scoped0 cc0_scoped1)
          fun _ => iprop(tileIn d L g1 g3 g4 g5 ∗ ((thr d L).loc main_v6_scv ↦[outSeg L]{fullShare} outB d L t)
            ∗ tileBufs d L ∗ tileSems d L ∗ owesX d L O W) := by
  rw [cc0__body_eq_skeleton]
  unfold cc0__body_skel
  rw [wp_bind, k0_part5_eq_skeleton, k0_part6_eq_skeleton]
  unfold k0_part5_skel
  simp only [Prog.lift, Prog.bind_op, Prog.bind_ret, Prog.pure_eq_ret]
  iintro ⟨#Hinv, #Hlev, ⟨H1, H3, H4, H5⟩, H6, ⟨⟨%f₀, HC⟩, ⟨%fl0, Hl0⟩, ⟨%fl1, Hl1⟩, ⟨%fk, HK⟩, ⟨%fo, HO⟩⟩, ⟨HsC, HsD, HsA, HsB, Hs0, Hs1⟩, Ho⟩
  -- the flat buffer into write mode, its share split between the tile and the copies
  imod (pointsTo_castIn (emb := emb) (ιwm := ιwm) (E := Set.univ) (fun i => some (combB d L t i))) $$ [HC] with HC
  · isplitr; · iexact Hinv
    iexact HC
  ihave HC := (wb_share d L t f₀ (PosShare.mem_left_op_right fullShare) ∅).1 $$ HC
  icases HC with ⟨HL, HR⟩
  ihave HR := (Entails.of_eq (congrArg (fun I => wb d L t f₀ I qR ∅) past_future.symm)) $$ HR
  ihave HR := (wb_union d L t f₀ past_future_disj qR ∅).1 $$ HR
  icases HR with ⟨HR, HF⟩
  ihave H1 := (pointsTo_share (PosShare.mem_left_op_right fullShare)).1 $$ H1
  icases H1 with ⟨H1l, H1r⟩
  ihave H3 := (pointsTo_share (PosShare.mem_left_op_right fullShare)).1 $$ H3
  icases H3 with ⟨H3l, H3r⟩
  -- blocks 0 and 1 set going
  iapply (wp_inIssue d L t ιwm f₀ g1 g3 ht (b := 0) (by omega) (q := qL)
    (vec1 (k0_off1_eq L 0) (by show 73728 * (L 1).val + 36864 * (L 0).val + 6144 * 0 = _; unfold wid; omega))
    (vec1 (k0_off1_eq L 0) (by show 73728 * (L 1).val + 36864 * (L 0).val + 6144 * 0 = _; unfold wid; omega)) rfl rfl) $$ [H1l H3l HF HsA]
  · isplitr; · iexact Hinv
    isplitl [H1l]; · iexact H1l
    isplitl [H3l]; · iexact H3l
    isplitl [HF] <;> iassumption
  iintro ⟨HA, HF⟩
  iapply (wp_inIssue d L t ιwm f₀ g1 g3 ht (b := 1) (by omega) (q := qR)
    (vec1 (k0_off1_eq L 1) (by show 73728 * (L 1).val + 36864 * (L 0).val + 6144 * 1 = _; unfold wid; omega))
    (vec1 (k0_off1_eq L 1) (by show 73728 * (L 1).val + 36864 * (L 0).val + 6144 * 1 = _; unfold wid; omega)) rfl rfl) $$ [H1r H3r HF HsB]
  · isplitr; · iexact Hinv
    isplitl [H1r]; · iexact H1r
    isplitl [H3r]; · iexact H3r
    isplitl [HF] <;> iassumption
  iintro ⟨HB, HF⟩
  -- the lengths
  iapply (wp_len0 d L t g4 g5 hl) $$ [H4 Hl0 Hs0]
  · isplitl [H4]; · iexact H4
    isplitl [Hl0] <;> iassumption
  iintro Hfl
  iapply (wp_waitLocalO EC 𝒱₀ (thr d L) none (none : HIx 1) (N := NL0) rfl) $$ [Hfl Ho]
  · isplitl [Hfl]; · iexact Hfl
    isplitl [Ho]; · iexact Ho
    iapply ((K (F := F)).mayWait_none (SemLoc.dma cc0_scoped0.sem) hO) $$ Hlev
  iintro ⟨⟨Hl0, H4⟩, Hs0, Ho⟩
  iapply (wp_len1 d L t g4 g5 hl) $$ [H5 Hl1 Hs1]
  · isplitl [H5]; · iexact H5
    isplitl [Hl1] <;> iassumption
  iintro Hfl
  rw [wp_ret]
  imodintro
  rw [wp_bind]
  unfold k0_part6_skel
  simp only [Prog.lift, Prog.bind_op, Prog.bind_ret, Prog.pure_eq_ret]
  iapply (wp_waitLocalO EC 𝒱₀ (thr d L) none (none : HIx 1) (N := NL1) rfl) $$ [Hfl Ho]
  · isplitl [Hfl]; · iexact Hfl
    isplitl [Ho]; · iexact Ho
    iapply ((K (F := F)).mayWait_none (SemLoc.dma cc0_scoped1.sem) hO) $$ Hlev
  iintro ⟨⟨Hl1, H5⟩, Hs1, Ho⟩
  ihave Ho := (owesX_insert d L cc0_scoped1.sem (W := W) (W' := insert (SemLoc.dma cc0_scoped0.sem, none) W) (fun p hp => by
      rcases Finset.mem_insert.mp hp with rfl | hp
      · exact .inr rfl
      · exact .inl hp)) $$ Ho
  iapply (wp_special d L t ιwm (f₀ := f₀)) $$ [HL HR]
  · isplitr; · iexact Hinv
    isplitl [HL] <;> iassumption
  iintro ⟨HL, HR⟩
  -- the table
  iapply (Scf.wp_for_bind frame (wpE (defs₀ (F := F)) 𝒱₀ (thr d L) none) Set.univ _ _ _ _ _ _ (fun n _ => tabInv d L t n)
    (fun u acc => wp_tab d L t hk _ u acc)) $$ [Hl0 Hl1 HK]
  · unfold tabInv
    isplitl [Hl0]; · iexact Hl0
    isplitl [Hl1]; · iexact Hl1
    iexists fk
    isplitr [HK]
    swap; · iexact HK
    ipureintro
    intro i hi
    omega
  iintro %_ Htab
  ihave Htab := (show tabInv d L t k0_t1_loop.trips ⊢ _ from tab_done d L t) $$ Htab
  icases Htab with ⟨Hl0, Hl1, HK⟩
  -- the six blocks
  ihave HO := (half_split d L fo).1 $$ HO
  icases HO with ⟨HO0, HO1⟩
  iapply (Scf.wp_for_bind frame (wpE (defs₀ (F := F)) 𝒱₀ (thr d L) none) Set.univ _ _ _ _ _ _ (fun n _ => blkInv d L t ιwm f₀ g1 g3 g6 O W n)
    (fun u acc => wp_pair d L t ιwm f₀ g1 g3 g6 hk ht hO _ u acc)) $$ [Ho HL HR HF HA HB HsC HsD HO0 HO1 H6 HK]
  · unfold blkInv
    isplitr; · iexact Hinv
    isplitr; · iexact Hlev
    isplitl [Ho]; · iexact Ho
    isplitl [HL]; · iexact HL
    isplitl [HR]; · iexact HR
    isplitl [HF]; · iexact HF
    isplitl [HA]
    · unfold inSide; rw [if_pos (by omega)]; iexact HA
    isplitl [HB]
    · unfold inSide; rw [if_pos (by omega)]; iexact HB
    isplitl [HsC HO0]
    · unfold outSide; rw [if_neg (by omega)]
      isplitl [HsC]; · iexact HsC
      iexists fo; iexact HO0
    isplitl [HsD HO1]
    · unfold outSide; rw [if_neg (by omega)]
      isplitl [HsD]; · iexact HsD
      iexists fo; iexact HO1
    isplitr [H6 HK]
    · unfold landed
      rw [show (seg (outBase L) (outBase L + 8192 * (2 * 0 - 2)) : Finset S2097152.Idx) = ∅ from by
        ext i; rw [mem_seg]; simp only [Finset.notMem_empty, iff_false]; omega]
      rw [pointsTo_empty]
      iempintro
    isplitl [H6]
    · unfold unsent; iexact H6
    iexact HK
  iintro %_ Hblk
  ihave Hblk := (show blkInv d L t ιwm f₀ g1 g3 g6 O W k0_t2_loop.trips ⊢ blkInv d L t ιwm f₀ g1 g3 g6 O W 3 from .rfl) $$ Hblk
  unfold blkInv
  icases Hblk with ⟨-, -, Ho, HL, HR, HF, HA, HB, HC, HD, Hland, Hun, HK⟩
  ihave HA := (show inSide d L t f₀ g1 g3 cc0_scratch7.sem (2 * 3) qL ⊢ _ from Entails.of_eq (by unfold inSide; rw [if_neg (by omega)])) $$ HA
  icases HA with ⟨HsA, H1l, H3l⟩
  ihave HB := (show inSide d L t f₀ g1 g3 cc0_scratch8.sem (2 * 3 + 1) qR ⊢ _ from Entails.of_eq (by unfold inSide; rw [if_neg (by omega)])) $$ HB
  icases HB with ⟨HsB, H1r, H3r⟩
  ihave HC := (show outSide d L t cc0_scratch5.sem (2 * 3) 0 ⊢ outFlight d L t cc0_scratch5.sem 4 0 from Entails.of_eq (by unfold outSide; rw [if_pos (by omega)])) $$ HC
  ihave HD := (show outSide d L t cc0_scratch6.sem (2 * 3 + 1) 8192 ⊢ outFlight d L t cc0_scratch6.sem 5 8192 from Entails.of_eq (by unfold outSide; rw [if_pos (by omega)])) $$ HD
  -- the last two blocks out
  iapply (wp_outWait d L t hO (W := W)) $$ [HC Ho]
  · isplitr; · iexact Hlev
    isplitl [HC] <;> iassumption
  unfold outD
  iintro ⟨⟨H6, %fa, HO0⟩, HsC, Ho⟩
  ihave Hland := (landed_step d L t 4) $$ [Hland H6]
  · isplitl [Hland] <;> iassumption
  rw [wp_ret]
  imodintro
  iapply (wp_outWait d L t hO (W := W)) $$ [HD Ho]
  · isplitr; · iexact Hlev
    isplitl [HD] <;> iassumption
  unfold outD
  iintro ⟨⟨H6, %fb, HO1⟩, HsD, Ho⟩
  ihave Hland := (landed_step d L t 5) $$ [Hland H6]
  · isplitl [Hland] <;> iassumption
  -- the flat buffer out of write mode
  ihave HL := (Entails.of_eq (congrArg (fun I => wb d L t f₀ Finset.univ qL I) past_six)) $$ HL
  ihave HR := (Entails.of_eq (congrArg (fun I => wb d L t f₀ I qR Finset.univ) past_six)) $$ HR
  ihave HC := (wb_share d L t f₀ (PosShare.mem_left_op_right fullShare) Finset.univ).2 $$ [HL HR]
  · isplitl [HL] <;> iassumption
  imod (willBeTo_castOut_some (emb := emb) (ιwm := ιwm) (E := Set.univ) (g := combB d L t)) $$ [HC] with HC
  · isplitr; · iexact Hinv
    iexact HC
  ihave H1 := (pointsTo_share (PosShare.mem_left_op_right fullShare)).2 $$ [H1l H1r]
  · isplitl [H1l] <;> iassumption
  ihave H3 := (pointsTo_share (PosShare.mem_left_op_right fullShare)).2 $$ [H3l H3r]
  · isplitl [H3l] <;> iassumption
  ihave HO := (half_join d L fa fb) $$ [HO0 HO1]
  · isplitl [HO0] <;> iassumption
  rw [wp_ret]
  imodintro
  isplitl [H1 H3 H4 H5]
  · isplitl [H1]; · iexact H1
    isplitl [H3]; · iexact H3
    isplitl [H4] <;> iassumption
  isplitl [Hland]
  · unfold landed; iexact Hland
  isplitl [HC Hl0 Hl1 HK HO]
  · isplitl [HC]; · iexists _; iexact HC
    isplitl [Hl0]; · iexists _; iexact Hl0
    isplitl [Hl1]; · iexists _; iexact Hl1
    isplitl [HK]; · iexists _; iexact HK
    iexact HO
  isplitl [HsC HsD HsA HsB Hs0 Hs1]
  · isplitl [HsC]; · iexact HsC
    isplitl [HsD]; · iexact HsD
    isplitl [HsA]; · iexact HsA
    isplitl [HsB]; · iexact HsB
    isplitl [Hs0] <;> iassumption
  iexact Ho

end Tile

end Cert.Proof.Pack

end
-- ==== Proof.Launch.lean ====
/-
  The SparseCore call as the launch theorem takes it: what the call hands each tile and has back, and each tile's run from
  that. The arrays the call reads are given by a valuation `V` of the device's buffers; what it is to write is stated once
  for the whole result (`packedOut`), by the row data read off those arrays (`rowData`).
-/
module

public import proofs.«01_k».proof.Proof.Tile

@[expose] public section

noncomputable section

namespace Cert.Proof.Pack

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Transfers

variable {F : FTy → Type}

/-! ## The rows' data, read off the arrays the call is given -/

/-- The rows' data: the lengths and tokens of all the rows the SparseCores pack. -/
def rowData (g1 g3 : IVec S1179648 32) (g4 g5 : IVec S3072 32) : TileData where
  len0 r := if h : r < 3072 then (g4 (pos r h)).toNat else 0
  len1 r := if h : r < 3072 then (g5 (pos r h)).toNat else 0
  tok0 i := if h : i < 1179648 then g1 (pos i h) else 0
  tok1 i := if h : i < 1179648 then g3 (pos i h) else 0

/-- The data of the rows from row `96 * w` on: tile `w`'s. -/
def TileData.from (t : TileData) (w : ℕ) : TileData where
  len0 r := t.len0 (96 * w + r)
  len1 r := t.len1 (96 * w + r)
  tok0 i := t.tok0 (36864 * w + i)
  tok1 i := t.tok1 (36864 * w + i)

theorem TileData.Ok.from {t : TileData} (h : t.Ok) (w : ℕ) : (t.from w).Ok := fun r => h (96 * w + r)

theorem from_row (t : TileData) (w r j : ℕ) : (t.from w).row r j = t.row (96 * w + r) j := by
  unfold TileData.row TileData.from
  refine congrArg₂ (fun x y => packed _ _ x y j) (funext fun s => congrArg t.tok0 ?_) (funext fun s => congrArg t.tok1 ?_) <;> omega

section Call

variable (d : Dev nD)

/-- A buffer of the device's TensorCore. -/
abbrev tcBuf (r : Ref sig .tc) : DevRef τ sig := Proc.devRef .tc r

/-- The rows' data at the valuation `W`. -/
abbrev dataOf (W : Valuation τ sig (Elt F)) : TileData :=
  rowData (show IVec S1179648 32 from W (tcBuf main_v1)) (show IVec S1179648 32 from W (tcBuf main_v3))
    (show IVec S3072 32 from W (tcBuf main_v4)) (show IVec S3072 32 from W (tcBuf main_v5))

/-- The flat result with every row packed. -/
def packedOut (W : Valuation τ sig (Elt F)) : (tcBuf main_v6).ty.Contents (Elt F) :=
  fun (i : S2097152.Idx) => (dataOf W).row ((i 0).val / 512) ((i 0).val % 512)

variable (W : Valuation τ sig (Elt F)) (L : grid0.Coords)

theorem toks_from : Toks d L ((dataOf W).from (wid L)) (W (tcBuf main_v1)) (W (tcBuf main_v3)) where
  tok0 i h _ := by
    show _ = dite _ _ _
    rw [dif_pos h]
  tok1 i h _ := by
    show _ = dite _ _ _
    rw [dif_pos h]

theorem lens_from : Lens d L ((dataOf W).from (wid L)) (W (tcBuf main_v4)) (W (tcBuf main_v5)) where
  len0 i h _ := by
    show _ = BitVec.ofNat 32 (dite _ _ _)
    rw [dif_pos h, BitVec.ofNat_toNat, BitVec.setWidth_eq]
  len1 i h _ := by
    show _ = BitVec.ofNat 32 (dite _ _ _)
    rw [dif_pos h, BitVec.ofNat_toNat, BitVec.setWidth_eq]

/-- The whole result holds, in a tile's part, what that tile is to write. -/
theorem packedOut_tile {i : S2097152.Idx} (hi : i ∈ outSeg L) :
    (outB (F := F) d L ((dataOf W).from (wid L))) i = packedOut W i := by
  obtain ⟨h0, h1⟩ := mem_seg.mp hi
  show TileData.row _ _ _ = TileData.row _ _ _
  rw [from_row]
  unfold outBase at *
  congr 1 <;> omega

/-! ## What the call hands a tile, and has back -/

/-- The tile's parts of the arrays it reads. -/
abbrev goIn : sProp (MM F) := tileIn d L (W (tcBuf main_v1)) (W (tcBuf main_v3)) (W (tcBuf main_v4)) (W (tcBuf main_v5))

/-- What a tile is handed: its parts of the arrays it reads and of the result, -/
abbrev tileGo : sProp (MM F) := iprop(goIn d W L ∗ ∃ f, (thr d L).loc main_v6_scv ↦[outSeg L]{fullShare} f)

/-- and what it hands back: the same, its part of the result packed. -/
abbrev tileDone : sProp (MM F) :=
  iprop(goIn d W L ∗ ((thr d L).loc main_v6_scv ↦[outSeg L]{fullShare} packedOut W))

end Call

/-- The coordinates of a tile. -/
def coordsV (c : Fin (grid0.bound 0)) (s : Fin (grid0.bound 1)) : grid0.Coords :=
  fun | 0 => c | 1 => s | ⟨_ + 2, h⟩ => absurd h (Nat.not_lt.2 (Nat.le_add_left _ _))

variable (W : Dev nD → Valuation τ sig (Elt F))

/-- What the call's handshakes carry: a SparseCore is handed all its tiles' parts and hands them back. Every tile knows the
    write mode's invariant from the start. -/
def P : (K (F := F)).Pay (nD := nD) (Val := Elt F) (Name := ℕ) (U := UU F) where
  st := fun q d c => match q with | 0 => bigSep Finset.univ fun i : Fin (grid0.bound 1) => tileGo d (W d) (coordsV c i)
  dn := fun q d c => match q with | 0 => bigSep Finset.univ fun i : Fin (grid0.bound 1) => tileDone d (W d) (coordsV c i)
  go := fun q d c i => match q with | 0 => tileGo d (W d) (coordsV c i)
  td := fun q d c i => match q with | 0 => tileDone d (W d) (coordsV c i)
  x := fun _ _ => iprop(∃ ιwm, wmInv emb ιwm)

instance P_storable : (P W).IsStorable where
  st q d c := match q with
    | 0 => (inferInstance : BI.Storable (upEmb : UEmb _ (MM F)) (bigSep Finset.univ fun i : Fin (grid0.bound 1) => tileGo d (W d) (coordsV c i)))
  dn q d c := match q with
    | 0 => (inferInstance : BI.Storable (upEmb : UEmb _ (MM F)) (bigSep Finset.univ fun i : Fin (grid0.bound 1) => tileDone d (W d) (coordsV c i)))
  go q d c i := match q with
    | 0 => (inferInstance : BI.Storable (upEmb : UEmb _ (MM F)) (tileGo d (W d) (coordsV c i)))
  td q d c i := match q with
    | 0 => (inferInstance : BI.Storable (upEmb : UEmb _ (MM F)) (tileDone d (W d) (coordsV c i)))

/-- A SparseCore's parts are its tiles' parts. -/
theorem vecSplit : (K (F := F)).VecSplit' (P W) 0 := by
  intro d c
  show (bigSep Finset.univ fun i : Fin (grid0.bound 1) => tileGo d (W d) (coordsV c i))
    ⊢ |={Set.univ}=> iprop((bigSep Finset.univ fun i : Fin (grid0.bound 1) => tileGo d (W d) (coordsV c i))
      ∗ ((bigSep Finset.univ fun i : Fin (grid0.bound 1) => tileDone d (W d) (coordsV c i))
          -∗ bigSep Finset.univ fun i : Fin (grid0.bound 1) => tileDone d (W d) (coordsV c i)))
  iintro H
  imodintro
  isplitl [H]; · iexact H
  iintro H; iexact H

/-! ## A tile's own buffers and semaphores -/

section Own

variable (d : Dev nD) (L : grid0.Coords)

/-- The tile's scratch buffers. -/
def scratchRefs : Finset (Ref sig .scVector) := {cc0_scratch0, cc0_scratch1, cc0_scratch2, cc0_scratch3, cc0_scratch4}

/-- The tile's semaphores. -/
def scratchSems : Finset (SemLoc sig) :=
  {.dma cc0_scratch5.sem, .dma cc0_scratch6.sem, .dma cc0_scratch7.sem, .dma cc0_scratch8.sem, .dma cc0_scoped0.sem, .dma cc0_scoped1.sem}

/-- The tile's own buffers are its scratch buffers and some others. -/
theorem ownBufs_tile : (ownBufs (thr d L) : sProp (MM F))
    = iprop(tileBufs d L ∗ bigSep (ownRefs (τ := τ) (thr d L).2 \ scratchRefs.map ⟨(thr d L).2.devRef, Proc.devRef_injective _⟩)
        fun b => iprop(∃ f, ((d, b) : Loc nD τ sig) ↦{fullShare} f)) := by
  unfold SparseCore.Cfg.ownBufs
  rw [SparseCore.bigSep_sdiff_split' (t := scratchRefs.map ⟨(thr d L).2.devRef, Proc.devRef_injective _⟩) (fun b hb => by
    obtain ⟨r, hr, rfl⟩ := Finset.mem_map.mp hb
    refine SparseCore.Cfg.mem_ownRefs_of_owner ?_
    simp only [scratchRefs, Finset.mem_insert, Finset.mem_singleton] at hr
    rcases hr with rfl | rfl | rfl | rfl | rfl <;> rfl), BI.bigSep_map]
  unfold scratchRefs
  rw [SparseCore.bigSep_insert' (show cc0_scratch0 ∉ ({cc0_scratch1, cc0_scratch2, cc0_scratch3, cc0_scratch4} : Finset (Ref sig .scVector)) by decide),
    SparseCore.bigSep_insert' (show cc0_scratch1 ∉ ({cc0_scratch2, cc0_scratch3, cc0_scratch4} : Finset (Ref sig .scVector)) by decide),
    SparseCore.bigSep_insert' (show cc0_scratch2 ∉ ({cc0_scratch3, cc0_scratch4} : Finset (Ref sig .scVector)) by decide),
    SparseCore.bigSep_insert' (show cc0_scratch3 ∉ ({cc0_scratch4} : Finset (Ref sig .scVector)) by decide), bigSep_singleton]
  rfl

/-- The tile's own semaphores are those it names and some others, all at zero. -/
theorem ownSems0_tile : (ownSems0 (thr d L) : sProp (MM F))
    = iprop(tileSems d L ∗ bigSep (ownCells (thr d L) \ scratchSems.map ⟨fun s => (thr d L, s), fun _ _ e => (Prod.mk.inj e).2⟩)
        fun g => semVal g 0) := by
  unfold SparseCore.Cfg.ownSems0
  rw [SparseCore.bigSep_sdiff_split' (t := scratchSems.map ⟨fun s => (thr d L, s), fun _ _ e => (Prod.mk.inj e).2⟩) (fun g hg => by
    obtain ⟨s, hs, rfl⟩ := Finset.mem_map.mp hg
    exact mem_ownCells.mpr ⟨rfl, (show ∀ s ∈ scratchSems, s.isScoped .scVector = true by decide) s hs⟩), BI.bigSep_map]
  unfold scratchSems
  rw [SparseCore.bigSep_insert' (by decide), SparseCore.bigSep_insert' (by decide), SparseCore.bigSep_insert' (by decide),
    SparseCore.bigSep_insert' (by decide), SparseCore.bigSep_insert' (by decide), bigSep_singleton]
  rfl

end Own

/-! ## A tile's run, from what it is handed -/

section Obl

variable [FloatOps F]

/-- The program a tile runs. -/
abbrev tileProg (L : grid0.Coords) :=
  cc0__body (F := F) L (Memref.whole main_v1_scv) (Memref.isWhole_whole _) (Memref.whole main_v3_scv) (Memref.isWhole_whole _)
    (Memref.whole main_v4_scv) (Memref.isWhole_whole _) (Memref.whole main_v5_scv) (Memref.isWhole_whole _) (Memref.whole main_v6_scv) (Memref.isWhole_whole _)
    sC (Memref.isWhole_whole _) (Memref.whole cc0_scratch1) (Memref.isWhole_whole _) (Memref.whole cc0_scratch2) (Memref.isWhole_whole _)
    sK (Memref.isWhole_whole _) sO (Memref.isWhole_whole _) cc0_scratch5 cc0_scratch6 cc0_scratch7 cc0_scratch8 cc0_scoped0 cc0_scoped1

theorem tile_body (hok : ∀ d, (dataOf (W d)).Ok) (d : Dev nD) (L : grid0.Coords) (O : CellTallies nD τ sig (HIx 1)) (Wt : Waits sig (HIx 1))
    (hO : ∀ g, O g none = 0) (q : Fin 1) :
    iprop(levAts (K (F := F)).L (K (F := F)).lev ∗ (∃ ιwm, wmInv emb ιwm) ∗ tileGo d (W d) L
        ∗ scopedBufs (thr d L) ∗ scopedSems0 (thr d L) ∗ owes (thr d L) O Wt)
      ⊢ wp (M := MM F) frame (wpE (defs₀ (F := F)) 𝒱₀ (thr d L) none) Set.univ (tileProg (F := F) L)
          fun _ => iprop(tileDone d (W d) L ∗ scopedBufs (thr d L) ∗ scopedSems0 (thr d L)
            ∗ ∃ W', ⌜∀ p ∈ W', p ∈ Wt ∨ p.2 = none ∨ p.2 = some q⌝ ∗ owes (thr d L) O W') := by
  rw [(K (F := F)).scopedBufs_V facts d ((L 0).castLE hcore0) ((L 1).castLE hsub0),
    SparseCore.Cfg.scopedSems0_V (Val := Elt F) d ((L 0).castLE hcore0) ((L 1).castLE hsub0), ownSems0_tile, ownBufs_tile]
  iintro ⟨#Hlev, ⟨%ιwm, #Hwm⟩, ⟨Hin, %f, Hout⟩, ⟨Hbufs, Hbr⟩, ⟨Hsems, Hsr⟩, HO⟩
  iapply (wp_wand (M := MM F) frame (wpE (defs₀ (F := F)) 𝒱₀ (thr d L) none) Set.univ (p := tileProg (F := F) L)) $$ [Hin Hout Hbufs Hsems HO]
  · iapply (wp_tile d L ((dataOf (W d)).from (wid L)) ιwm _ _ _ _ f ((hok d).from _) (toks_from d (W d) L) (lens_from d (W d) L) hO)
    isplitr; · iexact Hwm
    isplitr; · iexact Hlev
    isplitl [Hin]; · iexact Hin
    isplitl [Hout]; · iexact Hout
    isplitl [Hbufs]; · iexact Hbufs
    isplitl [Hsems]; · iexact Hsems
    iexact HO
  iintro %_ ⟨Hin, Hout, Hbufs, Hsems, HO⟩
  isplitl [Hin Hout]
  · isplitl [Hin]; · iexact Hin
    have e : ((thr d L).loc main_v6_scv ↦[outSeg L]{fullShare} outB d L ((dataOf (W d)).from (wid L)) : sProp (MM F))
        = ((thr d L).loc main_v6_scv ↦[outSeg L]{fullShare} packedOut (W d)) :=
      pointsTo_congr fun i hi => packedOut_tile d (W d) L hi
    iapply (Entails.of_eq e) $$ Hout
  isplitl [Hbufs Hbr]
  · isplitl [Hbufs] <;> iassumption
  isplitl [Hsems Hsr]
  · isplitl [Hsems] <;> iassumption
  unfold owesX
  icases HO with ⟨%W', %hW', HO⟩
  iexists W'
  isplitr
  · ipureintro; exact fun p hp => (hW' p hp).imp_right Or.inl
  iexact HO

theorem defs₀_vector (c : Fin τ.nSC) (s : Fin τ.nSub) :
    defs₀ (F := F) (.scVector c s) 0 () = SparseCore.onTile hcore0 hsub0 (fun c s => tileProg (F := F) (coordsV c s)) ⟨⟩ c s := rfl

theorem tileObl (hok : ∀ d, (dataOf (W d)).Ok) : (K (F := F)).TileObl (D (F := F)) 𝒱 (P W) v₀ 0 := by
  intro d c i O Wt hO _ _
  simp only [show (P W).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]
  simp only [SparseCore.onTile, hc, and_self, ↓reduceDIte]
  exact tile_body W hok d (coordsV ⟨_, hc.1⟩ ⟨_, hc.2⟩) O Wt hO 0

end Obl

end Cert.Proof.Pack
-- ==== Proof.Want.lean ====
/-
  The whole result as a function of the four arguments (`want`), and how the arrays of the host's run are read off the
  arguments: the flat tokens and lengths the SparseCore call is given, the rows the TensorCore call is given, and the
  result array, which is the first call's rows with the second call's written over the last 1024.
-/
module

public import proofs.«01_k».proof.Proof.Launch
public import Idealize.ShloMosaic.Lib.PointwiseCore
public import Idealize.ShloMosaic.Lib.Pointwise.Reshape

@[expose] public section

noncomputable section

namespace Cert.Proof.Pack

open Cert.KernelIdeal Cert.KernelIdeal.Gen
open Idealize.ShloMosaic

/-- Token `s` of row `r` of a segment. -/
def rowsOf (A : IVec S4096x384 32) (r s : ℕ) : BitVec 32 := if h : r < 4096 ∧ s < 384 then A (ix2 ⟨r, h.1⟩ ⟨s, h.2⟩) else 0

/-- The length of row `r` of a segment. -/
def lenOf (l : IVec S4096 32) (r : ℕ) : ℕ := if h : r < 4096 then (l (ix1 ⟨r, h⟩)).toNat else 0

/-- The result: every row packed. -/
def want (A B : IVec S4096x384 32) (a b : IVec S4096 32) : IVec S4096x512 32 :=
  fun i => packed (lenOf a (i 0).val) (lenOf b (i 0).val) (rowsOf A (i 0).val) (rowsOf B (i 0).val) (i 1).val

theorem rowsOf_eq (A : IVec S4096x384 32) (i : S4096x384.Idx) {r s : ℕ} (hr : (i 0).val = r) (hs : (i 1).val = s) : A i = rowsOf A r s := by
  subst hr hs
  unfold rowsOf
  rw [dif_pos ⟨(i 0).isLt, (i 1).isLt⟩]
  exact congrArg A (eq_ix2 i)

theorem lenOf_eq (l : IVec S4096 32) (i : S4096.Idx) {r : ℕ} (hr : (i 0).val = r) : l i = BitVec.ofNat 32 (lenOf l r) := by
  subst hr
  unfold lenOf
  rw [dif_pos (show (i 0).val < 4096 from (i 0).isLt), BitVec.ofNat_toNat, BitVec.setWidth_eq]
  exact congrArg l (eq_ix1 i)

/-! ## What the SparseCore call is given -/

/-- The flat tokens: 384 of the first 3072 rows after one another. -/
theorem flat_toks (A : IVec S4096x384 32) (i : S1179648.Idx) :
    shapeCast S1179648 (extractStridedSlice S3072x384 ![0, 0] A slices_S4096x384_S3072x384_0_0) shapeCasts_S3072x384_S1179648 i
      = rowsOf A ((i 0).val / 384) ((i 0).val % 384) := by
  pointwise
  exact rowsOf_eq A _ rfl rfl

theorem first_lens (l : IVec S4096 32) (i : S3072.Idx) : extractStridedSlice S3072 ![0] l slices_S4096_S3072_0 i = BitVec.ofNat 32 (lenOf l (i 0).val) := by
  pointwise
  exact lenOf_eq l _ rfl

/-! ## What the TensorCore call is given -/

theorem last_rows (A : IVec S4096x384 32) (k : S1024x384.Idx) :
    extractStridedSlice S1024x384 ![3072, 0] A slices_S4096x384_S1024x384_3072_0 k = rowsOf A (3072 + (k 0).val) (k 1).val := by
  pointwise
  exact rowsOf_eq A _ rfl rfl

theorem last_lens (l : IVec S4096 32) (k : S1024x1.Idx) :
    shapeCast S1024x1 (extractStridedSlice S1024 ![3072] l slices_S4096_S1024_3072) shapeCasts_S1024_S1024x1 k = BitVec.ofNat 32 (lenOf l (3072 + (k 0).val)) := by
  pointwise
  exact lenOf_eq l _ rfl

/-! ## The result -/

/-- The flat result's rows with the last 1024 written over. -/
theorem joined (x : IVec S2097152 32) (u : IVec S1024x512 32) (st : Fin 2 → Int) (h0 : st 0 = 3072) (h1 : st 1 = 0) (i : S4096x512.Idx) :
    Host.dynamicUpdateSlice (shapeCast S4096x512 x shapeCasts_S2097152_S4096x512) u st updateFits_S4096x512_S1024x512 i
      = if h : 3072 ≤ (i 0).val then u (ix2 ⟨(i 0).val - 3072, by have : (i 0).val < 4096 := (i 0).isLt; omega⟩ (i 1))
        else x (ix1 ⟨(i 0).val * 512 + (i 1).val, by have : (i 0).val < 4096 := (i 0).isLt; have : (i 1).val < 512 := (i 1).isLt; omega⟩) := by
  have hr : (i 0).val < 4096 := (i 0).isLt
  have hc : (i 1).val < 512 := (i 1).isLt
  refine (congrFun (Host.dynamicUpdateSlice_eq_updateSlice _ u st updateFits_S4096x512_S1024x512 ![3072, 0]
    (fun a => match a with | ⟨0, _⟩ => by rw [show st ⟨0, _⟩ = 3072 from h0]; rfl | ⟨1, _⟩ => by rw [show st ⟨1, _⟩ = 0 from h1]; rfl)
    ⟨rfl, by decide⟩) i).trans ?_
  unfold updateSlice
  by_cases h : 3072 ≤ (i 0).val
  · refine (dif_pos (fun a => match a with
      | ⟨0, _⟩ => ⟨h, show (i 0).val < 3072 + 1024 by omega⟩
      | ⟨1, _⟩ => ⟨Nat.zero_le _, show (i 1).val < 0 + 512 by omega⟩)).trans ((dif_pos h).trans ?_).symm
    exact congrArg u (funext fun a => match a with | ⟨0, _⟩ => rfl | ⟨1, _⟩ => rfl)
  · refine (dif_neg fun k => h (show 3072 ≤ (i 0).val from (k (0 : Fin 2)).1)).trans ((dif_neg h).trans ?_).symm
    pointwise

end Cert.Proof.Pack

end
-- ==== Proof.Turn.lean ====
/-
  The TensorCore block kernel's value, row by row: what it stores into a 256-row block of the result is, at every
  position, the packed row of that row's two segments.

  The kernel places segment 0 by one rotation. It places segment 1 by nine conditional rotations by 1, 2, 4, …, 256,
  one for each bit of the distance, which differs from row to row.
-/
module

public import proofs.«01_k».proof.Proof.Table
public import Idealize.ShloMosaic.Lib.Pipeline.Value

@[expose] public section

noncomputable section

namespace Cert.Proof.Pack

open Cert.KernelIdeal Cert.KernelIdeal.Gen

open Idealize.ShloMosaic

variable {F : FTy → Type}

section Turn

variable {α : Type}

/-- Row `p` of a block of 512 columns is the function `f` of the column. -/
def RowIs (p : ℕ) (y : S256x512.Idx → α) (f : ℕ → α) : Prop := ∀ i : S256x512.Idx, (i 0).val = p → y i = f (i 1).val

/-- The one word that a column of 256 holds on row `p`. -/
def ColIs (p : ℕ) (c : S256x1.Idx → α) (v : α) : Prop := ∀ i : S256x1.Idx, (i 0).val = p → c i = v

variable {p : ℕ}

/-- A column spread over the block's columns. -/
theorem RowIs.spread {c : S256x1.Idx → α} {v : α} (hc : ColIs p c v) :
    RowIs p (broadcastTo S256x512 c broadcasts_S256x1_S256x512) fun _ => v := by
  intro i hi
  unfold broadcastTo
  exact hc _ hi

/-- A rotation by `n` columns. -/
theorem RowIs.rotate {y : S256x512.Idx → α} {f : ℕ → α} (hy : RowIs p y f) (n : BitVec 32) :
    RowIs p (dynamicRotate 1 n none y rotates_S256x512_d1) fun j => f ((j + 512 - n.toNat % 512) % 512) := by
  intro i hi
  unfold dynamicRotate
  exact hy _ hi

theorem RowIs.congr {y : S256x512.Idx → α} {f g : ℕ → α} (hy : RowIs p y f) (h : ∀ j < 512, f j = g j) : RowIs p y g :=
  fun i hi => (hy i hi).trans (h _ (i 1).isLt)

/-- A segment's block of 384 columns with 128 zero columns behind it. -/
theorem RowIs.widen {y : IVec S256x384 32} {f : ℕ → BitVec 32} (hy : ∀ i : S256x384.Idx, (i 0).val = p → y i = f (i 1).val) :
    RowIs p (concatenate S256x512 1 [⟨S256x384, y⟩, ⟨S256x128, k1_pay7⟩] concatenates_S256x384_S256x128_S256x512_d1)
      fun j => if j < 384 then f j else 0#32 := by
  intro i hi
  beta_reduce
  by_cases h : (i 1).val < 384
  · rw [if_pos h]
    have e := concatenate_pair_apply_left (t := S256x512) (s₁ := S256x384) (s₂ := S256x128) 1 y k1_pay7
      concatenates_S256x384_S256x128_S256x512_d1 i rfl (fun a => match a with | 0 => i 0 | 1 => ⟨(i 1).val, h⟩)
      (fun b => match b with | 0 => rfl | 1 => rfl)
    rw [e]
    exact hy _ hi
  · rw [if_neg h]
    have hlt : (i 1).val < 512 := (i 1).isLt
    have e := concatenate_pair_apply_right (t := S256x512) (s₁ := S256x384) (s₂ := S256x128) 1 y k1_pay7
      concatenates_S256x384_S256x128_S256x512_d1 i rfl rfl
      (fun a => match a with | 0 => i 0 | 1 => ⟨(i 1).val - 384, by show _ < 128; omega⟩)
      (fun b => match b with | 0 => fun _ => rfl | 1 => fun hb => absurd rfl hb)
      (by show (i 1).val - 384 + 384 = (i 1).val; omega)
    rw [e]
    rfl

/-- Bit `b` of a small word, as the kernel tests it. -/
theorem bit_eq {m b : ℕ} (hm : m < 512) (hb : b < 9) :
    IntOp.cmpi .eq (IntOp.shrsi .vector (BitVec.ofNat 32 m) (BitVec.ofNat 32 b) &&& 1#32) 1#32
      = BitVec.ofBool (decide (m / 2 ^ b % 2 = 1)) := by
  unfold IntOp.shrsi
  rw [if_pos (by rw [BitVec.toNat_ofNat]; omega)]
  unfold IntOp.cmpi
  have e : BitVec.sshiftRight' (BitVec.ofNat 32 m) (BitVec.ofNat 32 b) &&& 1#32 = BitVec.ofNat 32 (m / 2 ^ b % 2) := by
    apply BitVec.eq_of_toNat_eq
    have hmsb : (BitVec.ofNat 32 m).msb = false := by
      rw [BitVec.msb_eq_decide]; simp only [BitVec.toNat_ofNat, decide_eq_false_iff_not]; omega
    rw [BitVec.toNat_and, BitVec.sshiftRight', BitVec.sshiftRight_eq_of_msb_false hmsb, BitVec.toNat_ushiftRight]
    simp only [BitVec.toNat_ofNat, Nat.shiftRight_eq_div_pow]
    rw [Nat.mod_eq_of_lt (show b < 2 ^ 32 by omega), Nat.mod_eq_of_lt (show m < 2 ^ 32 by omega)]
    show _ &&& 1 = _
    rw [Nat.and_one_is_mod, Nat.mod_eq_of_lt (show m / 2 ^ b % 2 < 2 ^ 32 by omega)]
  rw [e]
  show BitVec.ofBool _ = _
  congr 1
  rw [Bool.eq_iff_iff]
  simp only [beq_iff_eq, decide_eq_true_eq]
  constructor
  · intro h
    have := congrArg BitVec.toNat h
    simp only [BitVec.toNat_ofNat] at this
    omega
  · intro h; rw [h]

/-- One conditional rotation: rows whose word has bit `b` set are rotated by `2 ^ b`. -/
def turn (n : IVec S256x1 32) (b : ℕ) (y : S256x512.Idx → α) : S256x512.Idx → α :=
  select (broadcastTo S256x512 (shapeCast S256x1 (cmpi .eq (andi (shrsi n (broadcast S256x1 (BitVec.ofNat 32 b))) (broadcast S256x1 1#32)) (broadcast S256x1 1#32))
      shapeCasts_S256x1_S256x1) broadcasts_S256x1_S256x512)
    (dynamicRotate 1 (BitVec.ofNat 32 (2 ^ b)) none y rotates_S256x512_d1) y

/-- A row already turned by the low `b` bits of its distance `m` is afterwards turned by the low `b + 1` bits. -/
theorem RowIs.turn {n : IVec S256x1 32} {b m : ℕ} (hm : m < 512) (hb : b < 9) (hn : ColIs p n (BitVec.ofNat 32 m))
    {y : S256x512.Idx → α} {f : ℕ → α} (hy : RowIs p y fun j => f ((j + 512 - m % 2 ^ b) % 512)) :
    RowIs p (turn n b y) fun j => f ((j + 512 - m % 2 ^ (b + 1)) % 512) := by
  have hbit : ColIs p (cmpi .eq (andi (shrsi n (broadcast S256x1 (BitVec.ofNat 32 b))) (broadcast S256x1 1#32)) (broadcast S256x1 1#32))
      (BitVec.ofBool (decide (m / 2 ^ b % 2 = 1))) := by
    intro i hi
    show IntOp.cmpi .eq (IntOp.shrsi .vector (n i) (BitVec.ofNat 32 b) &&& 1#32) 1#32 = _
    rw [hn i hi]
    exact bit_eq hm hb
  have hsp := RowIs.spread hbit
  have hrot := hy.rotate (BitVec.ofNat 32 (2 ^ b))
  have h2 : 2 ^ b ≤ 256 := (Nat.pow_le_pow_right (by omega) (show b ≤ 8 by omega)).trans (by decide)
  have hpos : 0 < 2 ^ b := Nat.pos_of_ne_zero (by positivity)
  have hmod : m % 2 ^ (b + 1) = m % 2 ^ b + 2 ^ b * (m / 2 ^ b % 2) := by rw [pow_succ, Nat.mod_mul]
  intro i hi
  have hj : (i 1).val < 512 := (i 1).isLt
  have hlt : m % 2 ^ b < 2 ^ b := Nat.mod_lt _ hpos
  show Scalar.select _ _ _ = _
  rw [shapeCast_self, hsp i hi, hrot i hi, hy i hi, BitVec.toNat_ofNat]
  rw [Nat.mod_eq_of_lt (show 2 ^ b < 2 ^ 32 by omega), Nat.mod_eq_of_lt (show 2 ^ b < 512 by omega)]
  by_cases h : m / 2 ^ b % 2 = 1
  · rw [show decide (m / 2 ^ b % 2 = 1) = true from decide_eq_true h]
    refine (select_ofBool _ _ _).trans (congrArg f ?_)
    rw [h] at hmod
    omega
  · rw [show decide (m / 2 ^ b % 2 = 1) = false from decide_eq_false h]
    refine (select_ofBool _ _ _).trans (congrArg f ?_)
    have h0 : m / 2 ^ b % 2 = 0 := by omega
    rw [h0] at hmod
    omega

/-- What the kernel stores, from the four blocks it loads. -/
def tcOut (s0 s1 : Vec F S256x384 .i32) (l0 l1 : Vec F S256x1 .i32) : IVec S256x512 32 :=
  k1_pay1 (iota .tc S256x512 32 [1] iota_S256x512_d1_w32) (k1_pay8 (F := F) s0)
    (k1_pay15 (k1_pay5 (F := F) l0 l1) (k1_pay12 (k1_pay5 (F := F) l0 l1) (k1_pay9 (F := F) l0 l1 s1) (k1_pay10 (F := F) l0 l1 s1) k1_pay11)
      (k1_pay13 (k1_pay5 (F := F) l0 l1) (k1_pay9 (F := F) l0 l1 s1) (k1_pay10 (F := F) l0 l1 s1) k1_pay11) (k1_pay14 (k1_pay5 (F := F) l0 l1)))
    (k1_pay16 (k1_pay4 (F := F) l0 l1) (iota .tc S256x512 32 [1] iota_S256x512_d1_w32))
    (k1_pay17 (k1_pay5 (F := F) l0 l1) (iota .tc S256x512 32 [1] iota_S256x512_d1_w32))
    (k1_pay18 (k1_pay6 (F := F) l0 l1) (iota .tc S256x512 32 [1] iota_S256x512_d1_w32))
    (k1_pay19 (k1_pay6 (F := F) l0 l1) (iota .tc S256x512 32 [1] iota_S256x512_d1_w32)) k1_pay20 k1_pay21

/-- Segment 1's placement is nine conditional rotations of the widened block. -/
theorem place_eq (s1 : Vec F S256x384 .i32) (l0 l1 : Vec F S256x1 .i32) :
    (k1_pay15 (k1_pay5 (F := F) l0 l1) (k1_pay12 (k1_pay5 (F := F) l0 l1) (k1_pay9 (F := F) l0 l1 s1) (k1_pay10 (F := F) l0 l1 s1) k1_pay11)
      (k1_pay13 (k1_pay5 (F := F) l0 l1) (k1_pay9 (F := F) l0 l1 s1) (k1_pay10 (F := F) l0 l1 s1) k1_pay11) (k1_pay14 (k1_pay5 (F := F) l0 l1)))
    = turn (k1_pay5 (F := F) l0 l1) 8 (turn (k1_pay5 (F := F) l0 l1) 7 (turn (k1_pay5 (F := F) l0 l1) 6 (turn (k1_pay5 (F := F) l0 l1) 5
      (turn (k1_pay5 (F := F) l0 l1) 4 (turn (k1_pay5 (F := F) l0 l1) 3 (turn (k1_pay5 (F := F) l0 l1) 2 (turn (k1_pay5 (F := F) l0 l1) 1
      (turn (k1_pay5 (F := F) l0 l1) 0 (concatenate S256x512 1 [⟨S256x384, shapeCast S256x384 s1 shapeCasts_S256x384_S256x384⟩, ⟨S256x128, k1_pay7⟩]
        concatenates_S256x384_S256x128_S256x512_d1))))))))) := rfl

/-- A column position compared with a small word, in the three ways the kernel compares them. -/
theorem sle_small {x y : ℕ} (hx : x < 512) (hy : y < 1024) :
    IntOp.cmpi .sle (BitVec.ofNat 32 x) (BitVec.ofNat 32 y) = BitVec.ofBool (decide (x ≤ y)) := by
  show BitVec.ofBool _ = _
  congr 1
  simp only [BitVec.sle_eq_decide, BitVec.toInt_eq_toNat_cond, BitVec.toNat_ofNat, decide_eq_decide]
  split_ifs <;> omega

theorem slt_small {x y : ℕ} (hx : x < 512) (hy : y < 1024) :
    IntOp.cmpi .slt (BitVec.ofNat 32 x) (BitVec.ofNat 32 y) = BitVec.ofBool (decide (x < y)) := by
  show BitVec.ofBool _ = _
  congr 1
  simp only [BitVec.slt_eq_decide, BitVec.toInt_eq_toNat_cond, BitVec.toNat_ofNat, decide_eq_decide]
  split_ifs <;> omega

theorem eq_small {x y : ℕ} (hx : x < 512) (hy : y < 1024) :
    IntOp.cmpi .eq (BitVec.ofNat 32 x) (BitVec.ofNat 32 y) = BitVec.ofBool (decide (x = y)) := by
  show BitVec.ofBool _ = _
  congr 1
  rw [Bool.eq_iff_iff]
  simp only [beq_iff_eq, decide_eq_true_eq]
  constructor
  · intro h
    have := congrArg BitVec.toNat h
    simp only [BitVec.toNat_ofNat] at this
    omega
  · intro h; rw [h]

/-- The masks' cascade at one position. -/
theorem mask_apply (n4 n5 n6 : IVec S256x1 32) (v25 v115 : IVec S256x512 32) (i : S256x512.Idx) :
    k1_pay1 (iota .tc S256x512 32 [1] iota_S256x512_d1_w32) v25 v115
      (k1_pay16 n4 (iota .tc S256x512 32 [1] iota_S256x512_d1_w32)) (k1_pay17 n5 (iota .tc S256x512 32 [1] iota_S256x512_d1_w32))
      (k1_pay18 n6 (iota .tc S256x512 32 [1] iota_S256x512_d1_w32)) (k1_pay19 n6 (iota .tc S256x512 32 [1] iota_S256x512_d1_w32)) k1_pay20 k1_pay21 i
    = Scalar.select (IntOp.cmpi .eq (iota .tc S256x512 32 [1] iota_S256x512_d1_w32 i) (BitVec.ofNat 32 0)) 0#32
      (Scalar.select (IntOp.cmpi .sle (iota .tc S256x512 32 [1] iota_S256x512_d1_w32 i) (broadcastTo S256x512 n4 broadcasts_S256x1_S256x512 i)) (v25 i)
        (Scalar.select (IntOp.cmpi .slt (iota .tc S256x512 32 [1] iota_S256x512_d1_w32 i) (broadcastTo S256x512 n5 broadcasts_S256x1_S256x512 i)) 2#32
          (Scalar.select (IntOp.cmpi .slt (iota .tc S256x512 32 [1] iota_S256x512_d1_w32 i) (broadcastTo S256x512 n6 broadcasts_S256x1_S256x512 i)) (v115 i)
            (Scalar.select (IntOp.cmpi .eq (iota .tc S256x512 32 [1] iota_S256x512_d1_w32 i) (broadcastTo S256x512 n6 broadcasts_S256x1_S256x512 i)) 2#32 1#32)))) := rfl

/-- On a row whose segments have lengths `a` and `b` and tokens `x` and `y`, the kernel stores the packed row. -/
theorem tcOut_row {s0 s1 : Vec F S256x384 .i32} {l0 l1 : Vec F S256x1 .i32} {a b : ℕ} {x y : ℕ → BitVec 32} (ha : a ≤ 384) (hb : b ≤ 384)
    (h0 : ∀ i : S256x384.Idx, (i 0).val = p → s0 i = x (i 1).val) (h1 : ∀ i : S256x384.Idx, (i 0).val = p → s1 i = y (i 1).val)
    (hl0 : ColIs p l0 (BitVec.ofNat 32 a)) (hl1 : ColIs p l1 (BitVec.ofNat 32 b)) :
    RowIs p (tcOut s0 s1 l0 l1) (packed a b x y) := by
  have hk0 := cut_le a b
  have hk1 := cut_le b a
  have p4 : ColIs p (k1_pay4 (F := F) l0 l1) (BitVec.ofNat 32 (cut a b)) := by
    intro i hi
    show IntOp.minsi (shapeCast S256x1 l0 _ i) (IntOp.maxsi 254#32 (508#32 - shapeCast S256x1 l1 _ i)) = _
    rw [shapeCast_self, shapeCast_self, hl0 i hi, hl1 i hi]
    exact cut_eq ha hb
  have p5 : ColIs p (k1_pay5 (F := F) l0 l1) (BitVec.ofNat 32 (cut a b + 3)) := by
    intro i hi
    show k1_pay4 (F := F) l0 l1 i + 3#32 = _
    rw [p4 i hi, BitVec.ofNat_add]
  have p6 : ColIs p (k1_pay6 (F := F) l0 l1) (BitVec.ofNat 32 (cut a b + 3 + cut b a)) := by
    intro i hi
    show k1_pay5 (F := F) l0 l1 i + IntOp.minsi (shapeCast S256x1 l1 _ i) (IntOp.maxsi 254#32 (508#32 - shapeCast S256x1 l0 _ i)) = _
    rw [shapeCast_self, shapeCast_self, hl0 i hi, hl1 i hi, p5 i hi, cut_eq hb ha, ← BitVec.ofNat_add]
  have p8 : RowIs p (k1_pay8 (F := F) s0) fun j => if (j + 512 - 1) % 512 < 384 then x ((j + 512 - 1) % 512) else 0#32 := by
    have := (RowIs.widen (p := p) (y := shapeCast S256x384 s0 shapeCasts_S256x384_S256x384) (f := x)
      (fun i hi => by rw [shapeCast_self]; exact h0 i hi)).rotate 1#32
    exact this
  have q0 : RowIs p (concatenate S256x512 1 [⟨S256x384, shapeCast S256x384 s1 shapeCasts_S256x384_S256x384⟩, ⟨S256x128, k1_pay7⟩]
      concatenates_S256x384_S256x128_S256x512_d1) fun j => (fun j => if j < 384 then y j else 0#32) ((j + 512 - (cut a b + 3) % 2 ^ 0) % 512) := by
    refine (RowIs.widen (p := p) (y := shapeCast S256x384 s1 shapeCasts_S256x384_S256x384) (f := y)
      (fun i hi => by rw [shapeCast_self]; exact h1 i hi)).congr fun j hj => ?_
    rw [show (j + 512 - (cut a b + 3) % 2 ^ 0) % 512 = j by rw [pow_zero, Nat.mod_one]; omega]
  have hm : cut a b + 3 < 512 := by omega
  have q1 := RowIs.turn hm (f := fun j => if j < 384 then y j else 0#32) (b := 0) (by decide) p5 q0
  have q2 := RowIs.turn hm (f := fun j => if j < 384 then y j else 0#32) (b := 1) (by decide) p5 q1
  have q3 := RowIs.turn hm (f := fun j => if j < 384 then y j else 0#32) (b := 2) (by decide) p5 q2
  have q4 := RowIs.turn hm (f := fun j => if j < 384 then y j else 0#32) (b := 3) (by decide) p5 q3
  have q5 := RowIs.turn hm (f := fun j => if j < 384 then y j else 0#32) (b := 4) (by decide) p5 q4
  have q6 := RowIs.turn hm (f := fun j => if j < 384 then y j else 0#32) (b := 5) (by decide) p5 q5
  have q7 := RowIs.turn hm (f := fun j => if j < 384 then y j else 0#32) (b := 6) (by decide) p5 q6
  have q8 := RowIs.turn hm (f := fun j => if j < 384 then y j else 0#32) (b := 7) (by decide) p5 q7
  have q9 := RowIs.turn hm (f := fun j => if j < 384 then y j else 0#32) (b := 8) (by decide) p5 q8
  intro i hi
  have hj : (i 1).val < 512 := (i 1).isLt
  have hio : iota .tc S256x512 32 [1] iota_S256x512_d1_w32 i = BitVec.ofNat 32 (i 1).val := by
    show BitVec.ofNat 32 (0 * 512 + (i 1).val) = _
    rw [Nat.zero_mul, Nat.zero_add]
  unfold tcOut
  rw [place_eq, mask_apply]
  rw [hio, RowIs.spread p4 i hi, RowIs.spread p5 i hi, RowIs.spread p6 i hi, p8 i hi, q9 i hi,
    eq_small hj (by omega), sle_small hj (by omega), slt_small hj (by omega), slt_small hj (by omega), eq_small hj (by omega)]
  simp only [select_ofBool, decide_eq_true_eq]
  unfold packed
  generalize (i 1).val = j at hj
  by_cases c0 : j = 0
  · rw [if_pos c0, if_pos c0]
  rw [if_neg c0, if_neg c0]
  by_cases c1 : j ≤ cut a b
  · rw [if_pos c1, if_pos c1, show (j + 512 - 1) % 512 = j - 1 by omega, if_pos (by omega)]
  rw [if_neg c1, if_neg c1]
  by_cases c2 : j < cut a b + 3
  · rw [if_pos c2, if_pos c2]
  rw [if_neg c2, if_neg c2]
  by_cases c3 : j < cut a b + 3 + cut b a
  · rw [if_pos c3, if_pos c3, show (j + 512 - (cut a b + 3) % 2 ^ (8 + 1)) % 512 = j - (cut a b + 3) by
      rw [Nat.mod_eq_of_lt (show cut a b + 3 < 2 ^ (8 + 1) by omega)]; omega, if_pos (by omega)]
  rw [if_neg c3, if_neg c3]

end Turn

end Cert.Proof.Pack

end
-- ==== Proof.Region.lean ====
/-
  The TensorCore kernel's call: its body at one grid point, its proof data over the whole grid, and what the call
  leaves in its result array.
-/
module

public import proofs.«01_k».proof.Proof.Turn
public import proofs.«01_k».proof.Proof.Gen.KernelIdeal.Launch
public import proofs.«01_k».proof.Proof.Gen.KernelIdeal.Points
public import Idealize.ShloMosaic.Lib.Pipeline.RegionsLoop
public import Idealize.ShloMosaic.Lib.VecWindow
public import Idealize.ShloMosaic.Lib.Pipeline.ValueKit.Geometry

@[expose] public section

noncomputable section

namespace Cert.Proof.Pack

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type}

section Body

variable [FloatOps F] (d : Dev nD)

/-- Loading a whole block held at `X` reads `X`. -/
theorem wp_load_full {α : Type} {Q : α → sProp (MM F)} {s : Shape} {e : EltTy} (M : Memref sig .tc .vmem s e) {off : Fin s.rank → ℕ}
    (inb : ∀ a, off a + s.size a ≤ s.size a) (hl : M.view.LoadsAt (Rect.unit off s.size inb).toLoadRect) (X : s.Idx → Elt F e)
    (k : (s.Idx → Elt F e) → Prog (TpuEff nD τ sig (Elt F) Λ₀ .tc) α) :
    (owns (d : Thread nD τ) M fullShare X : sProp (MM F))
      ⊢ iprop((owns (d : Thread nD τ) M fullShare X -∗ wp frame (wpE (defs₀ (F := F)) 𝒱₀ (d : Thread nD τ) none) Set.univ (k X) Q)
        -∗ wp frame (wpE (defs₀ (F := F)) 𝒱₀ (d : Thread nD τ) none) Set.univ (.op (.load M (Rect.unit off s.size inb).toLoadRect hl) k) Q) := by
  unfold owns
  iintro ⟨%f, %hf, H⟩ Hk
  iapply (wp_load_rect 𝒱₀ (d : Thread nD τ) none Set.univ (m := M) (r := Rect.unit off s.size inb) (S := M.view.set)
    (by rw [View.set_slice]; exact Finset.map_subset_map.mpr (Finset.subset_univ _))) $$ H
  iintro H
  have e := (View.readAt_full M.view f inb).trans hf
  rw [View.readAt_rect] at e
  rw [show (M.access (Rect.unit off s.size inb)).read (Elt F) f = X from e]
  iapply Hk
  iexists f
  isplitr
  · ipureintro; exact hf
  · iexact H

/-- Storing a whole block. -/
theorem wp_store_full {α : Type} {Q : α → sProp (MM F)} {s : Shape} {e : EltTy} (M : Memref sig .tc .vmem s e) {off : Fin s.rank → ℕ}
    (inb : ∀ a, off a + s.size a ≤ s.size a) (w : s.Idx → Elt F e)
    (hx : (M.access (Rect.unit off s.size inb)).Stores Finset.univ)
    (hm : (Finset.univ : Finset (Rect.unit off s.size inb).shape.Idx) = Finset.univ ∨ ∀ a, (Rect.unit off s.size inb).stride a = 1) (X : s.Idx → Elt F e)
    (k : PUnit → Prog (TpuEff nD τ sig (Elt F) Λ₀ .tc) α) :
    (owns (d : Thread nD τ) M fullShare X : sProp (MM F))
      ⊢ iprop((owns (d : Thread nD τ) M fullShare w -∗ wp frame (wpE (defs₀ (F := F)) 𝒱₀ (d : Thread nD τ) none) Set.univ (k ⟨⟩) Q)
        -∗ wp frame (wpE (defs₀ (F := F)) 𝒱₀ (d : Thread nD τ) none) Set.univ (.op (.store M (Rect.unit off s.size inb) w Finset.univ hx hm) k) Q) := by
  unfold owns
  iintro ⟨%f, -, H⟩ Hk
  iapply (wp_store 𝒱₀ (d : Thread nD τ) none Set.univ (m := M) (r := Rect.unit off s.size inb) (Mk := Finset.univ) (S := M.view.set)
    (by rw [View.setOn_univ, View.set_slice]; exact Finset.map_subset_map.mpr (Finset.subset_univ _))) $$ H
  iintro H
  iapply Hk
  iexists _
  isplitr; swap
  · iexact H
  · ipureintro
    exact View.read_writes_full M.view f inb w []

/-- The body at one grid point: from the four blocks it loads, it leaves their packed block. -/
theorem wp_tc (i : grid1.Coords) (M1 : Memref sig .tc .vmem S256x384 .i32) (h1 : M1.IsWhole) (M2 : Memref sig .tc .vmem S256x384 .i32) (h2 : M2.IsWhole)
    (M3 : Memref sig .tc .vmem S256x1 .i32) (h3 : M3.IsWhole) (M4 : Memref sig .tc .vmem S256x1 .i32) (h4 : M4.IsWhole)
    (M5 : Memref sig .tc .vmem S256x512 .i32) (h5 : M5.IsWhole) (s0 s1 : Vec F S256x384 .i32) (l0 l1 : Vec F S256x1 .i32) (X : Vec F S256x512 .i32)
    {Q : PUnit → sProp (MM F)} :
    (iprop(owns (d : Thread nD τ) M1 fullShare s0 ∗ owns (d : Thread nD τ) M2 fullShare s1 ∗ owns (d : Thread nD τ) M3 fullShare l0
        ∗ owns (d : Thread nD τ) M4 fullShare l1 ∗ owns (d : Thread nD τ) M5 fullShare X
        ∗ ((owns (d : Thread nD τ) M1 fullShare s0 ∗ owns (d : Thread nD τ) M2 fullShare s1 ∗ owns (d : Thread nD τ) M3 fullShare l0
          ∗ owns (d : Thread nD τ) M4 fullShare l1 ∗ owns (d : Thread nD τ) M5 fullShare (tcOut (F := F) s0 s1 l0 l1)) -∗ Q ⟨⟩)) : sProp (MM F))
      ⊢ wp frame (wpE (defs₀ (F := F)) 𝒱₀ (d : Thread nD τ) none) Set.univ (cc1__tc_body (F := F) i M1 h1 M2 h2 M3 h3 M4 h4 M5 h5) Q := by
  rw [cc1__tc_body_eq_skeleton]
  unfold cc1__tc_body_skel
  rw [k1_part1_eq_skeleton, k1_part2_eq_skeleton, k1_part3_eq_skeleton]
  unfold k1_part1_skel k1_part2_skel k1_part3_skel
  iintro ⟨H1, H2, H3, H4, H5, Hk⟩
  iapply (wp_load_full d M3 _ _ l0 _) $$ H3
  iintro H3
  iapply (wp_load_full d M4 _ _ l1 _) $$ H4
  iintro H4
  iapply (wp_load_full d M1 _ _ s0 _) $$ H1
  iintro H1
  iapply (wp_load_full d M2 _ _ s1 _) $$ H2
  iintro H2
  iapply (wp_load_full d M5 _ _ X _) $$ H5
  iintro H5
  iapply (wp_store_full d M5 _ _ _ _ X _) $$ H5
  iintro H5
  simp only [Prog.bind, wp_pure]
  imodintro
  iapply Hk
  isplitl [H1]; · iexact H1
  isplitl [H2]; · iexact H2
  isplitl [H3]; · iexact H3
  isplitl [H4]; · iexact H4
  iexact H5

end Body

/-! ## The proof data, at an entry valuation -/

section Data

variable [FloatOps F]
variable (V : (c : Dev nD) → (b : Ref sig .tc) → Buf (Elt F) ((c : Thread nD τ).loc b))
variable (Bd : Set (SemLoc sig × HIx 1))

/-- The blocks the pipeline stages at point `t`: 256 rows of each segment and of each column of lengths. -/
def blkS0 (c : Dev nD) (t : Fin cfg1.N) : Vec F S256x384 .i32 := ((cfg1.win 0).blk t).view.read (Elt F) (V c main_v8)
def blkS1 (c : Dev nD) (t : Fin cfg1.N) : Vec F S256x384 .i32 := ((cfg1.win 1).blk t).view.read (Elt F) (V c main_v9)
def blkL0 (c : Dev nD) (t : Fin cfg1.N) : Vec F S256x1 .i32 := ((cfg1.win 2).blk t).view.read (Elt F) (V c main_v12)
def blkL1 (c : Dev nD) (t : Fin cfg1.N) : Vec F S256x1 .i32 := ((cfg1.win 3).blk t).view.read (Elt F) (V c main_v13)

/-- What the body leaves in the result's block at point `t`. -/
def blkOut (c : Dev nD) (t : Fin cfg1.N) : Vec F S256x512 .i32 := tcOut (F := F) (blkS0 V c t) (blkS1 V c t) (blkL0 V c t) (blkL1 V c t)

/-- What stays with the core between grid points: the scoped buffers the pipeline does not stage. -/
abbrev restΦ (c : Dev nD) : sProp (MM F) := Pipeline.scopedRest (Ix := HIx 1) (Name := ℕ) (U := UU F) (Lvl := ℕ) (Val := Elt F) spec1 c

/-- The call's proof data: the arrays at `V`; after each point the staged blocks as fetched and the result's block
    packed; nothing owed; the pairs recorded before the call within `Bd`. -/
def tcDat (c : Dev nD) : Dat τ (Elt F) (HIx 1) ℕ (UU F) ℕ cfg1 c where
  A w := V c (Pipeline.arrRef spec1 w)
  after w t := match w with
    | ⟨0, _⟩ => blkS0 V c t
    | ⟨1, _⟩ => blkS1 V c t
    | ⟨2, _⟩ => blkL0 V c t
    | ⟨3, _⟩ => blkL1 V c t
    | ⟨4, _⟩ => blkOut V c t
  Φ _ := restΦ c
  q _ := fullShare
  owed _ := 0
  recorded _ := Bd

variable (adm : (p : Fin 1) → (pcfgs (F := F) p).Adm)

/-- The same as a family over the program's one pipeline. -/
def tcDats : (p : Fin 1) → (c : Dev nD) → Dat τ (Elt F) (HIx 1) ℕ (UU F) ℕ (Pipeline.pin (pcfgs (F := F)) adm p) c
  | ⟨0, _⟩ => fun c => tcDat V Bd c

/-- A fetched window's buffer holds its block when the body runs. -/
theorem before_S0 (c : Dev nD) (t : Fin cfg1.N) (x : (cfg1.win 0).block.Idx → Elt F (cfg1.win 0).elt) : (tcDat V Bd c).before 0 t x = blkS0 V c t := by
  unfold Dat.before; rw [if_pos (fetch1_0 t)]; rfl
theorem before_S1 (c : Dev nD) (t : Fin cfg1.N) (x : (cfg1.win 1).block.Idx → Elt F (cfg1.win 1).elt) : (tcDat V Bd c).before 1 t x = blkS1 V c t := by
  unfold Dat.before; rw [if_pos (fetch1_1 t)]; rfl
theorem before_L0 (c : Dev nD) (t : Fin cfg1.N) (x : (cfg1.win 2).block.Idx → Elt F (cfg1.win 2).elt) : (tcDat V Bd c).before 2 t x = blkL0 V c t := by
  unfold Dat.before; rw [if_pos (fetch1_2 t)]; rfl
theorem before_L1 (c : Dev nD) (t : Fin cfg1.N) (x : (cfg1.win 3).block.Idx → Elt F (cfg1.win 3).elt) : (tcDat V Bd c).before 3 t x = blkL1 V c t := by
  unfold Dat.before; rw [if_pos (fetch1_3 t)]; rfl

/-- The body at every point meets the proof data. -/
theorem tc_body_obligation (c : Dev nD) : BodyObligation (tcDat V Bd c) (defs₀ (F := F)) 𝒱₀ none Set.univ := fun t => by
  rw [bigSep_W1, bigSep_W1]
  rw [show (tcDat V Bd c).Φ t.castSucc = restΦ c from rfl, show (tcDat V Bd c).Φ t.succ = restΦ c from rfl,
    show (tcDat V Bd c).owesAt none t.succ = (tcDat V Bd c).owesAt none t.castSucc from rfl]
  iintro ⟨HΦ, Howes, ⟨%x0, H0⟩, ⟨%x1, H1⟩, ⟨%x2, H2⟩, ⟨%x3, H3⟩, ⟨%x4, H4⟩⟩
  rw [before_S0, before_S1, before_L0, before_L1]
  iapply (wp_tc c (grid1.coords t) (st1_0 t) (hstage1_0 _) (st1_1 t) (hstage1_1 _) (st1_2 t) (hstage1_2 _) (st1_3 t) (hstage1_3 _) (st1_4 t) (hstage1_4 _)
    (blkS0 V c t) (blkS1 V c t) (blkL0 V c t) (blkL1 V c t) ((tcDat V Bd c).before 4 t x4))
  isplitl [H0]; · iexact H0
  isplitl [H1]; · iexact H1
  isplitl [H2]; · iexact H2
  isplitl [H3]; · iexact H3
  isplitl [H4]; · iexact H4
  iintro ⟨H0, H1, H2, H3, H4⟩
  isplitl [HΦ]; · iexact HΦ
  isplitl [Howes]; · iexact Howes
  isplitl [H0]; · iexact H0
  isplitl [H1]; · iexact H1
  isplitl [H2]; · iexact H2
  isplitl [H3]; · iexact H3
  iexact H4

/-! ### The array after the call -/

/-- The first grid row of point `t`'s blocks. -/
def row0 (t : Fin cfg1.N) : ℕ := (grid1.coords t 0).val * 256

theorem index_0 (t : Fin cfg1.N) : (cfg1.win 0).index t = ![(grid1.coords t 0).val, 0] := (by decide +kernel : ∀ t : Fin grid1.N, win1_0.index t = ![(grid1.coords t 0).val, 0]) t
theorem index_1 (t : Fin cfg1.N) : (cfg1.win 1).index t = ![(grid1.coords t 0).val, 0] := (by decide +kernel : ∀ t : Fin grid1.N, win1_1.index t = ![(grid1.coords t 0).val, 0]) t
theorem index_2 (t : Fin cfg1.N) : (cfg1.win 2).index t = ![(grid1.coords t 0).val, 0] := (by decide +kernel : ∀ t : Fin grid1.N, win1_2.index t = ![(grid1.coords t 0).val, 0]) t
theorem index_3 (t : Fin cfg1.N) : (cfg1.win 3).index t = ![(grid1.coords t 0).val, 0] := (by decide +kernel : ∀ t : Fin grid1.N, win1_3.index t = ![(grid1.coords t 0).val, 0]) t
theorem index_4 (t : Fin cfg1.N) : (cfg1.win 4).index t = ![(grid1.coords t 0).val, 0] := (by decide +kernel : ∀ t : Fin grid1.N, win1_4.index t = ![(grid1.coords t 0).val, 0]) t

/-- Where a block's index sits in its array: `row0 t` rows down, in the same column. -/
theorem emb_0 (c : Dev nD) (t : Fin cfg1.N) (i : S256x384.Idx) : ∃ k : S1024x384.Idx, blkS0 V c t i = V c main_v8 k ∧ (k 0).val = row0 t + (i 0).val ∧ (k 1).val = (i 1).val :=
  ⟨((cfg1.win 0).rect t).emb i, rfl, ((cfg1.win 0).rect_emb_val t i 0 rfl).trans (by rw [index_0]; rfl),
    ((cfg1.win 0).rect_emb_val t i 1 rfl).trans (by rw [index_0]; exact Nat.zero_add _)⟩
theorem emb_1 (c : Dev nD) (t : Fin cfg1.N) (i : S256x384.Idx) : ∃ k : S1024x384.Idx, blkS1 V c t i = V c main_v9 k ∧ (k 0).val = row0 t + (i 0).val ∧ (k 1).val = (i 1).val :=
  ⟨((cfg1.win 1).rect t).emb i, rfl, ((cfg1.win 1).rect_emb_val t i 0 rfl).trans (by rw [index_1]; rfl),
    ((cfg1.win 1).rect_emb_val t i 1 rfl).trans (by rw [index_1]; exact Nat.zero_add _)⟩
theorem emb_2 (c : Dev nD) (t : Fin cfg1.N) (i : S256x1.Idx) : ∃ k : S1024x1.Idx, blkL0 V c t i = V c main_v12 k ∧ (k 0).val = row0 t + (i 0).val ∧ (k 1).val = (i 1).val :=
  ⟨((cfg1.win 2).rect t).emb i, rfl, ((cfg1.win 2).rect_emb_val t i 0 rfl).trans (by rw [index_2]; rfl),
    ((cfg1.win 2).rect_emb_val t i 1 rfl).trans (by rw [index_2]; exact Nat.zero_add _)⟩
theorem emb_3 (c : Dev nD) (t : Fin cfg1.N) (i : S256x1.Idx) : ∃ k : S1024x1.Idx, blkL1 V c t i = V c main_v13 k ∧ (k 0).val = row0 t + (i 0).val ∧ (k 1).val = (i 1).val :=
  ⟨((cfg1.win 3).rect t).emb i, rfl, ((cfg1.win 3).rect_emb_val t i 0 rfl).trans (by rw [index_3]; rfl),
    ((cfg1.win 3).rect_emb_val t i 1 rfl).trans (by rw [index_3]; exact Nat.zero_add _)⟩

/-- **The call's result.** When row `r` of the two segments is `x r` and `y r`, and the two columns of lengths hold
    `a r` and `b r`, at most 384 each, row `r` of the result is the packing of `x r` and `y r`. -/
theorem tc_result (c : Dev nD) {a b : ℕ → ℕ} {x y : ℕ → ℕ → BitVec 32} (ha : ∀ r, a r ≤ 384) (hb : ∀ r, b r ≤ 384)
    (hx : ∀ k : S1024x384.Idx, V c main_v8 k = x (k 0).val (k 1).val) (hy : ∀ k : S1024x384.Idx, V c main_v9 k = y (k 0).val (k 1).val)
    (hla : ∀ k : S1024x1.Idx, V c main_v12 k = BitVec.ofNat 32 (a (k 0).val)) (hlb : ∀ k : S1024x1.Idx, V c main_v13 k = BitVec.ofNat 32 (b (k 0).val)) :
    (tcDat V Bd c).arrAt 4 cfg1.N = fun k : S1024x512.Idx => packed (a (k 0).val) (b (k 0).val) (x (k 0).val) (y (k 0).val) (k 1).val := by
  refine (tcDat V Bd c).arrAt_eq_of_covers 4 _ (by decide +kernel) fun t _ z => ?_
  have e0 : ((((cfg1.win 4).rect t).emb z 0 : Fin _) : ℕ) = row0 t + (z 0).val := ((cfg1.win 4).rect_emb_val t z 0 rfl).trans (by rw [index_4]; rfl)
  have e1 : ((((cfg1.win 4).rect t).emb z 1 : Fin _) : ℕ) = (z 1).val := ((cfg1.win 4).rect_emb_val t z 1 rfl).trans (by rw [index_4]; exact Nat.zero_add _)
  have h : blkOut V c t z = packed (a (row0 t + (z 0).val)) (b (row0 t + (z 0).val)) (x (row0 t + (z 0).val)) (y (row0 t + (z 0).val)) (z 1).val :=
    tcOut_row (p := (z 0).val) (ha _) (hb _)
      (fun i hi => by obtain ⟨k, h, h0, h1⟩ := emb_0 V c t i; rw [h, hx, h0, h1, hi])
      (fun i hi => by obtain ⟨k, h, h0, h1⟩ := emb_1 V c t i; rw [h, hy, h0, h1, hi])
      (fun i hi => by obtain ⟨k, h, h0, h1⟩ := emb_2 V c t i; rw [h, hla, h0, hi])
      (fun i hi => by obtain ⟨k, h, h0, h1⟩ := emb_3 V c t i; rw [h, hlb, h0, hi]) z rfl
  rw [← e0, ← e1] at h
  exact h

end Data

/-! ## The call as a segment of the host's run -/

section Region

variable [FloatOps F]
variable (V Vp : (c : Dev nD) → (b : Ref sig .tc) → Buf (Elt F) ((c : Thread nD τ).loc b))
variable (Bd : Set (SemLoc sig × HIx 1))
variable (adm : (p : Fin 1) → (pcfgs (F := F) p).Adm)

/-- The host's thread state between two calls: nothing owed, what was recorded within `B`. -/
def idleIn (B : Set (SemLoc sig × HIx 1)) (c : Dev nD) : sProp (MM F) := iprop(∃ W : Finset (SemLoc sig × HIx 1), ⌜(W : Set _) ⊆ B⌝ ∗ owes (c : Thread nD τ) 0 W)

/-- What the call's waits may record. -/
abbrev after1 (Bd : Set (SemLoc sig × HIx 1)) : Set (SemLoc sig × HIx 1) := Bd ∪ cfg1.waitPairs none

set_option backward.isDefEq.respectTransparency.types false in
/-- **The call as a region**: it is entered with the unscoped buffers at `V` and left with them at `Vp`, which is `V`
    but for the result array. -/
def tcReg (hout : ∀ c, Vp c main_v14 = (tcDat V Bd c).arrAt 4 cfg1.N) (hne : ∀ c b, b ≠ main_v14 → Vp c b = V c b) :
    Pipeline.RegionSeg (pcfgs (F := F)) adm (tcDats V Bd adm) none defs₀ 𝒱₀ (K (F := F)).L (K (F := F)).lev (0 : Fin 1) where
  win := launch1.win.to₀
  block_pos := launch1.block_pos
  stage_whole := launch1.stage_whole
  K := PEmpty
  osem k := k.elim
  ho := Pipeline.OwnSemFacts.none _
  hbody c := (tc_body_obligation V Bd c).loose
  hwaits := Pipeline.hwaits_of_owed_zero _ _ _ _ (K (F := F)).L (K (F := F)).lev 0 fun _ _ => rfl
  pre c := iprop(unscopedBufs (Ix := HIx 1) (Name := ℕ) (U := UU F) (Lvl := ℕ) c (V c) ∗ idleIn Bd c)
  post c := iprop(unscopedBufs (Ix := HIx 1) (Name := ℕ) (U := UU F) (Lvl := ℕ) c (Vp c) ∗ idleIn (after1 Bd) c)
  X _ := BI.emp
  Y _ := BI.emp
  Z c := Pipeline.unscopedRest (Ix := HIx 1) (Name := ℕ) (U := UU F) (Lvl := ℕ) spec1 c (V c)
  hentry c := by
    rw [Pipeline.ownSems0_none]
    have hsplit := Pipeline.arrays_of_unscopedBufs (p := 0) (pcfgs (F := F)) adm (tcDats V Bd adm) launch1.win launch1.arr_whole c ((tcDats V Bd adm 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr
    · unfold Pipeline.prefHeld; rw [show (Finset.univ : Finset (Fin 0)) = ∅ from rfl, BI.bigSep_empty]; iempintro
    isplitl [HO]
    · unfold Pipeline.Dat.owesAt Pipeline.owesWithin idleIn
      icases HO with ⟨%W, %hW, HO⟩
      iexists W
      isplitr
      · ipureintro; exact fun _ h => Or.inl (hW h)
      iexact HO
    isplitr; · iempintro
    iexact Hrest
  hin c := by
    rw [show (tcDats V Bd adm 0 c).Φ 0 = restΦ c from rfl]
    iintro ⟨-, -, Hr⟩
    iexact Hr
  hout c := by
    rw [Pipeline.ownSems0_none, show (tcDats V Bd adm 0 c).Φ (Fin.last _) = restΦ c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU F) (Lvl := ℕ) launch1.win launch1.arr_whole c (tcDats V Bd adm) ((tcDats V Bd adm 0 c).share_full fun _ => rfl)
      (V c) (Vp c) ((tcDats V Bd adm 0 c).arrAt · cfg1.N)
      (fun w => by
        fin_cases w
        · exact ((tcDat V Bd c).arrAt_in 0 rfl _).trans (hne c _ (by decide)).symm
        · exact ((tcDat V Bd c).arrAt_in 1 rfl _).trans (hne c _ (by decide)).symm
        · exact ((tcDat V Bd c).arrAt_in 2 rfl _).trans (hne c _ (by decide)).symm
        · exact ((tcDat V Bd c).arrAt_in 3 rfl _).trans (hne c _ (by decide)).symm
        · exact (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin idleIn
    icases HO with ⟨%W, %hW, HO⟩
    iexists W
    isplitr
    · ipureintro; exact hW
    iexact HO

end Region

end Cert.Proof.Pack

end
-- ==== Proof.Host.lean ====
/-
  The host's run around the two calls: its operations before the SparseCore call, between the calls and after the
  TensorCore call, and what the arrays hold at each point.
-/
module

public import proofs.«01_k».proof.Proof.Want
public import proofs.«01_k».proof.Proof.Region
public import Idealize.ShloMosaic.Lib.StableHlo.Run

@[expose] public section

noncomputable section

namespace Cert.Proof.Pack

open Cert.KernelIdeal Cert.KernelIdeal.Gen

open Idealize.ShloMosaic Idealize.ShloMosaic.TcCoe
open Idealize.ShloMosaic.StableHlo (held after seq tcRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The operations -/

/-- Before the SparseCore call: the first 3072 rows, flat. -/
abbrev opsA : List (HloOp τ sig (Elt F)) :=
  [ StableHlo.unary main_arg0 main_v0 ((extractStridedSlice S3072x384 ![0, 0] · slices_S4096x384_S3072x384_0_0) : (⟨S4096x384, .i32⟩ : BufTy).Contents (Elt F) → (⟨S3072x384, .i32⟩ : BufTy).Contents (Elt F)),
    StableHlo.reshape main_v0 main_v1 (rfl : (.i32 : EltTy) = .i32) shapeCasts_S3072x384_S1179648,
    StableHlo.unary main_arg1 main_v2 ((extractStridedSlice S3072x384 ![0, 0] · slices_S4096x384_S3072x384_0_0) : (⟨S4096x384, .i32⟩ : BufTy).Contents (Elt F) → (⟨S3072x384, .i32⟩ : BufTy).Contents (Elt F)),
    StableHlo.reshape main_v2 main_v3 (rfl : (.i32 : EltTy) = .i32) shapeCasts_S3072x384_S1179648,
    StableHlo.unary main_arg2 main_v4 ((extractStridedSlice S3072 ![0] · slices_S4096_S3072_0) : (⟨S4096, .i32⟩ : BufTy).Contents (Elt F) → (⟨S3072, .i32⟩ : BufTy).Contents (Elt F)),
    StableHlo.unary main_arg3 main_v5 ((extractStridedSlice S3072 ![0] · slices_S4096_S3072_0) : (⟨S4096, .i32⟩ : BufTy).Contents (Elt F) → (⟨S3072, .i32⟩ : BufTy).Contents (Elt F)) ]

/-- Between the calls: the first call's result as rows, and the last 1024 rows of the arguments. -/
abbrev opsB : List (HloOp τ sig (Elt F)) :=
  [ StableHlo.reshape main_v6 main_v7 (rfl : (.i32 : EltTy) = .i32) shapeCasts_S2097152_S4096x512,
    StableHlo.unary main_arg0 main_v8 ((extractStridedSlice S1024x384 ![3072, 0] · slices_S4096x384_S1024x384_3072_0) : (⟨S4096x384, .i32⟩ : BufTy).Contents (Elt F) → (⟨S1024x384, .i32⟩ : BufTy).Contents (Elt F)),
    StableHlo.unary main_arg1 main_v9 ((extractStridedSlice S1024x384 ![3072, 0] · slices_S4096x384_S1024x384_3072_0) : (⟨S4096x384, .i32⟩ : BufTy).Contents (Elt F) → (⟨S1024x384, .i32⟩ : BufTy).Contents (Elt F)),
    StableHlo.unary main_arg2 main_v10 ((extractStridedSlice S1024 ![3072] · slices_S4096_S1024_3072) : (⟨S4096, .i32⟩ : BufTy).Contents (Elt F) → (⟨S1024, .i32⟩ : BufTy).Contents (Elt F)),
    StableHlo.unary main_arg3 main_v11 ((extractStridedSlice S1024 ![3072] · slices_S4096_S1024_3072) : (⟨S4096, .i32⟩ : BufTy).Contents (Elt F) → (⟨S1024, .i32⟩ : BufTy).Contents (Elt F)),
    StableHlo.reshape main_v10 main_v12 (rfl : (.i32 : EltTy) = .i32) shapeCasts_S1024_S1024x1,
    StableHlo.reshape main_v11 main_v13 (rfl : (.i32 : EltTy) = .i32) shapeCasts_S1024_S1024x1 ]

/-- After the calls: the second call's rows written over the last 1024. -/
abbrev opsC : List (HloOp τ sig (Elt F)) :=
  [ StableHlo.nullary main_c (constantI S_ 32 3072#32),
    StableHlo.nullary main_c_0 (constantI S_ 32 0#32),
    StableHlo.binaryIndexed main_v7 main_v14 ![main_c, main_c_0] ⟨S_, .i32⟩ main_v15 ((fun x u i => Host.dynamicUpdateSlice x u (fun k => (i k (Shape.Idx.first h_S_)).toInt) updateFits_S4096x512_S1024x512) : (⟨S4096x512, .i32⟩ : BufTy).Contents (Elt F) → (⟨S1024x512, .i32⟩ : BufTy).Contents (Elt F) → (Fin 2 → (⟨S_, .i32⟩ : BufTy).Contents (Elt F)) → (⟨S4096x512, .i32⟩ : BufTy).Contents (Elt F)) ]

/-- The host's program is these, with the two calls between. -/
theorem main_split (d : Dev nD) : main (F := F) d = (seq opsA >>= fun _ => sc.run d 0 >>= fun _ => seq opsB >>= fun _ =>
    Prog.lift (.customCall (SparseCore.inner (Pipeline.entry 0)) ()) >>= fun _ => seq opsC >>= fun _ => pure ⟨⟩) := rfl

/-- The buffers the host's operations use: the TensorCore's that no call has to itself. -/
def hostRefs : Finset (DevRef τ sig) := (tcRefs τ sig).filter fun b => ¬ b.isScoped

theorem host_sub {ops : List (HloOp τ sig (Elt F))} (h : ops.Forall fun op => op.bufs ⊆ tcRefs τ sig) (op : HloOp τ sig (Elt F)) (ho : op ∈ ops) :
    op.bufs ⊆ hostRefs := fun b hb =>
  Finset.mem_filter.mpr ⟨(List.forall_iff_forall_mem.mp h) op ho hb, fun hs => Bool.false_ne_true ((op.no_scoped b hb).symm.trans hs)⟩

theorem subA : (opsA (F := F)).Forall fun op => op.bufs ⊆ tcRefs τ sig :=
  ⟨StableHlo.unary_bufs_sub .., StableHlo.reshape_bufs_sub .., StableHlo.unary_bufs_sub .., StableHlo.reshape_bufs_sub .., StableHlo.unary_bufs_sub .., StableHlo.unary_bufs_sub ..⟩
theorem subB : (opsB (F := F)).Forall fun op => op.bufs ⊆ tcRefs τ sig :=
  ⟨StableHlo.reshape_bufs_sub .., StableHlo.unary_bufs_sub .., StableHlo.unary_bufs_sub .., StableHlo.unary_bufs_sub .., StableHlo.unary_bufs_sub .., StableHlo.reshape_bufs_sub .., StableHlo.reshape_bufs_sub ..⟩
theorem subC : (opsC (F := F)).Forall fun op => op.bufs ⊆ tcRefs τ sig :=
  ⟨StableHlo.nullary_bufs_sub .., StableHlo.nullary_bufs_sub .., StableHlo.binaryIndexed_bufs_sub ..⟩

theorem freshA : ∀ op ∈ opsA (F := F), op.fresh = ∅ := by intro op h; fin_cases h <;> rfl
theorem freshB : ∀ op ∈ opsB (F := F), op.fresh = ∅ := by intro op h; fin_cases h <;> rfl
theorem freshC : ∀ op ∈ opsC (F := F), op.fresh = ∅ := by intro op h; fin_cases h <;> rfl

/-! ## What the arrays hold -/

section Values

variable (W : Valuation τ sig (Elt F))

theorem afterA_v1 : after opsA W (tcBuf main_v1) = shapeCast S1179648 (extractStridedSlice S3072x384 ![0, 0] (W (tcBuf main_arg0)) slices_S4096x384_S3072x384_0_0) shapeCasts_S3072x384_S1179648 := by
  after_results_simp <;> rfl
theorem afterA_v3 : after opsA W (tcBuf main_v3) = shapeCast S1179648 (extractStridedSlice S3072x384 ![0, 0] (W (tcBuf main_arg1)) slices_S4096x384_S3072x384_0_0) shapeCasts_S3072x384_S1179648 := by
  after_results_simp <;> rfl
theorem afterA_v4 : after opsA W (tcBuf main_v4) = extractStridedSlice S3072 ![0] (W (tcBuf main_arg2)) slices_S4096_S3072_0 := by after_results_simp <;> rfl
theorem afterA_v5 : after opsA W (tcBuf main_v5) = extractStridedSlice S3072 ![0] (W (tcBuf main_arg3)) slices_S4096_S3072_0 := by after_results_simp <;> rfl

theorem afterB_v7 : after opsB W (tcBuf main_v7) = shapeCast S4096x512 (W (tcBuf main_v6)) shapeCasts_S2097152_S4096x512 := by after_results_simp <;> rfl
theorem afterB_v8 : after opsB W (tcBuf main_v8) = extractStridedSlice S1024x384 ![3072, 0] (W (tcBuf main_arg0)) slices_S4096x384_S1024x384_3072_0 := by after_results_simp <;> rfl
theorem afterB_v9 : after opsB W (tcBuf main_v9) = extractStridedSlice S1024x384 ![3072, 0] (W (tcBuf main_arg1)) slices_S4096x384_S1024x384_3072_0 := by after_results_simp <;> rfl
theorem afterB_v12 : after opsB W (tcBuf main_v12) = shapeCast S1024x1 (extractStridedSlice S1024 ![3072] (W (tcBuf main_arg2)) slices_S4096_S1024_3072) shapeCasts_S1024_S1024x1 := by after_results_simp <;> rfl
theorem afterB_v13 : after opsB W (tcBuf main_v13) = shapeCast S1024x1 (extractStridedSlice S1024 ![3072] (W (tcBuf main_arg3)) slices_S4096_S1024_3072) shapeCasts_S1024_S1024x1 := by after_results_simp <;> rfl

theorem afterC_v15 : after opsC W (tcBuf main_v15)
    = Host.dynamicUpdateSlice (s := S4096x512) (u := S1024x512) (W (tcBuf main_v7)) (W (tcBuf main_v14))
        (fun k : Fin 2 => ((![constantI S_ 32 3072#32, constantI S_ 32 0#32] : Fin 2 → IVec S_ 32) k (Shape.Idx.first h_S_)).toInt) updateFits_S4096x512_S1024x512 := by
  after_results_simp
  refine congrArg (fun st => Host.dynamicUpdateSlice (s := S4096x512) (u := S1024x512) _ _ st updateFits_S4096x512_S1024x512) (funext fun k => ?_)
  match k with
  | ⟨0, _⟩ => rfl
  | ⟨1, _⟩ => rfl

/-- The arguments. -/
def argRefs : Finset (Ref sig .tc) := {main_arg0, main_arg1, main_arg2, main_arg3}

theorem afterA_arg {b : Ref sig .tc} (hb : b ∈ argRefs) : after opsA W (tcBuf b) = W (tcBuf b) := by
  simp only [argRefs, Finset.mem_insert, Finset.mem_singleton] at hb
  rcases hb with rfl | rfl | rfl | rfl <;> after_results_simp <;> rfl
theorem afterB_arg {b : Ref sig .tc} (hb : b ∈ argRefs) : after opsB W (tcBuf b) = W (tcBuf b) := by
  simp only [argRefs, Finset.mem_insert, Finset.mem_singleton] at hb
  rcases hb with rfl | rfl | rfl | rfl <;> after_results_simp <;> rfl
theorem afterC_arg {b : Ref sig .tc} (hb : b ∈ argRefs) : after opsC W (tcBuf b) = W (tcBuf b) := by
  simp only [argRefs, Finset.mem_insert, Finset.mem_singleton] at hb
  rcases hb with rfl | rfl | rfl | rfl <;> after_results_simp <;> rfl

end Values

/-! ## From the launch to the end -/

section Course

variable (M : Valuation τ sig (Elt F))

/-- The result the arguments call for. -/
def wantOf : IVec S4096x512 32 :=
  want (M (tcBuf main_arg0)) (M (tcBuf main_arg1)) (M (tcBuf main_arg2)) (M (tcBuf main_arg3))

/-- No segment is longer than 384. -/
def Short : Prop := ∀ r, lenOf (M (tcBuf main_arg2)) r ≤ 384 ∧ lenOf (M (tcBuf main_arg3)) r ≤ 384

/-- What is held before the SparseCore call, -/
def atSc : Valuation τ sig (Elt F) := after opsA M
/-- after it, with `o` its result, -/
def afterSc (o : (tcBuf main_v6).ty.Contents (Elt F)) : Valuation τ sig (Elt F) := Function.update (atSc M) (tcBuf main_v6) o
/-- before the TensorCore call, -/
def atTc (o : (tcBuf main_v6).ty.Contents (Elt F)) : Valuation τ sig (Elt F) := after opsB (afterSc M o)
/-- after it, with `u` its result, -/
def afterTc (o : (tcBuf main_v6).ty.Contents (Elt F)) (u : (tcBuf main_v14).ty.Contents (Elt F)) : Valuation τ sig (Elt F) := Function.update (atTc M o) (tcBuf main_v14) u
/-- and at the end. -/
def atEnd (o : (tcBuf main_v6).ty.Contents (Elt F)) (u : (tcBuf main_v14).ty.Contents (Elt F)) : Valuation τ sig (Elt F) := after opsC (afterTc M o u)

variable {M}

theorem tcBuf_ne {a b : Ref sig .tc} (h : a ≠ b) : tcBuf a ≠ tcBuf b := StableHlo.devRef_ne_of_ne h

theorem afterSc_ne (o : (tcBuf main_v6).ty.Contents (Elt F)) {b : Ref sig .tc} (h : b ≠ main_v6) : afterSc M o (tcBuf b) = atSc M (tcBuf b) :=
  Function.update_of_ne (tcBuf_ne h) ..
theorem afterSc_v6 (o : (tcBuf main_v6).ty.Contents (Elt F)) : afterSc M o (tcBuf main_v6) = o := Function.update_self ..
theorem afterTc_ne (o : (tcBuf main_v6).ty.Contents (Elt F)) (u : (tcBuf main_v14).ty.Contents (Elt F)) {b : Ref sig .tc} (h : b ≠ main_v14) :
    afterTc M o u (tcBuf b) = atTc M o (tcBuf b) := Function.update_of_ne (tcBuf_ne h) ..
theorem afterTc_v14 (o : (tcBuf main_v6).ty.Contents (Elt F)) (u : (tcBuf main_v14).ty.Contents (Elt F)) : afterTc M o u (tcBuf main_v14) = u := Function.update_self ..

theorem arg_ne {b c : Ref sig .tc} (hb : b ∈ argRefs) (hc : c ∉ argRefs) : b ≠ c := fun h => hc (h ▸ hb)

theorem afterSc_arg (o : (tcBuf main_v6).ty.Contents (Elt F)) {b : Ref sig .tc} (hb : b ∈ argRefs) : afterSc M o (tcBuf b) = M (tcBuf b) :=
  (afterSc_ne o (arg_ne hb (by decide))).trans (afterA_arg M hb)

/-- The arguments are as launched at the end. -/
theorem atEnd_arg (o : (tcBuf main_v6).ty.Contents (Elt F)) (u : (tcBuf main_v14).ty.Contents (Elt F)) {b : Ref sig .tc} (hb : b ∈ argRefs) :
    atEnd M o u (tcBuf b) = M (tcBuf b) :=
  (afterC_arg _ hb).trans ((afterTc_ne o u (arg_ne hb (by decide))).trans ((afterB_arg _ hb).trans (afterSc_arg o hb)))

/-! ### The SparseCore call's rows -/

theorem data_len0 (r : ℕ) (hr : r < 3072) : (dataOf (atSc M)).len0 r = lenOf (M (tcBuf main_arg2)) r := by
  have h : (show IVec S3072 32 from atSc M (tcBuf main_v4)) (pos r hr) = BitVec.ofNat 32 (lenOf (M (tcBuf main_arg2)) r) :=
    (congrFun (afterA_v4 M) (pos r hr)).trans (first_lens _ _)
  refine (dif_pos hr).trans ((congrArg BitVec.toNat h).trans ?_)
  rw [BitVec.toNat_ofNat]
  unfold lenOf
  rw [dif_pos (by omega : r < 4096)]
  exact Nat.mod_eq_of_lt (BitVec.isLt _)

theorem data_len1 (r : ℕ) (hr : r < 3072) : (dataOf (atSc M)).len1 r = lenOf (M (tcBuf main_arg3)) r := by
  have h : (show IVec S3072 32 from atSc M (tcBuf main_v5)) (pos r hr) = BitVec.ofNat 32 (lenOf (M (tcBuf main_arg3)) r) :=
    (congrFun (afterA_v5 M) (pos r hr)).trans (first_lens _ _)
  refine (dif_pos hr).trans ((congrArg BitVec.toNat h).trans ?_)
  rw [BitVec.toNat_ofNat]
  unfold lenOf
  rw [dif_pos (by omega : r < 4096)]
  exact Nat.mod_eq_of_lt (BitVec.isLt _)

theorem data_ok (h : Short M) : (dataOf (atSc M)).Ok := fun r => by
  by_cases hr : r < 3072
  · rw [data_len0 r hr, data_len1 r hr]; exact h r
  · exact ⟨(dif_neg hr).trans_le (Nat.zero_le _), (dif_neg hr).trans_le (Nat.zero_le _)⟩

theorem data_tok0 {r s : ℕ} (hr : r < 3072) (hs : s < 384) : (dataOf (atSc M)).tok0 (r * 384 + s) = rowsOf (M (tcBuf main_arg0)) r s := by
  have hi : r * 384 + s < 1179648 := by omega
  refine (dif_pos hi).trans (((congrFun (afterA_v1 M) (pos _ hi)).trans (flat_toks _ _)).trans ?_)
  rw [pos_val, show (r * 384 + s) / 384 = r by omega, show (r * 384 + s) % 384 = s by omega]

theorem data_tok1 {r s : ℕ} (hr : r < 3072) (hs : s < 384) : (dataOf (atSc M)).tok1 (r * 384 + s) = rowsOf (M (tcBuf main_arg1)) r s := by
  have hi : r * 384 + s < 1179648 := by omega
  refine (dif_pos hi).trans (((congrFun (afterA_v3 M) (pos _ hi)).trans (flat_toks _ _)).trans ?_)
  rw [pos_val, show (r * 384 + s) / 384 = r by omega, show (r * 384 + s) % 384 = s by omega]

/-- Row `r` of what the SparseCores write is row `r` of the result. -/
theorem data_row (h : Short M) {r : ℕ} (hr : r < 3072) (j : ℕ) : (dataOf (atSc M)).row r j
    = packed (lenOf (M (tcBuf main_arg2)) r) (lenOf (M (tcBuf main_arg3)) r) (rowsOf (M (tcBuf main_arg0)) r) (rowsOf (M (tcBuf main_arg1)) r) j := by
  unfold TileData.row
  rw [data_len0 r hr, data_len1 r hr]
  exact packed_congr (h r).1 (h r).2 (fun s hs => data_tok0 hr hs) (fun s hs => data_tok1 hr hs) j

/-! ### The TensorCore call's rows -/

theorem atTc_v8 (o : (tcBuf main_v6).ty.Contents (Elt F)) (k : S1024x384.Idx) : atTc M o (tcBuf main_v8) k = rowsOf (M (tcBuf main_arg0)) (3072 + (k 0).val) (k 1).val :=
  (congrFun (afterB_v8 _) k).trans ((last_rows _ k).trans (congrArg (fun A => rowsOf A _ _) (afterSc_arg o (by decide))))
theorem atTc_v9 (o : (tcBuf main_v6).ty.Contents (Elt F)) (k : S1024x384.Idx) : atTc M o (tcBuf main_v9) k = rowsOf (M (tcBuf main_arg1)) (3072 + (k 0).val) (k 1).val :=
  (congrFun (afterB_v9 _) k).trans ((last_rows _ k).trans (congrArg (fun A => rowsOf A _ _) (afterSc_arg o (by decide))))
theorem atTc_v12 (o : (tcBuf main_v6).ty.Contents (Elt F)) (k : S1024x1.Idx) : atTc M o (tcBuf main_v12) k = BitVec.ofNat 32 (lenOf (M (tcBuf main_arg2)) (3072 + (k 0).val)) :=
  (congrFun (afterB_v12 _) k).trans ((last_lens _ k).trans (congrArg (fun l => BitVec.ofNat 32 (lenOf l _)) (afterSc_arg o (by decide))))
theorem atTc_v13 (o : (tcBuf main_v6).ty.Contents (Elt F)) (k : S1024x1.Idx) : atTc M o (tcBuf main_v13) k = BitVec.ofNat 32 (lenOf (M (tcBuf main_arg3)) (3072 + (k 0).val)) :=
  (congrFun (afterB_v13 _) k).trans ((last_lens _ k).trans (congrArg (fun l => BitVec.ofNat 32 (lenOf l _)) (afterSc_arg o (by decide))))

/-- What the TensorCore call is to leave. -/
def lastOut (M : Valuation τ sig (Elt F)) : (tcBuf main_v14).ty.Contents (Elt F) :=
  fun k : S1024x512.Idx => packed (lenOf (M (tcBuf main_arg2)) (3072 + (k 0).val)) (lenOf (M (tcBuf main_arg3)) (3072 + (k 0).val))
    (rowsOf (M (tcBuf main_arg0)) (3072 + (k 0).val)) (rowsOf (M (tcBuf main_arg1)) (3072 + (k 0).val)) (k 1).val

/-! ### The result -/

/-- When the SparseCore call's result has its first 3072 rows packed and the TensorCore call's is packed, the result array
    holds every row packed. -/
theorem atEnd_v15 (h : Short M) {o : (tcBuf main_v6).ty.Contents (Elt F)} (ho : ∀ i : S2097152.Idx, (i 0).val < 1572864 → o i = packedOut (atSc M) i) :
    atEnd M o (lastOut M) (tcBuf main_v15) = wantOf M := by
  refine (afterC_v15 _).trans ?_
  rw [afterTc_v14, afterTc_ne o _ (by decide)]
  have e7 : atTc M o (tcBuf main_v7) = shapeCast S4096x512 (show IVec S2097152 32 from o) shapeCasts_S2097152_S4096x512 :=
    (afterB_v7 _).trans (congrArg (fun x : IVec S2097152 32 => shapeCast S4096x512 x shapeCasts_S2097152_S4096x512) (afterSc_v6 o))
  rw [e7]
  funext i
  have hr : (i 0).val < 4096 := (i 0).isLt
  have hc : (i 1).val < 512 := (i 1).isLt
  refine (joined _ _ _ rfl rfl i).trans ?_
  by_cases hi : 3072 ≤ (i 0).val
  · refine (dif_pos hi).trans ?_
    have e : 3072 + ((i 0).val - 3072) = (i 0).val := by omega
    show packed (lenOf _ (3072 + ((i 0).val - 3072))) (lenOf _ (3072 + ((i 0).val - 3072))) (rowsOf _ (3072 + ((i 0).val - 3072))) (rowsOf _ (3072 + ((i 0).val - 3072))) (i 1).val = _
    rw [e]; rfl
  · refine (dif_neg hi).trans ((ho _ (show (i 0).val * 512 + (i 1).val < 1572864 by omega)).trans ?_)
    show (dataOf (atSc M)).row (((i 0).val * 512 + (i 1).val) / 512) (((i 0).val * 512 + (i 1).val) % 512) = _
    rw [show ((i 0).val * 512 + (i 1).val) / 512 = (i 0).val by omega, show ((i 0).val * 512 + (i 1).val) % 512 = (i 1).val by omega]
    exact data_row h (by omega) _

end Course

end Cert.Proof.Pack

end
-- ==== Proof.Deal.lean ====
/-
  The arrays of the SparseCore call, cut into the tiles' parts and joined again.
-/
module

public import proofs.«01_k».proof.Proof.Host

@[expose] public section

noncomputable section

namespace Cert.Proof.Pack

open Cert.KernelIdeal Cert.KernelIdeal.Gen

open Idealize.ShloMosaic Idealize.ShloMosaic.TcCoe
open Idealize.ShloMosaic.StableHlo (held after seq tcRefs)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem

variable {F : FTy → Type}

/-! ## The tiles' parts of an array -/

/-- A SparseCore and one of its tiles. -/
abbrev Tiles : Type := Fin (grid0.bound 0) × Fin (grid0.bound 1)

/-- The coordinates of the tile `t`. -/
abbrev atTile (t : Tiles) : grid0.Coords := coordsV t.1 t.2

/-- Two tiles of one number are one tile. -/
theorem wid_inj {t t' : Tiles} (h : wid (atTile t) = wid (atTile t')) : t = t' := by
  have e : 2 * t.2.val + t.1.val = 2 * t'.2.val + t'.1.val := h
  have h0 : t.1.val < 2 := t.1.isLt
  have h1 : t'.1.val < 2 := t'.1.isLt
  exact Prod.ext (Fin.ext (by omega)) (Fin.ext (by omega))

/-- Parts of `len` elements each, one after the other, share no element -/
theorem parts_disjoint {n : ℕ} (len : ℕ) : ∀ t ∈ (Finset.univ : Finset Tiles), ∀ t' ∈ (Finset.univ : Finset Tiles), t ≠ t' →
    Disjoint (seg (n := n) (len * wid (atTile t)) (len * wid (atTile t) + len))
      (seg (n := n) (len * wid (atTile t')) (len * wid (atTile t') + len)) := by
  intro t _ t' _ hne
  refine Finset.disjoint_left.mpr fun i h h' => hne (wid_inj ?_)
  obtain ⟨a, b⟩ := mem_seg.mp h
  obtain ⟨a', b'⟩ := mem_seg.mp h'
  have h1 : len * wid (atTile t) < len * (wid (atTile t') + 1) := by rw [Nat.mul_succ]; omega
  have h2 : len * wid (atTile t') < len * (wid (atTile t) + 1) := by rw [Nat.mul_succ]; omega
  have := Nat.lt_of_mul_lt_mul_left h1
  have := Nat.lt_of_mul_lt_mul_left h2
  omega

/-- and make up the first `32 * len` elements. -/
theorem parts_cover {n : ℕ} (len : ℕ) : (Finset.univ : Finset Tiles).biUnion
    (fun t => seg (n := n) (len * wid (atTile t)) (len * wid (atTile t) + len)) = seg 0 (32 * len) := by
  ext i
  rw [Finset.mem_biUnion, mem_seg]
  constructor
  · rintro ⟨t, -, h⟩
    obtain ⟨_, b⟩ := mem_seg.mp h
    have hw : len * (wid (atTile t) + 1) ≤ len * 32 := Nat.mul_le_mul_left _ (wid_lt _)
    rw [Nat.mul_succ] at hw
    omega
  · rintro ⟨_, b⟩
    have hlen : 0 < len := by omega
    have hq : (i 0).val / len < 32 := (Nat.div_lt_iff_lt_mul hlen).mpr b
    refine ⟨(⟨(i 0).val / len % 2, show _ < 2 by omega⟩, ⟨(i 0).val / len / 2, show _ < 16 by omega⟩), Finset.mem_univ _, mem_seg.mpr ?_⟩
    have hw : wid (atTile (⟨(i 0).val / len % 2, show _ < 2 by omega⟩, ⟨(i 0).val / len / 2, show _ < 16 by omega⟩)) = (i 0).val / len := by
      show 2 * ((i 0).val / len / 2) + (i 0).val / len % 2 = _
      omega
    rw [hw]
    have e := Nat.div_add_mod (i 0).val len
    have l := Nat.mod_lt (i 0).val hlen
    omega

/-- All of a flat array. -/
theorem seg_univ {n hi : ℕ} (h : n ≤ hi) : seg (n := n) 0 hi = Finset.univ :=
  Finset.eq_univ_iff_forall.mpr fun i => mem_seg.mpr ⟨Nat.zero_le _, lt_of_lt_of_le (idx_lt i) h⟩

/-- An array's elements, held by the tiles' parts. -/
theorem pointsTo_tiles {ℓ : Loc nD τ sig} {A : Finset (Idx ℓ)} (B : Tiles → Finset (Idx ℓ)) (q : PosShare TreeShare) (f : Buf (Elt F) ℓ)
    (hd : ∀ t ∈ (Finset.univ : Finset Tiles), ∀ t' ∈ (Finset.univ : Finset Tiles), t ≠ t' → Disjoint (B t) (B t'))
    (hA : (Finset.univ : Finset Tiles).biUnion B = A) :
    (ℓ ↦[A]{q} f : sProp (MM F)) = bigSep Finset.univ fun c : Fin (grid0.bound 0) => bigSep Finset.univ fun i : Fin (grid0.bound 1) => ℓ ↦[B (c, i)]{q} f := by
  rw [← hA, pointsTo_biUnion Finset.univ B hd]
  exact BI.bigSep_univ_prod (fun t : Tiles => (ℓ ↦[B t]{q} f : sProp (MM F)))

/-- Two families over the tiles, side by side. -/
theorem tiles_sep (Φ Ψ : Fin (grid0.bound 0) → Fin (grid0.bound 1) → sProp (MM F)) :
    (bigSep Finset.univ fun c => bigSep Finset.univ fun i => iprop(Φ c i ∗ Ψ c i))
      = iprop((bigSep Finset.univ fun c => bigSep Finset.univ fun i => Φ c i) ∗ bigSep Finset.univ fun c => bigSep Finset.univ fun i => Ψ c i) := by
  rw [← bigSep_sep' Finset.univ (fun c => bigSep Finset.univ fun i => Φ c i)]
  exact BI.bigSep_congr fun c _ => bigSep_sep' Finset.univ _ _

/-! ## The call's five arrays -/

section Call

variable (d : Dev nD) (W : Valuation τ sig (Elt F))

/-- The four arrays the call reads, whole. -/
abbrev readArrays : sProp (MM F) :=
  iprop((((d, tcBuf main_v1) : Loc nD τ sig) ↦{fullShare} W (tcBuf main_v1)) ∗ (((d, tcBuf main_v3) : Loc nD τ sig) ↦{fullShare} W (tcBuf main_v3))
    ∗ (((d, tcBuf main_v4) : Loc nD τ sig) ↦{fullShare} W (tcBuf main_v4)) ∗ (((d, tcBuf main_v5) : Loc nD τ sig) ↦{fullShare} W (tcBuf main_v5)))

/-- They are the tiles' parts of them. -/
theorem read_tiles : (readArrays d W : sProp (MM F))
    = bigSep Finset.univ fun c : Fin (grid0.bound 0) => bigSep Finset.univ fun i : Fin (grid0.bound 1) => goIn d W (coordsV c i) := by
  rw [tiles_sep, tiles_sep, tiles_sep]
  refine congrArg₂ BI.sep ?_ (congrArg₂ BI.sep ?_ (congrArg₂ BI.sep ?_ ?_))
  · exact pointsTo_tiles (ℓ := (d, tcBuf main_v1)) (fun t => seg (n := 1179648) (36864 * wid (atTile t)) (36864 * wid (atTile t) + 36864)) fullShare _ (parts_disjoint 36864) ((parts_cover 36864).trans (seg_univ (by omega)))
  · exact pointsTo_tiles (ℓ := (d, tcBuf main_v3)) (fun t => seg (n := 1179648) (36864 * wid (atTile t)) (36864 * wid (atTile t) + 36864)) fullShare _ (parts_disjoint 36864) ((parts_cover 36864).trans (seg_univ (by omega)))
  · exact pointsTo_tiles (ℓ := (d, tcBuf main_v4)) (fun t => seg (n := 3072) (96 * wid (atTile t)) (96 * wid (atTile t) + 96)) fullShare _ (parts_disjoint 96) ((parts_cover 96).trans (seg_univ (by omega)))
  · exact pointsTo_tiles (ℓ := (d, tcBuf main_v5)) (fun t => seg (n := 3072) (96 * wid (atTile t)) (96 * wid (atTile t) + 96)) fullShare _ (parts_disjoint 96) ((parts_cover 96).trans (seg_univ (by omega)))

/-- The first 3072 rows of the flat result, -/
abbrev headSet : Finset S2097152.Idx := seg 0 1572864

/-- held at `f`, are the tiles' parts of it. -/
theorem out_tiles (f : (tcBuf main_v6).ty.Contents (Elt F)) : ((((d, tcBuf main_v6) : Loc nD τ sig) ↦[headSet]{fullShare} f) : sProp (MM F))
    = bigSep Finset.univ fun c : Fin (grid0.bound 0) => bigSep Finset.univ fun i : Fin (grid0.bound 1) =>
        ((thr d (coordsV c i)).loc main_v6_scv ↦[outSeg (coordsV c i)]{fullShare} f) :=
  pointsTo_tiles (ℓ := (d, tcBuf main_v6)) (fun t => seg (n := 2097152) (49152 * wid (atTile t)) (49152 * wid (atTile t) + 49152)) fullShare f (parts_disjoint 49152) (parts_cover 49152)

/-- A tile's part of the result, at whatever it holds, goes with its parts of the read arrays. -/
theorem tileGo_intro (L : grid0.Coords) (f : (tcBuf main_v6).ty.Contents (Elt F)) :
    (iprop(goIn d W L ∗ ((thr d L).loc main_v6_scv ↦[outSeg L]{fullShare} f)) : sProp (MM F)) ⊢ tileGo d W L := by
  iintro ⟨H, Ho⟩
  isplitl [H]; · iexact H
  iexists f
  iexact Ho

variable (M : Dev nD → Valuation τ sig (Elt F))

/-- Going in: the read arrays and the result's first rows are what the call's start hands over. -/
theorem deal_in (f : (tcBuf main_v6).ty.Contents (Elt F)) :
    (iprop(readArrays d (M d) ∗ (((d, tcBuf main_v6) : Loc nD τ sig) ↦[headSet]{fullShare} f)) : sProp (MM F))
      ⊢ bigSep Finset.univ fun c : Fin ((K (F := F)).nCore 0) => (P M).st 0 d c := by
  rw [read_tiles, out_tiles, ← tiles_sep]
  refine BI.bigSep_mono fun c _ => ?_
  show _ ⊢ bigSep Finset.univ fun i : Fin (grid0.bound 1) => tileGo d (M d) (coordsV c i)
  exact BI.bigSep_mono fun i _ => tileGo_intro d (M d) (coordsV c i) f

/-- Coming out: what the call's end hands back is the read arrays and the result's first rows, packed. -/
theorem deal_out : (bigSep Finset.univ fun c : Fin ((K (F := F)).nCore 0) => (P M).dn 0 d c)
      = (iprop(readArrays d (M d) ∗ (((d, tcBuf main_v6) : Loc nD τ sig) ↦[headSet]{fullShare} packedOut (M d))) : sProp (MM F)) := by
  rw [read_tiles, out_tiles, ← tiles_sep]
  rfl

/-- The result's first rows and the others, at two valuations, are the result at one that agrees with the first on the
    first rows. -/
theorem out_join (g f : (tcBuf main_v6).ty.Contents (Elt F)) :
    (iprop((((d, tcBuf main_v6) : Loc nD τ sig) ↦[headSet]{fullShare} g) ∗ (((d, tcBuf main_v6) : Loc nD τ sig) ↦[(Finset.univ : Finset S2097152.Idx) \ headSet]{fullShare} f)) : sProp (MM F))
      ⊢ iprop(∃ o : (tcBuf main_v6).ty.Contents (Elt F), ⌜∀ i : S2097152.Idx, (i 0).val < 1572864 → o i = g i⌝ ∗ ((d, tcBuf main_v6) : Loc nD τ sig) ↦{fullShare} o) := by
  let o : (tcBuf main_v6).ty.Contents (Elt F) := fun (i : S2097152.Idx) => if (i 0).val < 1572864 then g i else f i
  have ho : ∀ i : S2097152.Idx, (i 0).val < 1572864 → o i = g i := fun i hi => if_pos hi
  have e1 : (((d, tcBuf main_v6) : Loc nD τ sig) ↦[headSet]{fullShare} g : sProp (MM F)) = (((d, tcBuf main_v6) : Loc nD τ sig) ↦[headSet]{fullShare} o) :=
    pointsTo_congr fun i hi => (ho i (mem_seg.mp hi).2).symm
  have e2 : (((d, tcBuf main_v6) : Loc nD τ sig) ↦[(Finset.univ : Finset S2097152.Idx) \ headSet]{fullShare} f : sProp (MM F))
      = (((d, tcBuf main_v6) : Loc nD τ sig) ↦[(Finset.univ : Finset S2097152.Idx) \ headSet]{fullShare} o) :=
    pointsTo_congr fun i hi => (if_neg fun h => (Finset.mem_sdiff.mp hi).2 (mem_seg.mpr ⟨Nat.zero_le _, h⟩)).symm
  rw [e1, e2]
  iintro H
  iexists o
  isplitr; · ipureintro; exact ho
  iapply (pointsTo_split_subset (ℓ := (d, tcBuf main_v6)) (q := fullShare) (f := o) (Finset.subset_univ headSet)).2 $$ H

end Call

end Cert.Proof.Pack

end
-- ==== Proof.Main.lean ====
/-
  The host thread's run: its operations, the SparseCore call and the TensorCore call, from the launch memory to the
  result.
-/
module

public import proofs.«01_k».proof.Proof.Deal

@[expose] public section

noncomputable section

namespace Cert.Proof.Pack

open Cert.KernelIdeal Cert.KernelIdeal.Gen

open Idealize.ShloMosaic Idealize.ShloMosaic.TcCoe
open Idealize.ShloMosaic.StableHlo (held after seq tcRefs held_sub_split held_congr)
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The host's buffers -/

/-- The buffers of the TensorCore that no call has to itself, as those the host's operations hold. -/
theorem unscoped_held (d : Dev nD) (W : Valuation τ sig (Elt F)) :
    (unscopedBufs d (fun b => W (tcBuf b)) : sProp (MM F)) = held (T d) hostRefs W := by
  unfold unscopedBufs held hostRefs tcRefs
  rw [Finset.filter_map, BI.bigSep_map]
  rfl

/-- The buffers of the SparseCore call. -/
def callRefs : Finset (DevRef τ sig) := {tcBuf main_v1, tcBuf main_v3, tcBuf main_v4, tcBuf main_v5, tcBuf main_v6}

theorem callRefs_sub : callRefs ⊆ hostRefs := by
  intro b hb
  simp only [callRefs, Finset.mem_insert, Finset.mem_singleton] at hb
  rcases hb with rfl | rfl | rfl | rfl | rfl <;>
    exact Finset.mem_filter.mpr ⟨Finset.mem_map_of_mem _ (Finset.mem_univ _), by decide⟩

/-- Of five parts, the last apart. -/
theorem sep_last (A B C D' E : sProp (MM F)) : iprop(A ∗ B ∗ C ∗ D' ∗ E) = iprop((A ∗ B ∗ C ∗ D') ∗ E) := by
  have h1 : iprop(A ∗ B ∗ C ∗ D' ∗ E) ⊢ iprop((A ∗ B ∗ C ∗ D') ∗ E) := by
    iintro ⟨HA, HB, HC, HD, HE⟩
    isplitr [HE]
    · isplitl [HA]; · iexact HA
      isplitl [HB]; · iexact HB
      isplitl [HC] <;> iassumption
    iexact HE
  have h2 : iprop((A ∗ B ∗ C ∗ D') ∗ E) ⊢ iprop(A ∗ B ∗ C ∗ D' ∗ E) := by
    iintro ⟨⟨HA, HB, HC, HD⟩, HE⟩
    isplitl [HA]; · iexact HA
    isplitl [HB]; · iexact HB
    isplitl [HC]; · iexact HC
    isplitl [HD] <;> iassumption
  exact BI.equiv_iff.mp ⟨h1, h2⟩

/-- They are the arrays it reads and its result. -/
theorem held_call (d : Dev nD) (W : Valuation τ sig (Elt F)) : (held (T d) callRefs W : sProp (MM F))
    = iprop(readArrays d W ∗ (((d, tcBuf main_v6) : Loc nD τ sig) ↦{fullShare} W (tcBuf main_v6))) := by
  unfold held callRefs
  rw [SparseCore.bigSep_insert' (show tcBuf main_v1 ∉ ({tcBuf main_v3, tcBuf main_v4, tcBuf main_v5, tcBuf main_v6} : Finset (DevRef τ sig)) by decide),
    SparseCore.bigSep_insert' (show tcBuf main_v3 ∉ ({tcBuf main_v4, tcBuf main_v5, tcBuf main_v6} : Finset (DevRef τ sig)) by decide),
    SparseCore.bigSep_insert' (show tcBuf main_v4 ∉ ({tcBuf main_v5, tcBuf main_v6} : Finset (DevRef τ sig)) by decide),
    SparseCore.bigSep_insert' (show tcBuf main_v5 ∉ ({tcBuf main_v6} : Finset (DevRef τ sig)) by decide), bigSep_singleton]
  exact sep_last _ _ _ _ _

section Run

variable (M : Dev nD → Valuation τ sig (Elt F))

/-- The valuations the SparseCore call starts from. -/
abbrev scAt : Dev nD → Valuation τ sig (Elt F) := fun d => atSc (M d)

/-- Into the call: the host's buffers give what the call's start hands over, and keep the others and the result's last rows. -/
theorem split_call (d : Dev nD) : (held (T d) hostRefs (atSc (M d)) : sProp (MM F))
    ⊢ iprop((bigSep Finset.univ fun c : Fin ((K (F := F)).nCore 0) => (P (scAt M)).st 0 d c)
      ∗ (((d, tcBuf main_v6) : Loc nD τ sig) ↦[(Finset.univ : Finset S2097152.Idx) \ headSet]{fullShare} atSc (M d) (tcBuf main_v6))
      ∗ held (T d) (hostRefs \ callRefs) (atSc (M d))) := by
  rw [held_sub_split (T d) callRefs_sub, held_call]
  iintro ⟨⟨Hr, Ho⟩, Hrest⟩
  ihave Ho' := (pointsTo_split_subset (ℓ := (d, tcBuf main_v6)) (q := fullShare) (f := atSc (M d) (tcBuf main_v6)) (Finset.subset_univ headSet)).1 $$ Ho
  icases Ho' with ⟨Hh, Ht⟩
  isplitl [Hr Hh]
  · iapply (deal_in d (scAt M) (atSc (M d) (tcBuf main_v6)))
    isplitl [Hr]; · iexact Hr
    iexact Hh
  isplitl [Ht]; · iexact Ht
  iexact Hrest

/-- Out of the call: what the call's end hands back, with what was kept, is the host's buffers, the result's first rows packed. -/
theorem join_call (d : Dev nD) : (iprop((bigSep Finset.univ fun c : Fin ((K (F := F)).nCore 0) => (P (scAt M)).dn 0 d c)
      ∗ (((d, tcBuf main_v6) : Loc nD τ sig) ↦[(Finset.univ : Finset S2097152.Idx) \ headSet]{fullShare} atSc (M d) (tcBuf main_v6))
      ∗ held (T d) (hostRefs \ callRefs) (atSc (M d))) : sProp (MM F))
    ⊢ iprop(∃ o : (tcBuf main_v6).ty.Contents (Elt F), ⌜∀ i : S2097152.Idx, (i 0).val < 1572864 → o i = packedOut (atSc (M d)) i⌝
      ∗ held (T d) hostRefs (afterSc (M d) o)) := by
  rw [deal_out]
  iintro ⟨⟨Hr, Hh⟩, Ht, Hrest⟩
  ihave H := (out_join d (packedOut (atSc (M d))) (atSc (M d) (tcBuf main_v6))) $$ [Hh Ht]
  · isplitl [Hh]; · iexact Hh
    iexact Ht
  icases H with ⟨%o, %ho, Ho⟩
  iexists o
  isplitr; · ipureintro; exact ho
  have e : (held (T d) (hostRefs \ callRefs) (atSc (M d)) : sProp (MM F)) = held (T d) (hostRefs \ callRefs) (afterSc (M d) o) :=
    held_congr (T d) fun b hb => (Function.update_of_ne (fun h => (Finset.mem_sdiff.mp hb).2 (by rw [h]; simp only [callRefs, Finset.mem_insert, Finset.mem_singleton, or_true])) _ _).symm
  have e' : (readArrays d (atSc (M d)) : sProp (MM F)) = readArrays d (afterSc (M d) o) := by
    unfold readArrays
    rw [afterSc_ne o (show main_v1 ≠ main_v6 by decide), afterSc_ne o (show main_v3 ≠ main_v6 by decide),
      afterSc_ne o (show main_v4 ≠ main_v6 by decide), afterSc_ne o (show main_v5 ≠ main_v6 by decide)]
  have e6 : ((((d, tcBuf main_v6) : Loc nD τ sig) ↦{fullShare} o) : sProp (MM F)) = (((d, tcBuf main_v6) : Loc nD τ sig) ↦{fullShare} afterSc (M d) o (tcBuf main_v6)) := by
    rw [afterSc_v6]
  ihave Hrest' := (Entails.of_eq e) $$ Hrest
  ihave Hr' := (Entails.of_eq e') $$ Hr
  ihave Ho' := (Entails.of_eq e6) $$ Ho
  iapply (Entails.of_eq (held_sub_split (T d) callRefs_sub (afterSc (M d) o)).symm)
  isplitr [Hrest']
  · iapply (Entails.of_eq (held_call d (afterSc (M d) o)).symm)
    isplitl [Hr']; · iexact Hr'
    iexact Ho'
  iexact Hrest'

/-! ## The TensorCore call -/

abbrev adm : (p : Fin 1) → (pcfgs (F := F) p).Adm := fun p => (cfgs p).toPCfg_adm

/-- The pipeline's ghost state of one device. -/
def G (d : Dev nD) : sProp (MM F) :=
  iprop(Pipeline.cellsGhost (Pipeline.pin (pcfgs (F := F)) adm) EP 0 d ∗ Pipeline.toksInit (Pipeline.pin (pcfgs (F := F)) adm) EP 0 d)

variable (hM : ∀ d, Short (M d)) (o : (tcBuf main_v6).ty.Contents (Elt F)) (Bd : Set (SemLoc sig × HIx 1))

/-- The buffers at the TensorCore call's start -/
abbrev tcV : (c : Dev nD) → (b : Ref sig .tc) → Buf (Elt F) ((c : Thread nD τ).loc b) := fun c b => atTc (M c) o (tcBuf b)
/-- and at its end. -/
abbrev tcV' : (c : Dev nD) → (b : Ref sig .tc) → Buf (Elt F) ((c : Thread nD τ).loc b) := fun c b => afterTc (M c) o (lastOut (M c)) (tcBuf b)

include hM in
theorem tc_out (c : Dev nD) : tcV' M o c main_v14 = (tcDat (tcV M o) Bd c).arrAt 4 cfg1.N :=
  (afterTc_v14 o _).trans (tc_result (tcV M o) Bd c (a := fun r => lenOf (M c (tcBuf main_arg2)) (3072 + r)) (b := fun r => lenOf (M c (tcBuf main_arg3)) (3072 + r))
    (x := fun r => rowsOf (M c (tcBuf main_arg0)) (3072 + r)) (y := fun r => rowsOf (M c (tcBuf main_arg1)) (3072 + r))
    (fun r => (hM c _).1) (fun r => (hM c _).2) (atTc_v8 o) (atTc_v9 o) (atTc_v12 o) (atTc_v13 o)).symm

/-- The call as a region, at these buffers. -/
def tcRegion : Pipeline.RegionSeg (pcfgs (F := F)) adm (tcDats (tcV M o) Bd adm) none defs₀ 𝒱₀ (K (F := F)).L (K (F := F)).lev (0 : Fin 1) :=
  tcReg (tcV M o) (tcV' M o) Bd adm (tc_out M hM o Bd) fun c b h => afterTc_ne o _ h

variable [∀ e, Nonempty (Elt F e)]

include hM in
set_option backward.isDefEq.respectTransparency.types false in
/-- The TensorCore call, as the host makes it: from the buffers before it to the buffers after it. -/
theorem wp_tcCall (d : Dev nD) {β : Type} (k : PUnit → Prog (TpuEff nD τ sig (Elt F) (SparseCore.Sig (ΛP (F := F)) 1) .tc) β) (Q : β → sProp (MM F)) :
    iprop(boundary (T d) ∗ held (T d) hostRefs (atTc (M d) o) ∗ idleIn Bd d ∗ levAts (K (F := F)).L (K (F := F)).lev ∗ G d)
      ⊢ iprop((iprop(boundary (T d) ∗ held (T d) hostRefs (afterTc (M d) o (lastOut (M d))) ∗ idleIn (after1 Bd) d)
          -∗ wp frame (wpE ((K (F := F)).defs (D (F := F))) 𝒱 (T d) none) Set.univ (k ⟨⟩) Q)
        -∗ wp frame (wpE ((K (F := F)).defs (D (F := F))) 𝒱 (T d) none) Set.univ
          (Prog.lift (.customCall (SparseCore.inner (Pipeline.entry 0)) ()) >>= k) Q) := by
  have hcall := Pipeline.RegionSeg.wp (pcfgs (F := F)) adm (tcDats (tcV M o) Bd adm) none cellOf_inj EP defs₀ 𝒱₀ (K (F := F)).L (K (F := F)).lev
    (tcRegion M hM o Bd) d none (fun u h => nomatch h) (fun _ => Prog.ret (PUnit.unit : PUnit.{1}))
    (fun _ => wp frame (wpE ((K (F := F)).defs (D (F := F))) 𝒱 (T d) none) Set.univ (k ⟨⟩) Q)
  have hpre : (tcRegion M hM o Bd).pre d = iprop(held (T d) hostRefs (atTc (M d) o) ∗ idleIn Bd d) :=
    congrArg (fun X : sProp (MM F) => iprop(X ∗ idleIn Bd d)) (unscoped_held d (atTc (M d) o))
  have hpost : (tcRegion M hM o Bd).post d = iprop(held (T d) hostRefs (afterTc (M d) o (lastOut (M d))) ∗ idleIn (after1 Bd) d) :=
    congrArg (fun X : sProp (MM F) => iprop(X ∗ idleIn (after1 Bd) d)) (unscoped_held d (afterTc (M d) o (lastOut (M d))))
  rw [hpre, hpost] at hcall
  rw [wp_bind]
  iintro ⟨Hb, Hbufs, HO, #Hlv, HG⟩ Hk
  iapply ((K (F := F)).wp_liftProg (D (F := F)) 𝒱 (T d) Set.univ none (.op (.customCall (Pipeline.entry 0) ()) fun _ => Prog.ret (PUnit.unit : PUnit.{1}))
    (fun _ => wp frame (wpE ((K (F := F)).defs (D (F := F))) 𝒱 (T d) none) Set.univ (k ⟨⟩) Q))
  unfold G
  icases HG with ⟨Hc, Ht⟩
  iapply hcall
  isplitl [Hk]
  · iintro ⟨Hb, Hub, HO⟩
    rw [wp_ret]
    imodintro
    iapply Hk
    isplitl [Hb]; · iexact Hb
    isplitl [Hub] <;> iassumption
  isplitl [Hb]; · iexact Hb
  isplitl [Hbufs HO]
  · isplitl [Hbufs] <;> iassumption
  isplitr; · iexact Hlv
  isplitl [Hc] <;> iassumption

/-! ## The host's whole run -/

omit [∀ e, Nonempty (Elt F e)] [FloatOps F] in
/-- What the host thread has recorded after the SparseCore call. -/
def recorded (d : Dev nD) : Set (SemLoc sig × HIx 1) := {p | (K (F := F)).lev (T d, p.1) p.2 ≤ 8 * SparseCore.Cfg.Blocks.fst 1 1 1}

omit [∀ e, Nonempty (Elt F e)] [FloatOps F] in
/-- After the SparseCore call the host thread owes nothing, and the waits of the TensorCore call may be recorded beside its own. -/
theorem tcSt_idle (d : Dev nD) : ((K (F := F)).tcSt EH d 1 : sProp (MM F))
    ⊢ iprop(idleIn (F := F) (recorded (F := F) d) d ∗ (idleIn (F := F) (after1 (recorded (F := F) d)) d -∗ (K (F := F)).tcSt EH d 1)) := by
  have h0 : (K (F := F)).Otc (N := 1) d 1 = 0 := (K (F := F)).Otc_end d (le_refl 1)
  unfold SparseCore.Cfg.tcSt idleIn
  rw [h0]
  iintro ⟨⟨%W, %hW, HO⟩, Hrest⟩
  isplitl [HO]
  · iexists W
    isplitr; · ipureintro; exact fun p hp => hW p hp
    iexact HO
  iintro ⟨%W', %hW', HO⟩
  isplitl [HO]
  · iexists W'
    isplitr
    · ipureintro
      intro p hp
      rcases hW' hp with h | h
      · exact h
      · obtain ⟨w, s, rfl⟩ := h
        exact Nat.zero_le _
    iexact HO
  iexact Hrest

end Run

section Launch

variable (m : (ℓ : Loc nD τ sig) → Buf (Elt F) ℓ) (ρ : Dev nD → PrngReg) [∀ e, Nonempty (Elt F e)]

/-- What the launch memory holds, device by device. -/
abbrev M₀ : Dev nD → Valuation τ sig (Elt F) := fun d => StableHlo.launchContents m d

/-- The final buffers: the result is the one the arguments call for, the arguments are as launched. -/
def FIN (d : Dev nD) : sProp (MM F) :=
  iprop(∃ W : Valuation τ sig (Elt F), ⌜W (tcBuf main_v15) = wantOf (M₀ m d) ∧ ∀ b ∈ argRefs, W (tcBuf b) = M₀ m d (tcBuf b)⌝ ∗ held (T d) hostRefs W)

set_option backward.isDefEq.respectTransparency.types false in
/-- The host's program, from the launch to the end. -/
theorem hmain (hM : ∀ d, Short (M₀ m d)) (κ : GSem nD τ sig → ℕ) (d : Dev nD) :
    iprop((K (F := F)).ctx EH (P (scAt (M₀ m))) κ ∗ (K (F := F)).tcSt EH d 0 ∗ (K (F := F)).tcRes m ρ d ∗ G d)
      ⊢ wp frame (wpE ((K (F := F)).defs (D (F := F))) 𝒱 (T d) none) Set.univ (main d)
          fun _ => iprop((K (F := F)).tcSt EH d 1 ∗ FIN m d ∗ (K (F := F)).tcEnd d) := by
  have hub : (unscopedBufs d (fun b => m ((T d : Thread nD τ).loc b)) : sProp (MM F)) = held (T d) hostRefs (M₀ m d) := unscoped_held d (M₀ m d)
  unfold SparseCore.Cfg.tcRes SparseCore.Cfg.tcEnd
  rw [hub, main_split]
  iintro ⟨#Hctx, Hst, ⟨Hb, Hbufs, Hts, -⟩, HG⟩
  iapply (StableHlo.wp_seq 𝒱 none Set.univ d hostRefs _ opsA (host_sub subA) freshA (M₀ m d)) $$ [Hb Hbufs]
  · isplitl [Hb] <;> iassumption
  iintro ⟨Hb, Hbufs⟩
  ihave Hbufs' := (Entails.of_eq (show (held d.tc hostRefs (after opsA (M₀ m d)) : sProp (MM F)) = held (T d) hostRefs (atSc (M₀ m d)) from rfl)) $$ Hbufs
  ihave Hcall := (split_call (M₀ m) d) $$ Hbufs'
  icases Hcall with ⟨Hgo, Htail, Hrest⟩
  rw [wp_bind]
  iapply ((K (F := F)).wp_run (D (F := F)) 𝒱 (EH := EH) (P := P (scAt (M₀ m))) κ d 0)
  isplitr; · iexact Hctx
  isplitl [Hst]; · iexact Hst
  isplitl [Hgo]; · iexact Hgo
  iintro ⟨Hst, Hdn⟩
  ihave Hcall := (join_call (M₀ m) d) $$ [Hdn Htail Hrest]
  · isplitl [Hdn]; · iexact Hdn
    isplitl [Htail]; · iexact Htail
    iexact Hrest
  icases Hcall with ⟨%o, %ho, Hbufs⟩
  iapply (StableHlo.wp_seq 𝒱 none Set.univ d hostRefs _ opsB (host_sub subB) freshB (afterSc (M₀ m d) o)) $$ [Hb Hbufs]
  · isplitl [Hb] <;> iassumption
  iintro ⟨Hb, Hbufs⟩
  ihave Hbufs' := (Entails.of_eq (show (held d.tc hostRefs (after opsB (afterSc (M₀ m d) o)) : sProp (MM F)) = held (T d) hostRefs (atTc (M₀ m d) o) from rfl)) $$ Hbufs
  ihave Hst' := (Entails.of_eq (show ((K (F := F)).tcSt EH d ((0 : Fin 1).val + 1) : sProp (MM F)) = (K (F := F)).tcSt EH d 1 from rfl)) $$ Hst
  ihave Hst'' := (tcSt_idle (F := F) d) $$ Hst'
  icases Hst'' with ⟨HO, Hback⟩
  iapply (wp_tcCall (M₀ m) hM o (recorded (F := F) d) d _ _) $$ [Hb Hbufs' HO HG]
  · isplitl [Hb]; · iexact Hb
    isplitl [Hbufs']; · iexact Hbufs'
    isplitl [HO]; · iexact HO
    isplitr [HG]
    · iapply (SparseCore.Cfg.ctx_levAts κ); iexact Hctx
    iexact HG
  iintro ⟨Hb, Hbufs, HO⟩
  ihave Hst := Hback $$ HO
  iapply (StableHlo.wp_seq 𝒱 none Set.univ d hostRefs _ opsC (host_sub subC) freshC (afterTc (M₀ m d) o (lastOut (M₀ m d)))) $$ [Hb Hbufs]
  · isplitl [Hb] <;> iassumption
  iintro ⟨Hb, Hbufs⟩
  rw [wp_pure]
  imodintro
  isplitl [Hst]; · iexact Hst
  isplitl [Hbufs]
  · unfold FIN
    iexists (atEnd (M₀ m d) o (lastOut (M₀ m d)))
    isplitr
    · ipureintro
      exact ⟨atEnd_v15 (hM d) ho, fun b hb => atEnd_arg o _ hb⟩
    iexact Hbufs
  isplitl [Hb] <;> iassumption

/-! ## The launch's ghost state -/

omit [FloatOps F] [∀ e, Nonempty (Elt F e)] in
/-- The launch element of the three parts is the three parts. -/
theorem ownU_parts (a : UH) (b : UP) (w : UW F) : (ownU ((a, (b, (w, 1))) : UU F) : sProp (MM F))
    ⊢ iprop(BI.own (EH a) ∗ BI.own (EP (F := F) b) ∗ ownU (emb w)) := by
  have h1 : (ownU ((a, (b, (w, 1))) : UU F) : sProp (MM F)) ⊢ iprop(BI.own (EH a) ∗ ownU ((1, (b, (w, 1))) : UU F)) :=
    BI.own_op_elim ((uEmb (nD := nD) (sig := sig) (Ix := HIx 1) (Val := Elt F) (Name := ℕ) (U := UU F) (Lvl := ℕ)).toEmb.op_of_mem
      (Prod.mk_mem_op (URA.mem_op_one a) (URA.mem_one_op _)))
  have h2 : (ownU ((1, (b, (w, 1))) : UU F) : sProp (MM F)) ⊢ iprop(BI.own (EP (F := F) b) ∗ ownU (emb w)) :=
    BI.own_op_elim ((uEmb (nD := nD) (sig := sig) (Ix := HIx 1) (Val := Elt F) (Name := ℕ) (U := UU F) (Lvl := ℕ)).toEmb.op_of_mem
      (Prod.mk_mem_op (URA.mem_op_one 1) (Prod.mk_mem_op (URA.mem_op_one b) (URA.mem_one_op _))))
  iintro H
  ihave H' := h1 $$ H
  icases H' with ⟨Ha, H⟩
  ihave H' := h2 $$ H
  isplitl [Ha] <;> iassumption

/-- The launch element: the handshakes' rounds, the pipeline's rounds, and the write mode's. -/
def u₀ : UU F :=
  (initOf (K (F := F)).hsCells (K (F := F)).hsToks,
    (initOf (Pipeline.cells (Pipeline.pin (pcfgs (F := F)) adm) cellOf_inj) (Pipeline.launchToks (Pipeline.pin (pcfgs (F := F)) adm) cellOf_inj),
      (wm₀ nD τ sig (Elt F), 1)))

omit [FloatOps F] [∀ e, Nonempty (Elt F e)] in
/-- The pipeline's ghost state, device by device. -/
theorem pipe_ghost : (BI.own (EP (F := F) (initOf (Pipeline.cells (Pipeline.pin (pcfgs (F := F)) adm) cellOf_inj) (Pipeline.launchToks (Pipeline.pin (pcfgs (F := F)) adm) cellOf_inj))) : sProp (MM F))
    ⊢ iprop(|==> bigSep Finset.univ fun d : Dev nD => G (F := F) d) := by
  have h := Pipeline.fund_ghost (Pipeline.pin (pcfgs (F := F)) adm) (EP (F := F)) cellOf_inj
  have e : (bigSep Finset.univ fun d : Dev nD => G (F := F) d)
      = iprop((bigSep Finset.univ fun d : Dev nD => bigSep Finset.univ fun p : Fin 1 => Pipeline.cellsGhost (Pipeline.pin (pcfgs (F := F)) adm) (EP (F := F)) p d)
        ∗ bigSep Finset.univ fun d : Dev nD => bigSep Finset.univ fun p : Fin 1 => (Pipeline.toksInit (Pipeline.pin (pcfgs (F := F)) adm) (EP (F := F)) p d : sProp (MM F))) := by
    rw [← bigSep_sep']
    refine BI.bigSep_congr fun d _ => ?_
    unfold G
    exact congrArg₂ BI.sep
      (bigSep_univ_of_subsingleton (Φ := fun p : Fin 1 => (Pipeline.cellsGhost (Pipeline.pin (pcfgs (F := F)) adm) (EP (F := F)) p d : sProp (MM F))) (0 : Fin 1)).symm
      (bigSep_univ_of_subsingleton (Φ := fun p : Fin 1 => (Pipeline.toksInit (Pipeline.pin (pcfgs (F := F)) adm) (EP (F := F)) p d : sProp (MM F))) (0 : Fin 1)).symm
  rw [e]
  exact h

include ρ in
omit [∀ e, Nonempty (Elt F e)] in
/-- The launch element gives the handshakes' rounds, each device's pipeline state, and every thread the write mode's invariant. -/
theorem hu₀ : (ownU (u₀ (F := F)) : sProp (MM F))
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P (scAt (M₀ m))).x q thr) := by
  unfold u₀
  iintro Hu
  ihave H := (ownU_parts _ _ _) $$ Hu
  icases H with ⟨HH, HP, HW⟩
  imod pipe_ghost $$ HP with HG
  imod (wmInv_alloc (emb := emb (F := F)) (Ix := HIx 1) (Name := ℕ) (Lvl := ℕ) ⟨m, fun _ => 0, ρ⟩) $$ HW with HI
  icases HI with ⟨%ιwm, -, #HI⟩
  imodintro
  isplitl [HH]; · iexact HH
  isplitl [HG]; · iexact HG
  have hx : (wmInv (emb (F := F)) ιwm : sProp (MM F)) ⊢ bigSep Finset.univ fun thr : Thread nD τ => bigSep Finset.univ fun q : Fin 1 => (P (scAt (M₀ m))).x q thr :=
    bigSep_intro_persistent fun thr _ => bigSep_intro_persistent fun q _ => by
      show _ ⊢ iprop(∃ ιwm, wmInv (emb (F := F)) ιwm)
      exact exists_intro ιwm
  iapply hx
  iexact HI

/-! ## The run -/

/-- What the final memory of device `d` is to hold. -/
def fq (d : Dev nD) (s' : Phys nD τ sig (Elt F)) : Prop :=
  s'.mem.mem (d, tcBuf main_v15) = wantOf (M₀ m d) ∧ ∀ b ∈ argRefs, s'.mem.mem (d, tcBuf b) = m (d, tcBuf b)

theorem result_host {b : Ref sig .tc} (h : b.isScoped = false) : tcBuf b ∈ hostRefs :=
  Finset.mem_filter.mpr ⟨Finset.mem_map_of_mem _ (Finset.mem_univ _), fun h' => Bool.false_ne_true (h.symm.trans h')⟩

omit [∀ e, Nonempty (Elt F e)] in
theorem hfin (d : Dev nD) (s' : Phys nD τ sig (Elt F)) : iprop(FIN m d ∗ SI s') ⊢ (⌜fq m d s'⌝ : sProp (MM F)) := by
  unfold FIN held
  iintro ⟨⟨%W, %hW, Hbufs⟩, HSI⟩
  ihave H := (SI_pointsTo_bufs_agree (st := s') (c := d) (qs := fun _ => fullShare) (F := W) hostRefs) $$ [HSI Hbufs]
  · isplitl [HSI]; · iexact HSI
    iexact Hbufs
  icases H with %h
  ipureintro
  refine ⟨(h _ (result_host rfl)).trans hW.1, fun b hb => (h _ (result_host ?_)).trans (hW.2 b hb)⟩
  exact (show ∀ b ∈ argRefs, b.isScoped = false by decide) b hb

/-- What the run is to end with: on every device the result the arguments call for, the arguments as launched, and every
    semaphore at zero. -/
def QC : PUnit × MemSt nD τ sig (Elt F) → Prop := fun r =>
  (∀ d : Dev nD, r.2.mem (d, tcBuf main_v15) = wantOf (M₀ m d) ∧ ∀ b ∈ argRefs, r.2.mem (d, tcBuf b) = m (d, tcBuf b)) ∧ r.2.sem = fun _ => 0

/-- **The kernel's run**: with no segment longer than 384, every fair run ends as `QC` says. -/
theorem run_main (hM : ∀ d, Short (M₀ m d)) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (scAt (M₀ m))) (A := ∅) facts v₀
    (fun q hq => match q with | 0 => nomatch hq)
    (fun q _ => match q with | 0 => tileObl (scAt (M₀ m)) fun d => data_ok (hM d))
    (fun q _ => match q with | 0 => SparseCore.Cfg.VecSplit.of_plain (vecSplit (scAt (M₀ m))))
    m ρ main (fun d => G (F := F) d) (FIN m) (u₀ (F := F)) (sep_elim_left.trans (hu₀ m ρ)) (hmain m ρ hM) (fq m) (hfin m) (QC m) (fun _ h hz => ⟨h, hz⟩)

end Launch

end Cert.Proof.Pack

end
-- ==== Proof.Ref.lean ====
/-
  The reference's result, read at an index: every row packed.
-/
module

public import proofs.«01_k».proof.Proof.Want
public import proofs.«01_k».proof.Proof.Turn
public import proofs.«01_k».proof.Proof.Gen.ReferenceIdeal.Run
public import Idealize.ShloMosaic.Lib.Pointwise

@[expose] public section

noncomputable section

namespace Cert.Proof.Reference

open Cert.ReferenceIdeal Cert.ReferenceIdeal.Gen
open Idealize.ShloMosaic Idealize.ShloMosaic.TcCoe
open Cert.Proof.Pack (packed cut lenOf rowsOf want cut_le cut_eq select_ofBool eq_small sle_small slt_small lenOf_eq rowsOf_eq)

/-! ## The parts the result is composed of -/

/-- A constant over the result's elements. -/
abbrev fill (n : BitVec 32) : IVec S4096x512 32 := broadcastInDim S4096x512 ![] bcast_S_S4096x512 (constantI S_ 32 n)

/-- The column numbers, as one row, -/
abbrev colRow : IVec S1x512 32 := broadcastInDim S1x512 ![1] bcast_S512_S1x512_1 (iotaInDim S512 32 0)

/-- and a row spread over the rows. -/
abbrev overRows {w : ℕ} (x : IVec S1x512 w) : IVec S4096x512 w := broadcastInDim S4096x512 ![0, 1] bcast_S1x512_S4096x512_0_1 x

/-- One number per row, as a column, -/
abbrev asCol (x : IVec S4096 32) : IVec S4096x1 32 := broadcastInDim S4096x1 ![0] bcast_S4096_S4096x1_0 x

/-- and a column spread over the columns. -/
abbrev overCols (x : IVec S4096x1 32) : IVec S4096x512 32 := broadcastInDim S4096x512 ![0, 1] bcast_S4096x1_S4096x512_0_1 x

/-- A constant column. -/
abbrev colFill (n : BitVec 32) : IVec S4096x1 32 := broadcastInDim S4096x1 ![] bcast_S_S4096x1 (constantI S_ 32 n)

/-- How many of its tokens a segment keeps, beside one of lengths `b`. -/
def kept (a b : IVec S4096 32) : IVec S4096 32 :=
  minsi a (maxsi (broadcastInDim S4096 ![] bcast_S_S4096 (constantI S_ 32 254#32)) (subi (broadcastInDim S4096 ![] bcast_S_S4096 (constantI S_ 32 508#32)) b))

/-- Negative positions counted from the end. -/
def wrapped (v : IVec S4096x512 32) : IVec S4096x512x1 32 :=
  shapeCast S4096x512x1 (select (cmpi .slt v (fill 0#32)) (addi v (fill 384#32)) v) shapeCasts_S4096x512_S4096x512x1

/-- The element of `x` at the position `v` names, row by row, where that is one of its columns. -/
def taken (x : IVec S4096x384 32) (v : IVec S4096x512 32) : IVec S4096x512 32 :=
  select (Host.reduce IntOp.andi (andi (cmpi .sge (wrapped v) (broadcastInDim S4096x512x1 ![] bcast_S_S4096x512x1 (constantI S_ 32 0#32)))
      (cmpi .sle (wrapped v) (broadcastInDim S4096x512x1 ![0, 1, 2] bcast_S1x1x1_S4096x512x1_0_1_2 (broadcastInDim S1x1x1 ![2] bcast_S1_S1x1x1_2 (constantI S1 32 383#32)))))
      (constantI S_ 1 1#1) reducesTo_S4096x512x1_S4096x512_d2 h_S_)
    (Host.gather gather_S4096x384_S4096x512x1_S4096x512_n_1_0_0_1_2_11 x (wrapped v)) (fill 2147483648#32)

/-- The position in the first segment, -/
def at0 : IVec S4096x512 32 :=
  overRows (minsi (broadcastInDim S1x512 ![] bcast_S_S1x512 (id (constantI S_ 32 383#32))) (maxsi (broadcastInDim S1x512 ![] bcast_S_S1x512 (id (constantI S_ 32 0#32)))
    (subi colRow (broadcastInDim S1x512 ![] bcast_S_S1x512 (constantI S_ 32 1#32)))))

/-- and in the second, which starts at `s`. -/
def at1 (s : IVec S4096x1 32) : IVec S4096x512 32 :=
  minsi (broadcastInDim S4096x512 ![] bcast_S_S4096x512 (id (constantI S_ 32 383#32))) (maxsi (broadcastInDim S4096x512 ![] bcast_S_S4096x512 (id (constantI S_ 32 0#32)))
    (subi (overRows colRow) (overCols s)))

/-- The result, from the arguments. -/
def result (A B : IVec S4096x384 32) (a b : IVec S4096 32) : IVec S4096x512 32 :=
  select (overRows (cmpi .eq colRow (broadcastInDim S1x512 ![] bcast_S_S1x512 (constantI S_ 32 0#32)))) (fill 0#32)
    (select (andi (overRows (cmpi .sge colRow (broadcastInDim S1x512 ![] bcast_S_S1x512 (constantI S_ 32 1#32)))) (cmpi .sle (overRows colRow) (overCols (asCol (kept a b)))))
      (taken A at0)
      (select (ori (cmpi .eq (overRows colRow) (overCols (addi (asCol (kept a b)) (colFill 1#32)))) (cmpi .eq (overRows colRow) (overCols (addi (asCol (kept a b)) (colFill 2#32)))))
        (fill 2#32)
        (select (andi (cmpi .sge (overRows colRow) (overCols (addi (asCol (kept a b)) (colFill 3#32))))
            (cmpi .slt (overRows colRow) (overCols (addi (addi (asCol (kept a b)) (colFill 3#32)) (asCol (kept b a))))))
          (taken B (at1 (addi (asCol (kept a b)) (colFill 3#32))))
          (select (cmpi .eq (overRows colRow) (overCols (addi (addi (asCol (kept a b)) (colFill 3#32)) (asCol (kept b a))))) (fill 2#32) (fill 1#32)))))

/-- The reference's result is that. -/
theorem out_eq {F : FTy → Type} [FloatOps F] (m : (ℓ : Loc nD τ sig) → Buf (Elt F) ℓ) (c : Dev nD) :
    Value.res_out0 m c = result (m ((c.tc : Thread nD τ).loc main_arg0)) (m ((c.tc : Thread nD τ).loc main_arg1))
      (m ((c.tc : Thread nD τ).loc main_arg2)) (m ((c.tc : Thread nD τ).loc main_arg3)) := rfl

/-! ## The parts at an index -/

/-- The column number of an element -/
theorem col_apply (i : S4096x512.Idx) : overRows colRow i = BitVec.ofNat 32 (i 1).val := by
  pointwise

/-- and the number of its row. -/
theorem row_apply (k : IVec S4096 32) (i : S4096x512.Idx) : overCols (asCol k) i = k (ix1 (i 0)) := by
  pointwise

/-- A position with a negative one counted from the end. -/
theorem wrapped_apply (v : IVec S4096x512 32) (y : S4096x512x1.Idx) :
    wrapped v y = Scalar.select (IntOp.cmpi .slt (v (ix2 (y 0) (y 1))) 0#32) (v (ix2 (y 0) (y 1)) + 384#32) (v (ix2 (y 0) (y 1))) := by
  unfold wrapped
  pointwise
  rfl

/-- A conjunction over an axis of size one is its one element. -/
theorem only_apply (g : IVec S4096x512x1 1) (i : S4096x512.Idx) :
    Host.reduce IntOp.andi g (constantI S_ 1 1#1) reducesTo_S4096x512x1_S4096x512_d2 h_S_ i = g (ix3 (i 0) (i 1) 0) := by
  pointwise
  rw [Finset.univ_unique, Finset.fold_singleton]
  exact BitVec.and_allOnes (x := g _)

/-- The gather's dimensions: the rows are walked together, and an index names a column. -/
abbrev dims : GatherDims S4096x384 S4096x512x1 S4096x512 := gather_S4096x384_S4096x512x1_S4096x512_n_1_0_0_1_2_11

/-- No axis of the gather is an offset axis, -/
theorem no_offset (i : S4096x512.Idx) (a : Fin 2) : dims.offCoord i a = 0 :=
  GatherDims.offCoord_eq_zero _ _ _ fun h => match a, h with
    | 0, h => ((GatherDims.mem_sKept _ _).mp h).2 (List.mem_singleton.mpr rfl)
    | 1, h => ((GatherDims.mem_sKept _ _).mp h).1 (List.mem_singleton.mpr rfl)

/-- the operand's row is the element's, -/
theorem row_coord (i : S4096x512.Idx) : dims.batchCoord i (0 : Fin 2) = (i 0).val := by
  unfold GatherDims.batchCoord
  exact (dif_pos (List.mem_singleton.mpr rfl)).trans rfl

/-- and its column the index's, brought inside. -/
theorem col_coord (i : S4096x512.Idx) (v : IVec S4096x512x1 32) : dims.start i v (1 : Fin 2) = min (v (ix3 (i 0) (i 1) 0)).toInt.toNat 383 := by
  have e (k : Fin dims.startIndexMap.length) : dims.siIdx i k = ix3 (i 0) (i 1) 0 := funext fun b => match b with
    | ⟨0, _⟩ => Fin.ext rfl
    | ⟨1, _⟩ => Fin.ext rfl
    | ⟨2, _⟩ => Subsingleton.elim (α := Fin 1) _ _
  unfold GatherDims.start
  refine (dif_pos (List.mem_singleton.mpr rfl)).trans ?_
  rw [e]
  rfl

/-- The gather reads, in the element's own row, the column its index names. -/
theorem gather_apply (x : IVec S4096x384 32) (v : IVec S4096x512x1 32) (i : S4096x512.Idx) :
    Host.gather gather_S4096x384_S4096x512x1_S4096x512_n_1_0_0_1_2_11 x v i
      = x (ix2 (i 0) ⟨min (v (ix3 (i 0) (i 1) 0)).toInt.toNat 383, by omega⟩) := by
  unfold Host.gather
  refine congrArg x (funext fun a => Fin.ext ?_)
  show dims.start i v a + dims.batchCoord i a + dims.offCoord i a = _
  rw [no_offset, Nat.add_zero]
  match a with
  | ⟨0, _⟩ => exact (congrArg₂ (· + ·) (GatherDims.start_batching dims i v _ (List.mem_singleton.mpr rfl)) (row_coord i)).trans (Nat.zero_add _)
  | ⟨1, _⟩ => exact congrArg₂ (· + ·) (col_coord i v) (GatherDims.batchCoord_eq_zero dims i _ (show ¬ (1 : Fin 2) ∈ [(0 : Fin 2)] by decide))

/-- Where the position is a column's number, that column's element is taken. -/
theorem taken_apply (x : IVec S4096x384 32) (v : IVec S4096x512 32) (i : S4096x512.Idx) {k : ℕ} (hk : k < 384) (hv : v i = BitVec.ofNat 32 k) :
    taken x v i = rowsOf x (i 0).val k := by
  have hw : wrapped v (ix3 (i 0) (i 1) 0) = BitVec.ofNat 32 k := by
    rw [wrapped_apply]
    have hi : v (ix2 ((ix3 (i 0) (i 1) (0 : Fin 1) : S4096x512x1.Idx) 0) ((ix3 (i 0) (i 1) (0 : Fin 1) : S4096x512x1.Idx) 1)) = BitVec.ofNat 32 k :=
      (congrArg v (eq_ix2 i).symm).trans hv
    rw [hi, show (0#32) = BitVec.ofNat 32 0 from rfl, slt_small (by omega) (by omega), select_ofBool]
    rfl
  have hin : Host.reduce IntOp.andi (andi (cmpi .sge (wrapped v) (broadcastInDim S4096x512x1 ![] bcast_S_S4096x512x1 (constantI S_ 32 0#32)))
      (cmpi .sle (wrapped v) (broadcastInDim S4096x512x1 ![0, 1, 2] bcast_S1x1x1_S4096x512x1_0_1_2 (broadcastInDim S1x1x1 ![2] bcast_S1_S1x1x1_2 (constantI S1 32 383#32)))))
      (constantI S_ 1 1#1) reducesTo_S4096x512x1_S4096x512_d2 h_S_ i = 1#1 := by
    rw [only_apply]
    show IntOp.cmpi .sle 0#32 (wrapped v (ix3 (i 0) (i 1) 0)) &&& IntOp.cmpi .sle (wrapped v (ix3 (i 0) (i 1) 0)) 383#32 = 1#1
    rw [hw, show (0#32) = BitVec.ofNat 32 0 from rfl, show (383#32) = BitVec.ofNat 32 383 from rfl, sle_small (by omega) (by omega), sle_small (by omega) (by omega),
      decide_eq_true (Nat.zero_le k), decide_eq_true (show k ≤ 383 by omega)]
    rfl
  unfold taken
  show Scalar.select (Host.reduce IntOp.andi _ _ _ _ i) (Host.gather _ x (wrapped v) i) _ = _
  rw [hin, gather_apply]
  refine (if_pos rfl).trans (rowsOf_eq x _ rfl ?_)
  show min (wrapped v (ix3 (i 0) (i 1) 0)).toInt.toNat 383 = k
  rw [hw]
  rw [BitVec.toInt_eq_toNat_cond, BitVec.toNat_ofNat, Nat.mod_eq_of_lt (by omega), if_pos (by omega)]
  omega

/-- A position of a segment that starts at `s`, read off a column of the result that lies in it. -/
theorem back_eq {j s : ℕ} (hj : j < 512) (hs : s ≤ j) (h : j - s < 384) :
    IntOp.minsi 383#32 (IntOp.maxsi 0#32 (BitVec.ofNat 32 j - BitVec.ofNat 32 s)) = BitVec.ofNat 32 (j - s) := by
  have e : BitVec.ofNat 32 j - BitVec.ofNat 32 s = BitVec.ofNat 32 (j - s) := by
    apply BitVec.eq_of_toNat_eq
    simp only [BitVec.toNat_sub, BitVec.toNat_ofNat]; omega
  rw [e]
  generalize j - s = k at h
  have e2 : IntOp.maxsi 0#32 (BitVec.ofNat 32 k) = BitVec.ofNat 32 k := by
    unfold IntOp.maxsi
    simp only [BitVec.slt_eq_decide, BitVec.toInt_eq_toNat_cond, BitVec.toNat_ofNat, decide_eq_true_eq]
    split_ifs <;> first | omega | rfl | (congr 1; omega)
  rw [e2]
  unfold IntOp.minsi
  simp only [BitVec.slt_eq_decide, BitVec.toInt_eq_toNat_cond, BitVec.toNat_ofNat, decide_eq_true_eq]
  split_ifs <;> first | omega | rfl | (congr 1; omega)

/-! ## The result -/

/-- How many tokens are kept, at a row of short segments. -/
theorem kept_apply (a b : IVec S4096 32) (r : Fin 4096) (ha : lenOf a r ≤ 384) (hb : lenOf b r ≤ 384) :
    kept a b (ix1 r) = BitVec.ofNat 32 (cut (lenOf a r) (lenOf b r)) := by
  show IntOp.minsi (a (ix1 r)) (IntOp.maxsi 254#32 (508#32 - b (ix1 r))) = _
  rw [lenOf_eq a (ix1 r) rfl, lenOf_eq b (ix1 r) rfl]
  exact cut_eq ha hb

/-- **The reference's result**: with no segment longer than 384, every row packed. -/
theorem result_eq (A B : IVec S4096x384 32) (a b : IVec S4096 32) (h : ∀ r, lenOf a r ≤ 384 ∧ lenOf b r ≤ 384) : result A B a b = want A B a b := by
  funext i
  have hj : (i 1).val < 512 := (i 1).isLt
  obtain ⟨ha, hb⟩ := h (i 0).val
  have hk0 := cut_le (lenOf a (i 0).val) (lenOf b (i 0).val)
  have hk1 := cut_le (lenOf b (i 0).val) (lenOf a (i 0).val)
  have e0 : overCols (asCol (kept a b)) i = BitVec.ofNat 32 (cut (lenOf a (i 0).val) (lenOf b (i 0).val)) := (row_apply _ i).trans (kept_apply a b (i 0) ha hb)
  have e1 : overCols (asCol (kept b a)) i = BitVec.ofNat 32 (cut (lenOf b (i 0).val) (lenOf a (i 0).val)) := (row_apply _ i).trans (kept_apply b a (i 0) hb ha)
  have es (n : ℕ) : overCols (addi (asCol (kept a b)) (colFill (BitVec.ofNat 32 n))) i = BitVec.ofNat 32 (cut (lenOf a (i 0).val) (lenOf b (i 0).val) + n) := by
    show overCols (asCol (kept a b)) i + BitVec.ofNat 32 n = _
    rw [e0, BitVec.ofNat_add]
  have e3 : overCols (addi (addi (asCol (kept a b)) (colFill 3#32)) (asCol (kept b a))) i
      = BitVec.ofNat 32 (cut (lenOf a (i 0).val) (lenOf b (i 0).val) + 3 + cut (lenOf b (i 0).val) (lenOf a (i 0).val)) := by
    show overCols (addi (asCol (kept a b)) (colFill 3#32)) i + overCols (asCol (kept b a)) i = _
    rw [es 3, e1, ← BitVec.ofNat_add]
  show Scalar.select (IntOp.cmpi .eq (overRows colRow i) 0#32) 0#32
    (Scalar.select (IntOp.cmpi .sle 1#32 (overRows colRow i) &&& IntOp.cmpi .sle (overRows colRow i) (overCols (asCol (kept a b)) i)) (taken A at0 i)
      (Scalar.select (IntOp.cmpi .eq (overRows colRow i) (overCols (addi (asCol (kept a b)) (colFill (BitVec.ofNat 32 1))) i)
          ||| IntOp.cmpi .eq (overRows colRow i) (overCols (addi (asCol (kept a b)) (colFill (BitVec.ofNat 32 2))) i)) 2#32
        (Scalar.select (IntOp.cmpi .sle (overCols (addi (asCol (kept a b)) (colFill (BitVec.ofNat 32 3))) i) (overRows colRow i)
            &&& IntOp.cmpi .slt (overRows colRow i) (overCols (addi (addi (asCol (kept a b)) (colFill 3#32)) (asCol (kept b a))) i))
          (taken B (at1 (addi (asCol (kept a b)) (colFill 3#32))) i)
          (Scalar.select (IntOp.cmpi .eq (overRows colRow i) (overCols (addi (addi (asCol (kept a b)) (colFill 3#32)) (asCol (kept b a))) i)) 2#32 1#32))))
    = packed (lenOf a (i 0).val) (lenOf b (i 0).val) (rowsOf A (i 0).val) (rowsOf B (i 0).val) (i 1).val
  have t0 (h0 : 1 ≤ (i 1).val) (h1 : (i 1).val - 1 < 384) : taken A at0 i = rowsOf A (i 0).val ((i 1).val - 1) := by
    refine taken_apply A _ i h1 ?_
    show IntOp.minsi 383#32 (IntOp.maxsi 0#32 (overRows colRow i - BitVec.ofNat 32 1)) = _
    rw [col_apply]
    exact back_eq hj h0 h1
  have t1 (h0 : cut (lenOf a (i 0).val) (lenOf b (i 0).val) + 3 ≤ (i 1).val) (h1 : (i 1).val - (cut (lenOf a (i 0).val) (lenOf b (i 0).val) + 3) < 384) :
      taken B (at1 (addi (asCol (kept a b)) (colFill 3#32))) i = rowsOf B (i 0).val ((i 1).val - (cut (lenOf a (i 0).val) (lenOf b (i 0).val) + 3)) := by
    refine taken_apply B _ i h1 ?_
    show IntOp.minsi 383#32 (IntOp.maxsi 0#32 (overRows colRow i - overCols (addi (asCol (kept a b)) (colFill (BitVec.ofNat 32 3))) i)) = _
    rw [col_apply, es 3]
    exact back_eq hj h0 h1
  rw [e3, es 1, es 2, es 3, e0, col_apply]
  unfold packed
  generalize taken A at0 i = u at t0 ⊢
  generalize taken B (at1 (addi (asCol (kept a b)) (colFill 3#32))) i = w at t1 ⊢
  clear e0 e1 es e3
  generalize (i 1).val = j at hj t0 t1 ⊢
  generalize cut (lenOf a (i 0).val) (lenOf b (i 0).val) = p at hk0 t0 t1 ⊢
  generalize cut (lenOf b (i 0).val) (lenOf a (i 0).val) = q at hk1 ⊢
  rw [eq_small hj (by omega), sle_small (by omega) (by omega), sle_small hj (by omega), eq_small hj (by omega), eq_small hj (by omega),
    sle_small (by omega) (by omega), slt_small hj (by omega), eq_small hj (by omega)]
  simp only [BitVec.ofBool_and_ofBool, BitVec.ofBool_or_ofBool, select_ofBool, Bool.and_eq_true, Bool.or_eq_true, decide_eq_true_eq]
  by_cases c0 : j = 0
  · rw [if_pos c0, if_pos c0]
  rw [if_neg c0, if_neg c0]
  by_cases c1 : j ≤ p
  · rw [if_pos ⟨by omega, c1⟩, if_pos c1, t0 (by omega) (by omega)]
  rw [if_neg fun k => c1 k.2, if_neg c1]
  by_cases c2 : j < p + 3
  · rw [if_pos (by omega), if_pos c2]
  rw [if_neg (by omega), if_neg c2]
  by_cases c3 : j < p + 3 + q
  · rw [if_pos ⟨by omega, c3⟩, if_pos c3, t1 (by omega) (by omega)]
  rw [if_neg fun k => c3 k.2, if_neg c3]

end Cert.Proof.Reference

end
-- ==== Proof.Short.lean ====
/-
  What the precondition says: no segment is longer than 384.
-/
module

public import proofs.«01_k».proof.Proof.Want
public import proofs.«01_k».proof.Proof.Gen.Pre_lengths
public import Idealize.ShloMosaic.Lib.Pointwise

@[expose] public section

noncomputable section

namespace Cert.Proof.Lengths

open Cert.Pre_lengths Cert.Pre_lengths.Gen
open Idealize.ShloMosaic
open Cert.Proof.Pack (lenOf)

/-- A conjunction is true of bits that are all true. -/
theorem all_one {ι : Type} [DecidableEq ι] (f : ι → BitVec 1) (s : Finset ι) (h : Finset.fold IntOp.andi 1#1 f s = 1#1) : ∀ k ∈ s, f k = 1#1 := by
  induction s using Finset.induction_on with
  | empty => exact fun k hk => nomatch Finset.notMem_empty k hk
  | insert a s ha ih =>
    rw [Finset.fold_insert ha] at h
    obtain ⟨h1, h2⟩ := IntOp.andi_eq_one.mp h
    intro k hk
    rcases Finset.mem_insert.mp hk with rfl | hk
    · exact h1
    · exact ih h2 k hk

/-- A length the precondition's comparisons hold of is at most 384. -/
theorem len_le (l : IVec S4096 32) (z : S_.Idx)
    (h : Host.reduce IntOp.andi (andi (cmpi .sge l (broadcastInDim S4096 ![] bcast_S_S4096 (constantI S_ 32 0#32)))
      (cmpi .slt l (broadcastInDim S4096 ![] bcast_S_S4096 (constantI S_ 32 385#32)))) (constantI S_ 1 1#1) reducesTo_S4096_S_d0 h_S_ z = 1#1) (r : ℕ) :
    lenOf l r ≤ 384 := by
  unfold lenOf
  split
  case isFalse => exact Nat.zero_le _
  case isTrue hr =>
    have e (g : IVec S4096 1) : Host.reduce IntOp.andi g (constantI S_ 1 1#1) reducesTo_S4096_S_d0 h_S_ z
        = Finset.fold IntOp.andi 1#1 (fun k : Fin 4096 => g (ix1 k)) Finset.univ := by pointwise
    rw [e] at h
    have h2 : IntOp.andi (IntOp.cmpi .sle 0#32 (l (ix1 ⟨r, hr⟩))) (IntOp.cmpi .slt (l (ix1 ⟨r, hr⟩)) 385#32) = 1#1 := all_one _ _ h ⟨r, hr⟩ (Finset.mem_univ _)
    obtain ⟨h3, h4⟩ := IntOp.andi_eq_one.mp h2
    generalize l (ix1 ⟨r, hr⟩) = x at h3 h4
    have one (p : Bool) : BitVec.ofBool p = 1#1 → p = true := by cases p <;> decide
    have h5 := one _ h3
    have h6 := one _ h4
    simp only [BitVec.sle_eq_decide, BitVec.slt_eq_decide, decide_eq_true_eq, BitVec.toInt_eq_toNat_cond, BitVec.toNat_ofNat, Nat.reducePow, Nat.reduceMod] at h5 h6
    omega

/-- **No segment is longer than 384**, where the precondition holds. -/
theorem short {F : FTy → Type} [FloatOps F] (A B : IVec S4096x384 32) (a b : IVec S4096 32) (h : fn (F := F) A B a b = fun _ => 1#1) :
    ∀ r, lenOf a r ≤ 384 ∧ lenOf b r ≤ 384 := by
  have e := congrFun h fun k => Fin.elim0 k
  obtain ⟨h1, h2⟩ := IntOp.andi_eq_one.mp e
  exact fun r => ⟨len_le a _ h1 r, len_le b _ h2 r⟩

end Cert.Proof.Lengths

end
-- ==== Proof.lean ====
/-
  The proof of `Cert.Claim`: the kernel's run (Proof/Main.lean), at the bit-level values and at the ideal ones, the
  reference's (Proof/Ref.lean), and their equal results. The precondition enters as the lengths' bound (Proof/Short.lean).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_lengths
public import proofs.«01_k».proof.Proof.Main
public import proofs.«01_k».proof.Proof.Ref
public import proofs.«01_k».proof.Proof.Short

@[expose] public section

noncomputable section

namespace Cert.Proof

open Idealize.ShloMosaic Idealize.SL.Sem Cert.Kernel

/-- The kernel's four arguments end as they were: the run's account of them, one by one. -/
theorem args_kept {F : FTy → Type} [FloatOps F] {m : (ℓ : Loc Cert.KernelIdeal.nD Cert.KernelIdeal.τ Cert.KernelIdeal.sig) → Buf (Elt F) ℓ}
    {r : PUnit × MemSt Cert.KernelIdeal.nD Cert.KernelIdeal.τ Cert.KernelIdeal.sig (Elt F)} (h : Pack.QC m r) (c : Dev Cert.KernelIdeal.nD) :
    r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3) :=
  have k := (h.1 c).2
  ⟨k _ (by simp [Pack.argRefs]), k _ (by simp [Pack.argRefs]), k _ (by simp [Pack.argRefs]), k _ (by simp [Pack.argRefs])⟩

/-- The kernel runs, keeps its arguments, and leaves every semaphore at zero, whatever the float values are. -/
theorem frame {F : FTy → Type} [FloatOps F] [∀ e, Nonempty (Elt F e)] (m : (ℓ : Loc Cert.KernelIdeal.nD Cert.KernelIdeal.τ Cert.KernelIdeal.sig) → Buf (Elt F) ℓ)
    (ρ : Dev Cert.KernelIdeal.nD → PrngReg) (hM : ∀ d, Pack.Short (Pack.M₀ m d)) :
    θ_run (Cert.KernelIdeal.defs (F := F)) (Cert.KernelIdeal.threads (F := F)) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0) :=
  (θ_run Cert.KernelIdeal.defs _ _).mono (fun _ h => ⟨fun c => args_kept h c, h.2⟩) (Pack.run_main m ρ hM)

/-- The program printed for the bit-level values has the same bodies as the one printed for the ideal values, -/
theorem bodies_same : Cert.Kernel.defs₀ (F := Bits) = Cert.KernelIdeal.defs₀ (F := Bits) := by
  funext p ℓ a
  match p, ℓ, a with
  | .tc, (0 : Fin 2), _ => rfl
  | .tc, (1 : Fin 2), (_, _) => rfl
  | .scScalar _, (0 : Fin 2), _ => rfl
  | .scScalar _, (1 : Fin 2), _ => rfl
  | .scVector _ _, (0 : Fin 2), _ => rfl
  | .scVector _ _, (1 : Fin 2), _ => rfl

/-- and so the same definitions. -/
theorem defs_same : Cert.Kernel.defs (F := Bits) = Cert.KernelIdeal.defs (F := Bits) :=
  congrArg (fun D => (Cert.KernelIdeal.sc (F := Bits)).defs (Pipeline.defs Cert.KernelIdeal.pcfgs D)) bodies_same

/-- So it is at the bit-level values, -/
theorem frame_kernel : Cert.quiescent_Kernel := by
  intro m ρ hpre
  have h := frame (F := Bits) m ρ fun d => Lengths.short (F := Bits) _ _ _ _ (hpre d)
  rw [← defs_same] at h
  exact h

/-- and at the ideal values. -/
theorem frame_ideal : Cert.quiescent_KernelIdeal := fun m ρ hpre =>
  frame (F := Ideal) m ρ fun d => Lengths.short (F := Ideal) _ _ _ _ (hpre d)

/-- And the reference, which has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- **The kernel's result is the reference's**: both are every row packed. -/
theorem same : Cert.algebraic_KernelIdeal_ReferenceIdeal := by
  intro m ρ m' ρ' hpre hargs
  have hs (d : Dev Cert.KernelIdeal.nD) := Lengths.short (F := Ideal) _ _ _ _ (hpre d)
  refine ⟨fun c => Pack.wantOf (Pack.M₀ m c), (θ_run Cert.KernelIdeal.defs _ _).mono (fun _ h c => ⟨(h.1 c).1, args_kept (F := Ideal) h c⟩)
    (Pack.run_main (F := Ideal) m ρ hs), ?_⟩
  refine (θ_run Cert.ReferenceIdeal.defs _ _).mono (fun r h c => ⟨(h c).1.trans ?_, (h c).2⟩) (Cert.ReferenceIdeal.Value.run (F := Ideal) m' ρ')
  obtain ⟨e0, e1, e2, e3⟩ := hargs c
  refine (Reference.out_eq m' c).trans ?_
  rw [e0, e1, e2, e3]
  exact Reference.result_eq _ _ _ _ (hs c)

theorem claim : Cert.Claim := ⟨Cert.Kernel.Gen.facts, Cert.KernelIdeal.Gen.facts, Cert.ReferenceIdeal.Gen.facts, Cert.Pre_lengths.Gen.facts,
  frame_kernel, frame_ideal, frame_reference, trivial, same⟩

end Cert.Proof

end
